-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Node (m : (ℓ : Loc Cert.Node.nD Cert.Node.τ Cert.Node.sig) → Buf (Elt Bits) ℓ) : Prop :=
  True

def Pre_NodeIdeal (m : (ℓ : Loc Cert.NodeIdeal.nD Cert.NodeIdeal.τ Cert.NodeIdeal.sig) → Buf (Elt Ideal) ℓ) : Prop :=
  True

def Pre_NodeReferenceIdeal (m : (ℓ : Loc Cert.NodeReferenceIdeal.nD Cert.NodeReferenceIdeal.τ Cert.NodeReferenceIdeal.sig) → Buf (Elt Ideal) ℓ) : Prop :=
  True

def Pre_Edge (m : (ℓ : Loc Cert.Edge.nD Cert.Edge.τ Cert.Edge.sig) → Buf (Elt Bits) ℓ) : Prop :=
  True

def Pre_EdgeIdeal (m : (ℓ : Loc Cert.EdgeIdeal.nD Cert.EdgeIdeal.τ Cert.EdgeIdeal.sig) → Buf (Elt Ideal) ℓ) : Prop :=
  True

def Pre_EdgeReferenceIdeal (m : (ℓ : Loc Cert.EdgeReferenceIdeal.nD Cert.EdgeReferenceIdeal.τ Cert.EdgeReferenceIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_types_in_range [hPre_types_in_range : Cert.Pre_types_in_range.Facts] (m : (ℓ : Loc Cert.PostIdeal.nD Cert.PostIdeal.τ Cert.PostIdeal.sig) → Buf (Elt Ideal) ℓ) : Prop :=
  ∀ c : Dev Cert.PostIdeal.nD,
    (Cert.Pre_types_in_range.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7))) = (fun _ => 1#1)

def Pre_PostReferenceIdeal (m : (ℓ : Loc Cert.PostReferenceIdeal.nD Cert.PostReferenceIdeal.τ Cert.PostReferenceIdeal.sig) → Buf (Elt Ideal) ℓ) : Prop :=
  True

def Pre_PostReferenceIdeal_types_in_range [hPre_types_in_range : Cert.Pre_types_in_range.Facts] (m : (ℓ : Loc Cert.PostReferenceIdeal.nD Cert.PostReferenceIdeal.τ Cert.PostReferenceIdeal.sig) → Buf (Elt Ideal) ℓ) : Prop :=
  ∀ c : Dev Cert.PostReferenceIdeal.nD,
    (Cert.Pre_types_in_range.fn (F := Ideal) (m ((c.tc : Thread Cert.PostReferenceIdeal.nD Cert.PostReferenceIdeal.τ).loc Cert.PostReferenceIdeal.main_arg0)) (m ((c.tc : Thread Cert.PostReferenceIdeal.nD Cert.PostReferenceIdeal.τ).loc Cert.PostReferenceIdeal.main_arg1)) (m ((c.tc : Thread Cert.PostReferenceIdeal.nD Cert.PostReferenceIdeal.τ).loc Cert.PostReferenceIdeal.main_arg2)) (m ((c.tc : Thread Cert.PostReferenceIdeal.nD Cert.PostReferenceIdeal.τ).loc Cert.PostReferenceIdeal.main_arg3)) (m ((c.tc : Thread Cert.PostReferenceIdeal.nD Cert.PostReferenceIdeal.τ).loc Cert.PostReferenceIdeal.main_arg4)) (m ((c.tc : Thread Cert.PostReferenceIdeal.nD Cert.PostReferenceIdeal.τ).loc Cert.PostReferenceIdeal.main_arg5)) (m ((c.tc : Thread Cert.PostReferenceIdeal.nD Cert.PostReferenceIdeal.τ).loc Cert.PostReferenceIdeal.main_arg6)) (m ((c.tc : Thread Cert.PostReferenceIdeal.nD Cert.PostReferenceIdeal.τ).loc Cert.PostReferenceIdeal.main_arg7))) = (fun _ => 1#1)

def Pre_Next (m : (ℓ : Loc Cert.Next.nD Cert.Next.τ Cert.Next.sig) → Buf (Elt Bits) ℓ) : Prop :=
  True

def Pre_NextIdeal (m : (ℓ : Loc Cert.NextIdeal.nD Cert.NextIdeal.τ Cert.NextIdeal.sig) → Buf (Elt Ideal) ℓ) : Prop :=
  True

def Pre_NextIdeal_types_in_range_next [hPre_types_in_range_next : Cert.Pre_types_in_range_next.Facts] (m : (ℓ : Loc Cert.NextIdeal.nD Cert.NextIdeal.τ Cert.NextIdeal.sig) → Buf (Elt Ideal) ℓ) : Prop :=
  ∀ c : Dev Cert.NextIdeal.nD,
    (Cert.Pre_types_in_range_next.fn (F := Ideal) (m ((c.tc : Thread Cert.NextIdeal.nD Cert.NextIdeal.τ).loc Cert.NextIdeal.main_arg0)) (m ((c.tc : Thread Cert.NextIdeal.nD Cert.NextIdeal.τ).loc Cert.NextIdeal.main_arg1)) (m ((c.tc : Thread Cert.NextIdeal.nD Cert.NextIdeal.τ).loc Cert.NextIdeal.main_arg2)) (m ((c.tc : Thread Cert.NextIdeal.nD Cert.NextIdeal.τ).loc Cert.NextIdeal.main_arg3)) (m ((c.tc : Thread Cert.NextIdeal.nD Cert.NextIdeal.τ).loc Cert.NextIdeal.main_arg4)) (m ((c.tc : Thread Cert.NextIdeal.nD Cert.NextIdeal.τ).loc Cert.NextIdeal.main_arg5)) (m ((c.tc : Thread Cert.NextIdeal.nD Cert.NextIdeal.τ).loc Cert.NextIdeal.main_arg6)) (m ((c.tc : Thread Cert.NextIdeal.nD Cert.NextIdeal.τ).loc Cert.NextIdeal.main_arg7)) (m ((c.tc : Thread Cert.NextIdeal.nD Cert.NextIdeal.τ).loc Cert.NextIdeal.main_arg8))) = (fun _ => 1#1)

def Pre_NextReferenceIdeal (m : (ℓ : Loc Cert.NextReferenceIdeal.nD Cert.NextReferenceIdeal.τ Cert.NextReferenceIdeal.sig) → Buf (Elt Ideal) ℓ) : Prop :=
  True

def Pre_NextReferenceIdeal_types_in_range_next [hPre_types_in_range_next : Cert.Pre_types_in_range_next.Facts] (m : (ℓ : Loc Cert.NextReferenceIdeal.nD Cert.NextReferenceIdeal.τ Cert.NextReferenceIdeal.sig) → Buf (Elt Ideal) ℓ) : Prop :=
  ∀ c : Dev Cert.NextReferenceIdeal.nD,
    (Cert.Pre_types_in_range_next.fn (F := Ideal) (m ((c.tc : Thread Cert.NextReferenceIdeal.nD Cert.NextReferenceIdeal.τ).loc Cert.NextReferenceIdeal.main_arg0)) (m ((c.tc : Thread Cert.NextReferenceIdeal.nD Cert.NextReferenceIdeal.τ).loc Cert.NextReferenceIdeal.main_arg1)) (m ((c.tc : Thread Cert.NextReferenceIdeal.nD Cert.NextReferenceIdeal.τ).loc Cert.NextReferenceIdeal.main_arg2)) (m ((c.tc : Thread Cert.NextReferenceIdeal.nD Cert.NextReferenceIdeal.τ).loc Cert.NextReferenceIdeal.main_arg3)) (m ((c.tc : Thread Cert.NextReferenceIdeal.nD Cert.NextReferenceIdeal.τ).loc Cert.NextReferenceIdeal.main_arg4)) (m ((c.tc : Thread Cert.NextReferenceIdeal.nD Cert.NextReferenceIdeal.τ).loc Cert.NextReferenceIdeal.main_arg5)) (m ((c.tc : Thread Cert.NextReferenceIdeal.nD Cert.NextReferenceIdeal.τ).loc Cert.NextReferenceIdeal.main_arg6)) (m ((c.tc : Thread Cert.NextReferenceIdeal.nD Cert.NextReferenceIdeal.τ).loc Cert.NextReferenceIdeal.main_arg7)) (m ((c.tc : Thread Cert.NextReferenceIdeal.nD Cert.NextReferenceIdeal.τ).loc Cert.NextReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_Node [hNode : Cert.Node.Facts] : Prop :=
  ∀ (m : (ℓ : Loc Cert.Node.nD Cert.Node.τ Cert.Node.sig) → Buf (Elt Bits) ℓ) (g : Dev Cert.Node.nD → PrngReg), Pre_Node m →
    θ_run (Cert.Node.defs (F := Bits)) (onTc (τ := Cert.Node.τ) (Cert.Node.main (F := Bits))) ⟨m, fun _ => 0, g⟩ (fun r => (∀ c : Dev Cert.Node.nD,
      r.2.mem ((c.tc : Thread Cert.Node.nD Cert.Node.τ).loc Cert.Node.main_arg0) = m ((c.tc : Thread Cert.Node.nD Cert.Node.τ).loc Cert.Node.main_arg0)
      ∧ r.2.mem ((c.tc : Thread Cert.Node.nD Cert.Node.τ).loc Cert.Node.main_arg1) = m ((c.tc : Thread Cert.Node.nD Cert.Node.τ).loc Cert.Node.main_arg1))
      ∧ r.2.sem = fun _ => 0)

def quiescent_NodeIdeal [hNodeIdeal : Cert.NodeIdeal.Facts] : Prop :=
  ∀ (m : (ℓ : Loc Cert.NodeIdeal.nD Cert.NodeIdeal.τ Cert.NodeIdeal.sig) → Buf (Elt Ideal) ℓ) (g : Dev Cert.NodeIdeal.nD → PrngReg), Pre_NodeIdeal m →
    θ_run (Cert.NodeIdeal.defs (F := Ideal)) (onTc (τ := Cert.NodeIdeal.τ) (Cert.NodeIdeal.main (F := Ideal))) ⟨m, fun _ => 0, g⟩ (fun r => (∀ c : Dev Cert.NodeIdeal.nD,
      r.2.mem ((c.tc : Thread Cert.NodeIdeal.nD Cert.NodeIdeal.τ).loc Cert.NodeIdeal.main_arg0) = m ((c.tc : Thread Cert.NodeIdeal.nD Cert.NodeIdeal.τ).loc Cert.NodeIdeal.main_arg0)
      ∧ r.2.mem ((c.tc : Thread Cert.NodeIdeal.nD Cert.NodeIdeal.τ).loc Cert.NodeIdeal.main_arg1) = m ((c.tc : Thread Cert.NodeIdeal.nD Cert.NodeIdeal.τ).loc Cert.NodeIdeal.main_arg1))
      ∧ r.2.sem = fun _ => 0)

def quiescent_NodeReferenceIdeal [hNodeReferenceIdeal : Cert.NodeReferenceIdeal.Facts] : Prop :=
  ∀ (m : (ℓ : Loc Cert.NodeReferenceIdeal.nD Cert.NodeReferenceIdeal.τ Cert.NodeReferenceIdeal.sig) → Buf (Elt Ideal) ℓ) (g : Dev Cert.NodeReferenceIdeal.nD → PrngReg), Pre_NodeReferenceIdeal m →
    θ_run (Cert.NodeReferenceIdeal.defs (F := Ideal)) (onTc (τ := Cert.NodeReferenceIdeal.τ) (Cert.NodeReferenceIdeal.main (F := Ideal))) ⟨m, fun _ => 0, g⟩ (fun r => (∀ c : Dev Cert.NodeReferenceIdeal.nD,
      r.2.mem ((c.tc : Thread Cert.NodeReferenceIdeal.nD Cert.NodeReferenceIdeal.τ).loc Cert.NodeReferenceIdeal.main_arg0) = m ((c.tc : Thread Cert.NodeReferenceIdeal.nD Cert.NodeReferenceIdeal.τ).loc Cert.NodeReferenceIdeal.main_arg0)
      ∧ r.2.mem ((c.tc : Thread Cert.NodeReferenceIdeal.nD Cert.NodeReferenceIdeal.τ).loc Cert.NodeReferenceIdeal.main_arg1) = m ((c.tc : Thread Cert.NodeReferenceIdeal.nD Cert.NodeReferenceIdeal.τ).loc Cert.NodeReferenceIdeal.main_arg1))
      ∧ r.2.sem = fun _ => 0)

def quiescent_Edge [hEdge : Cert.Edge.Facts] : Prop :=
  ∀ (m : (ℓ : Loc Cert.Edge.nD Cert.Edge.τ Cert.Edge.sig) → Buf (Elt Bits) ℓ) (g : Dev Cert.Edge.nD → PrngReg), Pre_Edge m →
    θ_run (Cert.Edge.defs (F := Bits)) (onTc (τ := Cert.Edge.τ) (Cert.Edge.main (F := Bits))) ⟨m, fun _ => 0, g⟩ (fun r => (∀ c : Dev Cert.Edge.nD,
      r.2.mem ((c.tc : Thread Cert.Edge.nD Cert.Edge.τ).loc Cert.Edge.main_arg0) = m ((c.tc : Thread Cert.Edge.nD Cert.Edge.τ).loc Cert.Edge.main_arg0)
      ∧ r.2.mem ((c.tc : Thread Cert.Edge.nD Cert.Edge.τ).loc Cert.Edge.main_arg1) = m ((c.tc : Thread Cert.Edge.nD Cert.Edge.τ).loc Cert.Edge.main_arg1)
      ∧ r.2.mem ((c.tc : Thread Cert.Edge.nD Cert.Edge.τ).loc Cert.Edge.main_arg2) = m ((c.tc : Thread Cert.Edge.nD Cert.Edge.τ).loc Cert.Edge.main_arg2)
      ∧ r.2.mem ((c.tc : Thread Cert.Edge.nD Cert.Edge.τ).loc Cert.Edge.main_arg3) = m ((c.tc : Thread Cert.Edge.nD Cert.Edge.τ).loc Cert.Edge.main_arg3)
      ∧ r.2.mem ((c.tc : Thread Cert.Edge.nD Cert.Edge.τ).loc Cert.Edge.main_arg4) = m ((c.tc : Thread Cert.Edge.nD Cert.Edge.τ).loc Cert.Edge.main_arg4))
      ∧ r.2.sem = fun _ => 0)

def quiescent_EdgeIdeal [hEdgeIdeal : Cert.EdgeIdeal.Facts] : Prop :=
  ∀ (m : (ℓ : Loc Cert.EdgeIdeal.nD Cert.EdgeIdeal.τ Cert.EdgeIdeal.sig) → Buf (Elt Ideal) ℓ) (g : Dev Cert.EdgeIdeal.nD → PrngReg), Pre_EdgeIdeal m →
    θ_run (Cert.EdgeIdeal.defs (F := Ideal)) (onTc (τ := Cert.EdgeIdeal.τ) (Cert.EdgeIdeal.main (F := Ideal))) ⟨m, fun _ => 0, g⟩ (fun r => (∀ c : Dev Cert.EdgeIdeal.nD,
      r.2.mem ((c.tc : Thread Cert.EdgeIdeal.nD Cert.EdgeIdeal.τ).loc Cert.EdgeIdeal.main_arg0) = m ((c.tc : Thread Cert.EdgeIdeal.nD Cert.EdgeIdeal.τ).loc Cert.EdgeIdeal.main_arg0)
      ∧ r.2.mem ((c.tc : Thread Cert.EdgeIdeal.nD Cert.EdgeIdeal.τ).loc Cert.EdgeIdeal.main_arg1) = m ((c.tc : Thread Cert.EdgeIdeal.nD Cert.EdgeIdeal.τ).loc Cert.EdgeIdeal.main_arg1)
      ∧ r.2.mem ((c.tc : Thread Cert.EdgeIdeal.nD Cert.EdgeIdeal.τ).loc Cert.EdgeIdeal.main_arg2) = m ((c.tc : Thread Cert.EdgeIdeal.nD Cert.EdgeIdeal.τ).loc Cert.EdgeIdeal.main_arg2)
      ∧ r.2.mem ((c.tc : Thread Cert.EdgeIdeal.nD Cert.EdgeIdeal.τ).loc Cert.EdgeIdeal.main_arg3) = m ((c.tc : Thread Cert.EdgeIdeal.nD Cert.EdgeIdeal.τ).loc Cert.EdgeIdeal.main_arg3)
      ∧ r.2.mem ((c.tc : Thread Cert.EdgeIdeal.nD Cert.EdgeIdeal.τ).loc Cert.EdgeIdeal.main_arg4) = m ((c.tc : Thread Cert.EdgeIdeal.nD Cert.EdgeIdeal.τ).loc Cert.EdgeIdeal.main_arg4))
      ∧ r.2.sem = fun _ => 0)

def quiescent_EdgeReferenceIdeal [hEdgeReferenceIdeal : Cert.EdgeReferenceIdeal.Facts] : Prop :=
  ∀ (m : (ℓ : Loc Cert.EdgeReferenceIdeal.nD Cert.EdgeReferenceIdeal.τ Cert.EdgeReferenceIdeal.sig) → Buf (Elt Ideal) ℓ) (g : Dev Cert.EdgeReferenceIdeal.nD → PrngReg), Pre_EdgeReferenceIdeal m →
    θ_run (Cert.EdgeReferenceIdeal.defs (F := Ideal)) (onTc (τ := Cert.EdgeReferenceIdeal.τ) (Cert.EdgeReferenceIdeal.main (F := Ideal))) ⟨m, fun _ => 0, g⟩ (fun r => (∀ c : Dev Cert.EdgeReferenceIdeal.nD,
      r.2.mem ((c.tc : Thread Cert.EdgeReferenceIdeal.nD Cert.EdgeReferenceIdeal.τ).loc Cert.EdgeReferenceIdeal.main_arg0) = m ((c.tc : Thread Cert.EdgeReferenceIdeal.nD Cert.EdgeReferenceIdeal.τ).loc Cert.EdgeReferenceIdeal.main_arg0)
      ∧ r.2.mem ((c.tc : Thread Cert.EdgeReferenceIdeal.nD Cert.EdgeReferenceIdeal.τ).loc Cert.EdgeReferenceIdeal.main_arg1) = m ((c.tc : Thread Cert.EdgeReferenceIdeal.nD Cert.EdgeReferenceIdeal.τ).loc Cert.EdgeReferenceIdeal.main_arg1)
      ∧ r.2.mem ((c.tc : Thread Cert.EdgeReferenceIdeal.nD Cert.EdgeReferenceIdeal.τ).loc Cert.EdgeReferenceIdeal.main_arg2) = m ((c.tc : Thread Cert.EdgeReferenceIdeal.nD Cert.EdgeReferenceIdeal.τ).loc Cert.EdgeReferenceIdeal.main_arg2)
      ∧ r.2.mem ((c.tc : Thread Cert.EdgeReferenceIdeal.nD Cert.EdgeReferenceIdeal.τ).loc Cert.EdgeReferenceIdeal.main_arg3) = m ((c.tc : Thread Cert.EdgeReferenceIdeal.nD Cert.EdgeReferenceIdeal.τ).loc Cert.EdgeReferenceIdeal.main_arg3)
      ∧ r.2.mem ((c.tc : Thread Cert.EdgeReferenceIdeal.nD Cert.EdgeReferenceIdeal.τ).loc Cert.EdgeReferenceIdeal.main_arg4) = m ((c.tc : Thread Cert.EdgeReferenceIdeal.nD Cert.EdgeReferenceIdeal.τ).loc Cert.EdgeReferenceIdeal.main_arg4))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7))
      ∧ r.2.sem = fun _ => 0)

def quiescent_PostIdeal_pre_types_in_range [hPostIdeal : Cert.PostIdeal.Facts] [hPre_types_in_range : Cert.Pre_types_in_range.Facts] : Prop :=
  ∀ (m : (ℓ : Loc Cert.PostIdeal.nD Cert.PostIdeal.τ Cert.PostIdeal.sig) → Buf (Elt Ideal) ℓ) (g : Dev Cert.PostIdeal.nD → PrngReg), Pre_PostIdeal_types_in_range m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7))
      ∧ r.2.sem = fun _ => 0)

def quiescent_PostReferenceIdeal_pre_types_in_range [hPostReferenceIdeal : Cert.PostReferenceIdeal.Facts] [hPre_types_in_range : Cert.Pre_types_in_range.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal_types_in_range m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7))
      ∧ r.2.sem = fun _ => 0)

def quiescent_Next [hNext : Cert.Next.Facts] : Prop :=
  ∀ (m : (ℓ : Loc Cert.Next.nD Cert.Next.τ Cert.Next.sig) → Buf (Elt Bits) ℓ) (g : Dev Cert.Next.nD → PrngReg), Pre_Next m →
    θ_run (Cert.Next.defs (F := Bits)) (onTc (τ := Cert.Next.τ) (Cert.Next.main (F := Bits))) ⟨m, fun _ => 0, g⟩ (fun r => (∀ c : Dev Cert.Next.nD,
      r.2.mem ((c.tc : Thread Cert.Next.nD Cert.Next.τ).loc Cert.Next.main_arg0) = m ((c.tc : Thread Cert.Next.nD Cert.Next.τ).loc Cert.Next.main_arg0)
      ∧ r.2.mem ((c.tc : Thread Cert.Next.nD Cert.Next.τ).loc Cert.Next.main_arg1) = m ((c.tc : Thread Cert.Next.nD Cert.Next.τ).loc Cert.Next.main_arg1)
      ∧ r.2.mem ((c.tc : Thread Cert.Next.nD Cert.Next.τ).loc Cert.Next.main_arg2) = m ((c.tc : Thread Cert.Next.nD Cert.Next.τ).loc Cert.Next.main_arg2)
      ∧ r.2.mem ((c.tc : Thread Cert.Next.nD Cert.Next.τ).loc Cert.Next.main_arg3) = m ((c.tc : Thread Cert.Next.nD Cert.Next.τ).loc Cert.Next.main_arg3)
      ∧ r.2.mem ((c.tc : Thread Cert.Next.nD Cert.Next.τ).loc Cert.Next.main_arg4) = m ((c.tc : Thread Cert.Next.nD Cert.Next.τ).loc Cert.Next.main_arg4)
      ∧ r.2.mem ((c.tc : Thread Cert.Next.nD Cert.Next.τ).loc Cert.Next.main_arg5) = m ((c.tc : Thread Cert.Next.nD Cert.Next.τ).loc Cert.Next.main_arg5)
      ∧ r.2.mem ((c.tc : Thread Cert.Next.nD Cert.Next.τ).loc Cert.Next.main_arg6) = m ((c.tc : Thread Cert.Next.nD Cert.Next.τ).loc Cert.Next.main_arg6)
      ∧ r.2.mem ((c.tc : Thread Cert.Next.nD Cert.Next.τ).loc Cert.Next.main_arg7) = m ((c.tc : Thread Cert.Next.nD Cert.Next.τ).loc Cert.Next.main_arg7)
      ∧ r.2.mem ((c.tc : Thread Cert.Next.nD Cert.Next.τ).loc Cert.Next.main_arg8) = m ((c.tc : Thread Cert.Next.nD Cert.Next.τ).loc Cert.Next.main_arg8))
      ∧ r.2.sem = fun _ => 0)

def quiescent_NextIdeal [hNextIdeal : Cert.NextIdeal.Facts] : Prop :=
  ∀ (m : (ℓ : Loc Cert.NextIdeal.nD Cert.NextIdeal.τ Cert.NextIdeal.sig) → Buf (Elt Ideal) ℓ) (g : Dev Cert.NextIdeal.nD → PrngReg), Pre_NextIdeal m →
    θ_run (Cert.NextIdeal.defs (F := Ideal)) (onTc (τ := Cert.NextIdeal.τ) (Cert.NextIdeal.main (F := Ideal))) ⟨m, fun _ => 0, g⟩ (fun r => (∀ c : Dev Cert.NextIdeal.nD,
      r.2.mem ((c.tc : Thread Cert.NextIdeal.nD Cert.NextIdeal.τ).loc Cert.NextIdeal.main_arg0) = m ((c.tc : Thread Cert.NextIdeal.nD Cert.NextIdeal.τ).loc Cert.NextIdeal.main_arg0)
      ∧ r.2.mem ((c.tc : Thread Cert.NextIdeal.nD Cert.NextIdeal.τ).loc Cert.NextIdeal.main_arg1) = m ((c.tc : Thread Cert.NextIdeal.nD Cert.NextIdeal.τ).loc Cert.NextIdeal.main_arg1)
      ∧ r.2.mem ((c.tc : Thread Cert.NextIdeal.nD Cert.NextIdeal.τ).loc Cert.NextIdeal.main_arg2) = m ((c.tc : Thread Cert.NextIdeal.nD Cert.NextIdeal.τ).loc Cert.NextIdeal.main_arg2)
      ∧ r.2.mem ((c.tc : Thread Cert.NextIdeal.nD Cert.NextIdeal.τ).loc Cert.NextIdeal.main_arg3) = m ((c.tc : Thread Cert.NextIdeal.nD Cert.NextIdeal.τ).loc Cert.NextIdeal.main_arg3)
      ∧ r.2.mem ((c.tc : Thread Cert.NextIdeal.nD Cert.NextIdeal.τ).loc Cert.NextIdeal.main_arg4) = m ((c.tc : Thread Cert.NextIdeal.nD Cert.NextIdeal.τ).loc Cert.NextIdeal.main_arg4)
      ∧ r.2.mem ((c.tc : Thread Cert.NextIdeal.nD Cert.NextIdeal.τ).loc Cert.NextIdeal.main_arg5) = m ((c.tc : Thread Cert.NextIdeal.nD Cert.NextIdeal.τ).loc Cert.NextIdeal.main_arg5)
      ∧ r.2.mem ((c.tc : Thread Cert.NextIdeal.nD Cert.NextIdeal.τ).loc Cert.NextIdeal.main_arg6) = m ((c.tc : Thread Cert.NextIdeal.nD Cert.NextIdeal.τ).loc Cert.NextIdeal.main_arg6)
      ∧ r.2.mem ((c.tc : Thread Cert.NextIdeal.nD Cert.NextIdeal.τ).loc Cert.NextIdeal.main_arg7) = m ((c.tc : Thread Cert.NextIdeal.nD Cert.NextIdeal.τ).loc Cert.NextIdeal.main_arg7)
      ∧ r.2.mem ((c.tc : Thread Cert.NextIdeal.nD Cert.NextIdeal.τ).loc Cert.NextIdeal.main_arg8) = m ((c.tc : Thread Cert.NextIdeal.nD Cert.NextIdeal.τ).loc Cert.NextIdeal.main_arg8))
      ∧ r.2.sem = fun _ => 0)

def quiescent_NextIdeal_pre_types_in_range_next [hNextIdeal : Cert.NextIdeal.Facts] [hPre_types_in_range_next : Cert.Pre_types_in_range_next.Facts] : Prop :=
  ∀ (m : (ℓ : Loc Cert.NextIdeal.nD Cert.NextIdeal.τ Cert.NextIdeal.sig) → Buf (Elt Ideal) ℓ) (g : Dev Cert.NextIdeal.nD → PrngReg), Pre_NextIdeal_types_in_range_next m →
    θ_run (Cert.NextIdeal.defs (F := Ideal)) (onTc (τ := Cert.NextIdeal.τ) (Cert.NextIdeal.main (F := Ideal))) ⟨m, fun _ => 0, g⟩ (fun r => (∀ c : Dev Cert.NextIdeal.nD,
      r.2.mem ((c.tc : Thread Cert.NextIdeal.nD Cert.NextIdeal.τ).loc Cert.NextIdeal.main_arg0) = m ((c.tc : Thread Cert.NextIdeal.nD Cert.NextIdeal.τ).loc Cert.NextIdeal.main_arg0)
      ∧ r.2.mem ((c.tc : Thread Cert.NextIdeal.nD Cert.NextIdeal.τ).loc Cert.NextIdeal.main_arg1) = m ((c.tc : Thread Cert.NextIdeal.nD Cert.NextIdeal.τ).loc Cert.NextIdeal.main_arg1)
      ∧ r.2.mem ((c.tc : Thread Cert.NextIdeal.nD Cert.NextIdeal.τ).loc Cert.NextIdeal.main_arg2) = m ((c.tc : Thread Cert.NextIdeal.nD Cert.NextIdeal.τ).loc Cert.NextIdeal.main_arg2)
      ∧ r.2.mem ((c.tc : Thread Cert.NextIdeal.nD Cert.NextIdeal.τ).loc Cert.NextIdeal.main_arg3) = m ((c.tc : Thread Cert.NextIdeal.nD Cert.NextIdeal.τ).loc Cert.NextIdeal.main_arg3)
      ∧ r.2.mem ((c.tc : Thread Cert.NextIdeal.nD Cert.NextIdeal.τ).loc Cert.NextIdeal.main_arg4) = m ((c.tc : Thread Cert.NextIdeal.nD Cert.NextIdeal.τ).loc Cert.NextIdeal.main_arg4)
      ∧ r.2.mem ((c.tc : Thread Cert.NextIdeal.nD Cert.NextIdeal.τ).loc Cert.NextIdeal.main_arg5) = m ((c.tc : Thread Cert.NextIdeal.nD Cert.NextIdeal.τ).loc Cert.NextIdeal.main_arg5)
      ∧ r.2.mem ((c.tc : Thread Cert.NextIdeal.nD Cert.NextIdeal.τ).loc Cert.NextIdeal.main_arg6) = m ((c.tc : Thread Cert.NextIdeal.nD Cert.NextIdeal.τ).loc Cert.NextIdeal.main_arg6)
      ∧ r.2.mem ((c.tc : Thread Cert.NextIdeal.nD Cert.NextIdeal.τ).loc Cert.NextIdeal.main_arg7) = m ((c.tc : Thread Cert.NextIdeal.nD Cert.NextIdeal.τ).loc Cert.NextIdeal.main_arg7)
      ∧ r.2.mem ((c.tc : Thread Cert.NextIdeal.nD Cert.NextIdeal.τ).loc Cert.NextIdeal.main_arg8) = m ((c.tc : Thread Cert.NextIdeal.nD Cert.NextIdeal.τ).loc Cert.NextIdeal.main_arg8))
      ∧ r.2.sem = fun _ => 0)

def quiescent_NextReferenceIdeal [hNextReferenceIdeal : Cert.NextReferenceIdeal.Facts] : Prop :=
  ∀ (m : (ℓ : Loc Cert.NextReferenceIdeal.nD Cert.NextReferenceIdeal.τ Cert.NextReferenceIdeal.sig) → Buf (Elt Ideal) ℓ) (g : Dev Cert.NextReferenceIdeal.nD → PrngReg), Pre_NextReferenceIdeal m →
    θ_run (Cert.NextReferenceIdeal.defs (F := Ideal)) (onTc (τ := Cert.NextReferenceIdeal.τ) (Cert.NextReferenceIdeal.main (F := Ideal))) ⟨m, fun _ => 0, g⟩ (fun r => (∀ c : Dev Cert.NextReferenceIdeal.nD,
      r.2.mem ((c.tc : Thread Cert.NextReferenceIdeal.nD Cert.NextReferenceIdeal.τ).loc Cert.NextReferenceIdeal.main_arg0) = m ((c.tc : Thread Cert.NextReferenceIdeal.nD Cert.NextReferenceIdeal.τ).loc Cert.NextReferenceIdeal.main_arg0)
      ∧ r.2.mem ((c.tc : Thread Cert.NextReferenceIdeal.nD Cert.NextReferenceIdeal.τ).loc Cert.NextReferenceIdeal.main_arg1) = m ((c.tc : Thread Cert.NextReferenceIdeal.nD Cert.NextReferenceIdeal.τ).loc Cert.NextReferenceIdeal.main_arg1)
      ∧ r.2.mem ((c.tc : Thread Cert.NextReferenceIdeal.nD Cert.NextReferenceIdeal.τ).loc Cert.NextReferenceIdeal.main_arg2) = m ((c.tc : Thread Cert.NextReferenceIdeal.nD Cert.NextReferenceIdeal.τ).loc Cert.NextReferenceIdeal.main_arg2)
      ∧ r.2.mem ((c.tc : Thread Cert.NextReferenceIdeal.nD Cert.NextReferenceIdeal.τ).loc Cert.NextReferenceIdeal.main_arg3) = m ((c.tc : Thread Cert.NextReferenceIdeal.nD Cert.NextReferenceIdeal.τ).loc Cert.NextReferenceIdeal.main_arg3)
      ∧ r.2.mem ((c.tc : Thread Cert.NextReferenceIdeal.nD Cert.NextReferenceIdeal.τ).loc Cert.NextReferenceIdeal.main_arg4) = m ((c.tc : Thread Cert.NextReferenceIdeal.nD Cert.NextReferenceIdeal.τ).loc Cert.NextReferenceIdeal.main_arg4)
      ∧ r.2.mem ((c.tc : Thread Cert.NextReferenceIdeal.nD Cert.NextReferenceIdeal.τ).loc Cert.NextReferenceIdeal.main_arg5) = m ((c.tc : Thread Cert.NextReferenceIdeal.nD Cert.NextReferenceIdeal.τ).loc Cert.NextReferenceIdeal.main_arg5)
      ∧ r.2.mem ((c.tc : Thread Cert.NextReferenceIdeal.nD Cert.NextReferenceIdeal.τ).loc Cert.NextReferenceIdeal.main_arg6) = m ((c.tc : Thread Cert.NextReferenceIdeal.nD Cert.NextReferenceIdeal.τ).loc Cert.NextReferenceIdeal.main_arg6)
      ∧ r.2.mem ((c.tc : Thread Cert.NextReferenceIdeal.nD Cert.NextReferenceIdeal.τ).loc Cert.NextReferenceIdeal.main_arg7) = m ((c.tc : Thread Cert.NextReferenceIdeal.nD Cert.NextReferenceIdeal.τ).loc Cert.NextReferenceIdeal.main_arg7)
      ∧ r.2.mem ((c.tc : Thread Cert.NextReferenceIdeal.nD Cert.NextReferenceIdeal.τ).loc Cert.NextReferenceIdeal.main_arg8) = m ((c.tc : Thread Cert.NextReferenceIdeal.nD Cert.NextReferenceIdeal.τ).loc Cert.NextReferenceIdeal.main_arg8))
      ∧ r.2.sem = fun _ => 0)

def quiescent_NextReferenceIdeal_pre_types_in_range_next [hNextReferenceIdeal : Cert.NextReferenceIdeal.Facts] [hPre_types_in_range_next : Cert.Pre_types_in_range_next.Facts] : Prop :=
  ∀ (m : (ℓ : Loc Cert.NextReferenceIdeal.nD Cert.NextReferenceIdeal.τ Cert.NextReferenceIdeal.sig) → Buf (Elt Ideal) ℓ) (g : Dev Cert.NextReferenceIdeal.nD → PrngReg), Pre_NextReferenceIdeal_types_in_range_next m →
    θ_run (Cert.NextReferenceIdeal.defs (F := Ideal)) (onTc (τ := Cert.NextReferenceIdeal.τ) (Cert.NextReferenceIdeal.main (F := Ideal))) ⟨m, fun _ => 0, g⟩ (fun r => (∀ c : Dev Cert.NextReferenceIdeal.nD,
      r.2.mem ((c.tc : Thread Cert.NextReferenceIdeal.nD Cert.NextReferenceIdeal.τ).loc Cert.NextReferenceIdeal.main_arg0) = m ((c.tc : Thread Cert.NextReferenceIdeal.nD Cert.NextReferenceIdeal.τ).loc Cert.NextReferenceIdeal.main_arg0)
      ∧ r.2.mem ((c.tc : Thread Cert.NextReferenceIdeal.nD Cert.NextReferenceIdeal.τ).loc Cert.NextReferenceIdeal.main_arg1) = m ((c.tc : Thread Cert.NextReferenceIdeal.nD Cert.NextReferenceIdeal.τ).loc Cert.NextReferenceIdeal.main_arg1)
      ∧ r.2.mem ((c.tc : Thread Cert.NextReferenceIdeal.nD Cert.NextReferenceIdeal.τ).loc Cert.NextReferenceIdeal.main_arg2) = m ((c.tc : Thread Cert.NextReferenceIdeal.nD Cert.NextReferenceIdeal.τ).loc Cert.NextReferenceIdeal.main_arg2)
      ∧ r.2.mem ((c.tc : Thread Cert.NextReferenceIdeal.nD Cert.NextReferenceIdeal.τ).loc Cert.NextReferenceIdeal.main_arg3) = m ((c.tc : Thread Cert.NextReferenceIdeal.nD Cert.NextReferenceIdeal.τ).loc Cert.NextReferenceIdeal.main_arg3)
      ∧ r.2.mem ((c.tc : Thread Cert.NextReferenceIdeal.nD Cert.NextReferenceIdeal.τ).loc Cert.NextReferenceIdeal.main_arg4) = m ((c.tc : Thread Cert.NextReferenceIdeal.nD Cert.NextReferenceIdeal.τ).loc Cert.NextReferenceIdeal.main_arg4)
      ∧ r.2.mem ((c.tc : Thread Cert.NextReferenceIdeal.nD Cert.NextReferenceIdeal.τ).loc Cert.NextReferenceIdeal.main_arg5) = m ((c.tc : Thread Cert.NextReferenceIdeal.nD Cert.NextReferenceIdeal.τ).loc Cert.NextReferenceIdeal.main_arg5)
      ∧ r.2.mem ((c.tc : Thread Cert.NextReferenceIdeal.nD Cert.NextReferenceIdeal.τ).loc Cert.NextReferenceIdeal.main_arg6) = m ((c.tc : Thread Cert.NextReferenceIdeal.nD Cert.NextReferenceIdeal.τ).loc Cert.NextReferenceIdeal.main_arg6)
      ∧ r.2.mem ((c.tc : Thread Cert.NextReferenceIdeal.nD Cert.NextReferenceIdeal.τ).loc Cert.NextReferenceIdeal.main_arg7) = m ((c.tc : Thread Cert.NextReferenceIdeal.nD Cert.NextReferenceIdeal.τ).loc Cert.NextReferenceIdeal.main_arg7)
      ∧ r.2.mem ((c.tc : Thread Cert.NextReferenceIdeal.nD Cert.NextReferenceIdeal.τ).loc Cert.NextReferenceIdeal.main_arg8) = m ((c.tc : Thread Cert.NextReferenceIdeal.nD Cert.NextReferenceIdeal.τ).loc Cert.NextReferenceIdeal.main_arg8))
      ∧ r.2.sem = fun _ => 0)

def preserves_Kernel_KernelIdeal : Prop :=
  True

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v15)) (v1 : (c : Dev Cert.Kernel.nD) → Buf (Elt Bits) ((c.tc : Thread Cert.Kernel.nD Cert.Kernel.τ).loc Cert.Kernel.main_v17)) (v2 : (c : Dev Cert.Kernel.nD) → Buf (Elt Bits) ((c.tc : Thread Cert.Kernel.nD Cert.Kernel.τ).loc Cert.Kernel.main_v5)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v15) = v0 c
          ∧ r.2.mem ((c.tc : Thread Cert.Kernel.nD Cert.Kernel.τ).loc Cert.Kernel.main_v17) = v1 c
          ∧ r.2.mem ((c.tc : Thread Cert.Kernel.nD Cert.Kernel.τ).loc Cert.Kernel.main_v5) = v2 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v74) = v0 c
          ∧ r.2.mem ((c.tc : Thread Cert.Reference.nD Cert.Reference.τ).loc Cert.Reference.main_v90) = v1 c
          ∧ r.2.mem ((c.tc : Thread Cert.Reference.nD Cert.Reference.τ).loc Cert.Reference.main_v91) = v2 c
          ∧ r.2.mem ((c.tc : Thread Cert.Reference.nD Cert.Reference.τ).loc Cert.Reference.main_arg0) = m' ((c.tc : Thread Cert.Reference.nD Cert.Reference.τ).loc Cert.Reference.main_arg0))

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v91) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Node_NodeIdeal : Prop :=
  True

def algebraic_NodeIdeal_NodeReferenceIdeal [hNodeIdeal : Cert.NodeIdeal.Facts] [hNodeReferenceIdeal : Cert.NodeReferenceIdeal.Facts] : Prop :=
  ∀ (m : (ℓ : Loc Cert.NodeIdeal.nD Cert.NodeIdeal.τ Cert.NodeIdeal.sig) → Buf (Elt Ideal) ℓ) (g : Dev Cert.NodeIdeal.nD → PrngReg)
    (m' : (ℓ : Loc Cert.NodeReferenceIdeal.nD Cert.NodeReferenceIdeal.τ Cert.NodeReferenceIdeal.sig) → Buf (Elt Ideal) ℓ) (g' : Dev Cert.NodeReferenceIdeal.nD → PrngReg), Pre_NodeIdeal m →
    (∀ c : Dev Cert.NodeIdeal.nD,
      m' ((c.tc : Thread Cert.NodeReferenceIdeal.nD Cert.NodeReferenceIdeal.τ).loc Cert.NodeReferenceIdeal.main_arg0) = m ((c.tc : Thread Cert.NodeIdeal.nD Cert.NodeIdeal.τ).loc Cert.NodeIdeal.main_arg0)
      ∧ m' ((c.tc : Thread Cert.NodeReferenceIdeal.nD Cert.NodeReferenceIdeal.τ).loc Cert.NodeReferenceIdeal.main_arg1) = m ((c.tc : Thread Cert.NodeIdeal.nD Cert.NodeIdeal.τ).loc Cert.NodeIdeal.main_arg1)) →
    ∃ (v0 : (c : Dev Cert.NodeIdeal.nD) → Buf (Elt Ideal) ((c.tc : Thread Cert.NodeIdeal.nD Cert.NodeIdeal.τ).loc Cert.NodeIdeal.main_v0)),
      θ_run (Cert.NodeIdeal.defs (F := Ideal)) (onTc (τ := Cert.NodeIdeal.τ) (Cert.NodeIdeal.main (F := Ideal))) ⟨m, fun _ => 0, g⟩ (fun r => ∀ c : Dev Cert.NodeIdeal.nD,
          r.2.mem ((c.tc : Thread Cert.NodeIdeal.nD Cert.NodeIdeal.τ).loc Cert.NodeIdeal.main_v0) = v0 c
          ∧ r.2.mem ((c.tc : Thread Cert.NodeIdeal.nD Cert.NodeIdeal.τ).loc Cert.NodeIdeal.main_arg0) = m ((c.tc : Thread Cert.NodeIdeal.nD Cert.NodeIdeal.τ).loc Cert.NodeIdeal.main_arg0)
          ∧ r.2.mem ((c.tc : Thread Cert.NodeIdeal.nD Cert.NodeIdeal.τ).loc Cert.NodeIdeal.main_arg1) = m ((c.tc : Thread Cert.NodeIdeal.nD Cert.NodeIdeal.τ).loc Cert.NodeIdeal.main_arg1))
      ∧ θ_run (Cert.NodeReferenceIdeal.defs (F := Ideal)) (onTc (τ := Cert.NodeReferenceIdeal.τ) (Cert.NodeReferenceIdeal.main (F := Ideal))) ⟨m', fun _ => 0, g'⟩ (fun r => ∀ c : Dev Cert.NodeReferenceIdeal.nD,
          r.2.mem ((c.tc : Thread Cert.NodeReferenceIdeal.nD Cert.NodeReferenceIdeal.τ).loc Cert.NodeReferenceIdeal.main_v0) = v0 c
          ∧ r.2.mem ((c.tc : Thread Cert.NodeReferenceIdeal.nD Cert.NodeReferenceIdeal.τ).loc Cert.NodeReferenceIdeal.main_arg0) = m' ((c.tc : Thread Cert.NodeReferenceIdeal.nD Cert.NodeReferenceIdeal.τ).loc Cert.NodeReferenceIdeal.main_arg0)
          ∧ r.2.mem ((c.tc : Thread Cert.NodeReferenceIdeal.nD Cert.NodeReferenceIdeal.τ).loc Cert.NodeReferenceIdeal.main_arg1) = m' ((c.tc : Thread Cert.NodeReferenceIdeal.nD Cert.NodeReferenceIdeal.τ).loc Cert.NodeReferenceIdeal.main_arg1))

def preserves_Edge_EdgeIdeal : Prop :=
  True

def algebraic_EdgeIdeal_EdgeReferenceIdeal [hEdgeIdeal : Cert.EdgeIdeal.Facts] [hEdgeReferenceIdeal : Cert.EdgeReferenceIdeal.Facts] : Prop :=
  ∀ (m : (ℓ : Loc Cert.EdgeIdeal.nD Cert.EdgeIdeal.τ Cert.EdgeIdeal.sig) → Buf (Elt Ideal) ℓ) (g : Dev Cert.EdgeIdeal.nD → PrngReg)
    (m' : (ℓ : Loc Cert.EdgeReferenceIdeal.nD Cert.EdgeReferenceIdeal.τ Cert.EdgeReferenceIdeal.sig) → Buf (Elt Ideal) ℓ) (g' : Dev Cert.EdgeReferenceIdeal.nD → PrngReg), Pre_EdgeIdeal m →
    (∀ c : Dev Cert.EdgeIdeal.nD,
      m' ((c.tc : Thread Cert.EdgeReferenceIdeal.nD Cert.EdgeReferenceIdeal.τ).loc Cert.EdgeReferenceIdeal.main_arg0) = m ((c.tc : Thread Cert.EdgeIdeal.nD Cert.EdgeIdeal.τ).loc Cert.EdgeIdeal.main_arg0)
      ∧ m' ((c.tc : Thread Cert.EdgeReferenceIdeal.nD Cert.EdgeReferenceIdeal.τ).loc Cert.EdgeReferenceIdeal.main_arg1) = m ((c.tc : Thread Cert.EdgeIdeal.nD Cert.EdgeIdeal.τ).loc Cert.EdgeIdeal.main_arg1)
      ∧ m' ((c.tc : Thread Cert.EdgeReferenceIdeal.nD Cert.EdgeReferenceIdeal.τ).loc Cert.EdgeReferenceIdeal.main_arg2) = m ((c.tc : Thread Cert.EdgeIdeal.nD Cert.EdgeIdeal.τ).loc Cert.EdgeIdeal.main_arg2)
      ∧ m' ((c.tc : Thread Cert.EdgeReferenceIdeal.nD Cert.EdgeReferenceIdeal.τ).loc Cert.EdgeReferenceIdeal.main_arg3) = m ((c.tc : Thread Cert.EdgeIdeal.nD Cert.EdgeIdeal.τ).loc Cert.EdgeIdeal.main_arg3)
      ∧ m' ((c.tc : Thread Cert.EdgeReferenceIdeal.nD Cert.EdgeReferenceIdeal.τ).loc Cert.EdgeReferenceIdeal.main_arg4) = m ((c.tc : Thread Cert.EdgeIdeal.nD Cert.EdgeIdeal.τ).loc Cert.EdgeIdeal.main_arg4)) →
    ∃ (v0 : (c : Dev Cert.EdgeIdeal.nD) → Buf (Elt Ideal) ((c.tc : Thread Cert.EdgeIdeal.nD Cert.EdgeIdeal.τ).loc Cert.EdgeIdeal.main_v2_0)) (v1 : (c : Dev Cert.EdgeIdeal.nD) → Buf (Elt Ideal) ((c.tc : Thread Cert.EdgeIdeal.nD Cert.EdgeIdeal.τ).loc Cert.EdgeIdeal.main_v2_1)),
      θ_run (Cert.EdgeIdeal.defs (F := Ideal)) (onTc (τ := Cert.EdgeIdeal.τ) (Cert.EdgeIdeal.main (F := Ideal))) ⟨m, fun _ => 0, g⟩ (fun r => ∀ c : Dev Cert.EdgeIdeal.nD,
          r.2.mem ((c.tc : Thread Cert.EdgeIdeal.nD Cert.EdgeIdeal.τ).loc Cert.EdgeIdeal.main_v2_0) = v0 c
          ∧ r.2.mem ((c.tc : Thread Cert.EdgeIdeal.nD Cert.EdgeIdeal.τ).loc Cert.EdgeIdeal.main_v2_1) = v1 c
          ∧ r.2.mem ((c.tc : Thread Cert.EdgeIdeal.nD Cert.EdgeIdeal.τ).loc Cert.EdgeIdeal.main_arg0) = m ((c.tc : Thread Cert.EdgeIdeal.nD Cert.EdgeIdeal.τ).loc Cert.EdgeIdeal.main_arg0)
          ∧ r.2.mem ((c.tc : Thread Cert.EdgeIdeal.nD Cert.EdgeIdeal.τ).loc Cert.EdgeIdeal.main_arg1) = m ((c.tc : Thread Cert.EdgeIdeal.nD Cert.EdgeIdeal.τ).loc Cert.EdgeIdeal.main_arg1)
          ∧ r.2.mem ((c.tc : Thread Cert.EdgeIdeal.nD Cert.EdgeIdeal.τ).loc Cert.EdgeIdeal.main_arg2) = m ((c.tc : Thread Cert.EdgeIdeal.nD Cert.EdgeIdeal.τ).loc Cert.EdgeIdeal.main_arg2)
          ∧ r.2.mem ((c.tc : Thread Cert.EdgeIdeal.nD Cert.EdgeIdeal.τ).loc Cert.EdgeIdeal.main_arg3) = m ((c.tc : Thread Cert.EdgeIdeal.nD Cert.EdgeIdeal.τ).loc Cert.EdgeIdeal.main_arg3)
          ∧ r.2.mem ((c.tc : Thread Cert.EdgeIdeal.nD Cert.EdgeIdeal.τ).loc Cert.EdgeIdeal.main_arg4) = m ((c.tc : Thread Cert.EdgeIdeal.nD Cert.EdgeIdeal.τ).loc Cert.EdgeIdeal.main_arg4))
      ∧ θ_run (Cert.EdgeReferenceIdeal.defs (F := Ideal)) (onTc (τ := Cert.EdgeReferenceIdeal.τ) (Cert.EdgeReferenceIdeal.main (F := Ideal))) ⟨m', fun _ => 0, g'⟩ (fun r => ∀ c : Dev Cert.EdgeReferenceIdeal.nD,
          r.2.mem ((c.tc : Thread Cert.EdgeReferenceIdeal.nD Cert.EdgeReferenceIdeal.τ).loc Cert.EdgeReferenceIdeal.main_v3) = v0 c
          ∧ r.2.mem ((c.tc : Thread Cert.EdgeReferenceIdeal.nD Cert.EdgeReferenceIdeal.τ).loc Cert.EdgeReferenceIdeal.main_v7) = v1 c
          ∧ r.2.mem ((c.tc : Thread Cert.EdgeReferenceIdeal.nD Cert.EdgeReferenceIdeal.τ).loc Cert.EdgeReferenceIdeal.main_arg0) = m' ((c.tc : Thread Cert.EdgeReferenceIdeal.nD Cert.EdgeReferenceIdeal.τ).loc Cert.EdgeReferenceIdeal.main_arg0)
          ∧ r.2.mem ((c.tc : Thread Cert.EdgeReferenceIdeal.nD Cert.EdgeReferenceIdeal.τ).loc Cert.EdgeReferenceIdeal.main_arg1) = m' ((c.tc : Thread Cert.EdgeReferenceIdeal.nD Cert.EdgeReferenceIdeal.τ).loc Cert.EdgeReferenceIdeal.main_arg1)
          ∧ r.2.mem ((c.tc : Thread Cert.EdgeReferenceIdeal.nD Cert.EdgeReferenceIdeal.τ).loc Cert.EdgeReferenceIdeal.main_arg2) = m' ((c.tc : Thread Cert.EdgeReferenceIdeal.nD Cert.EdgeReferenceIdeal.τ).loc Cert.EdgeReferenceIdeal.main_arg2)
          ∧ r.2.mem ((c.tc : Thread Cert.EdgeReferenceIdeal.nD Cert.EdgeReferenceIdeal.τ).loc Cert.EdgeReferenceIdeal.main_arg3) = m' ((c.tc : Thread Cert.EdgeReferenceIdeal.nD Cert.EdgeReferenceIdeal.τ).loc Cert.EdgeReferenceIdeal.main_arg3)
          ∧ r.2.mem ((c.tc : Thread Cert.EdgeReferenceIdeal.nD Cert.EdgeReferenceIdeal.τ).loc Cert.EdgeReferenceIdeal.main_arg4) = m' ((c.tc : Thread Cert.EdgeReferenceIdeal.nD Cert.EdgeReferenceIdeal.τ).loc Cert.EdgeReferenceIdeal.main_arg4))

def preserves_Post_PostIdeal : Prop :=
  True

def algebraic_PostIdeal_PostReferenceIdeal_pre_types_in_range [hPostIdeal : Cert.PostIdeal.Facts] [hPostReferenceIdeal : Cert.PostReferenceIdeal.Facts] [hPre_types_in_range : Cert.Pre_types_in_range.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostIdeal_types_in_range m →
    (∀ c : Dev Cert.PostIdeal.nD,
      m' ((c.tc : Thread Cert.PostReferenceIdeal.nD Cert.PostReferenceIdeal.τ).loc Cert.PostReferenceIdeal.main_arg0) = m ((c.tc : Thread Cert.PostIdeal.nD Cert.PostIdeal.τ).loc Cert.PostIdeal.main_arg0)
      ∧ m' ((c.tc : Thread Cert.PostReferenceIdeal.nD Cert.PostReferenceIdeal.τ).loc Cert.PostReferenceIdeal.main_arg1) = m ((c.tc : Thread Cert.PostIdeal.nD Cert.PostIdeal.τ).loc Cert.PostIdeal.main_arg1)
      ∧ m' ((c.tc : Thread Cert.PostReferenceIdeal.nD Cert.PostReferenceIdeal.τ).loc Cert.PostReferenceIdeal.main_arg2) = m ((c.tc : Thread Cert.PostIdeal.nD Cert.PostIdeal.τ).loc Cert.PostIdeal.main_arg2)
      ∧ m' ((c.tc : Thread Cert.PostReferenceIdeal.nD Cert.PostReferenceIdeal.τ).loc Cert.PostReferenceIdeal.main_arg3) = m ((c.tc : Thread Cert.PostIdeal.nD Cert.PostIdeal.τ).loc Cert.PostIdeal.main_arg3)
      ∧ m' ((c.tc : Thread Cert.PostReferenceIdeal.nD Cert.PostReferenceIdeal.τ).loc Cert.PostReferenceIdeal.main_arg4) = m ((c.tc : Thread Cert.PostIdeal.nD Cert.PostIdeal.τ).loc Cert.PostIdeal.main_arg4)
      ∧ m' ((c.tc : Thread Cert.PostReferenceIdeal.nD Cert.PostReferenceIdeal.τ).loc Cert.PostReferenceIdeal.main_arg5) = m ((c.tc : Thread Cert.PostIdeal.nD Cert.PostIdeal.τ).loc Cert.PostIdeal.main_arg5)
      ∧ m' ((c.tc : Thread Cert.PostReferenceIdeal.nD Cert.PostReferenceIdeal.τ).loc Cert.PostReferenceIdeal.main_arg6) = m ((c.tc : Thread Cert.PostIdeal.nD Cert.PostIdeal.τ).loc Cert.PostIdeal.main_arg6)
      ∧ m' ((c.tc : Thread Cert.PostReferenceIdeal.nD Cert.PostReferenceIdeal.τ).loc Cert.PostReferenceIdeal.main_arg7) = m ((c.tc : Thread Cert.PostIdeal.nD Cert.PostIdeal.τ).loc Cert.PostIdeal.main_arg7)) →
    ∃ (v0 : (c : Dev Cert.PostIdeal.nD) → Buf (Elt Ideal) ((c.tc : Thread Cert.PostIdeal.nD Cert.PostIdeal.τ).loc Cert.PostIdeal.main_v4)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v4) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v34) = v0 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5)
          ∧ r.2.mem ((c.tc : Thread Cert.PostReferenceIdeal.nD Cert.PostReferenceIdeal.τ).loc Cert.PostReferenceIdeal.main_arg6) = m' ((c.tc : Thread Cert.PostReferenceIdeal.nD Cert.PostReferenceIdeal.τ).loc Cert.PostReferenceIdeal.main_arg6)
          ∧ r.2.mem ((c.tc : Thread Cert.PostReferenceIdeal.nD Cert.PostReferenceIdeal.τ).loc Cert.PostReferenceIdeal.main_arg7) = m' ((c.tc : Thread Cert.PostReferenceIdeal.nD Cert.PostReferenceIdeal.τ).loc Cert.PostReferenceIdeal.main_arg7))

def preserves_Next_NextIdeal : Prop :=
  True

def algebraic_NextIdeal_NextReferenceIdeal_pre_types_in_range_next [hNextIdeal : Cert.NextIdeal.Facts] [hNextReferenceIdeal : Cert.NextReferenceIdeal.Facts] [hPre_types_in_range_next : Cert.Pre_types_in_range_next.Facts] : Prop :=
  ∀ (m : (ℓ : Loc Cert.NextIdeal.nD Cert.NextIdeal.τ Cert.NextIdeal.sig) → Buf (Elt Ideal) ℓ) (g : Dev Cert.NextIdeal.nD → PrngReg)
    (m' : (ℓ : Loc Cert.NextReferenceIdeal.nD Cert.NextReferenceIdeal.τ Cert.NextReferenceIdeal.sig) → Buf (Elt Ideal) ℓ) (g' : Dev Cert.NextReferenceIdeal.nD → PrngReg), Pre_NextIdeal_types_in_range_next m →
    (∀ c : Dev Cert.NextIdeal.nD,
      m' ((c.tc : Thread Cert.NextReferenceIdeal.nD Cert.NextReferenceIdeal.τ).loc Cert.NextReferenceIdeal.main_arg0) = m ((c.tc : Thread Cert.NextIdeal.nD Cert.NextIdeal.τ).loc Cert.NextIdeal.main_arg0)
      ∧ m' ((c.tc : Thread Cert.NextReferenceIdeal.nD Cert.NextReferenceIdeal.τ).loc Cert.NextReferenceIdeal.main_arg1) = m ((c.tc : Thread Cert.NextIdeal.nD Cert.NextIdeal.τ).loc Cert.NextIdeal.main_arg1)
      ∧ m' ((c.tc : Thread Cert.NextReferenceIdeal.nD Cert.NextReferenceIdeal.τ).loc Cert.NextReferenceIdeal.main_arg2) = m ((c.tc : Thread Cert.NextIdeal.nD Cert.NextIdeal.τ).loc Cert.NextIdeal.main_arg2)
      ∧ m' ((c.tc : Thread Cert.NextReferenceIdeal.nD Cert.NextReferenceIdeal.τ).loc Cert.NextReferenceIdeal.main_arg3) = m ((c.tc : Thread Cert.NextIdeal.nD Cert.NextIdeal.τ).loc Cert.NextIdeal.main_arg3)
      ∧ m' ((c.tc : Thread Cert.NextReferenceIdeal.nD Cert.NextReferenceIdeal.τ).loc Cert.NextReferenceIdeal.main_arg4) = m ((c.tc : Thread Cert.NextIdeal.nD Cert.NextIdeal.τ).loc Cert.NextIdeal.main_arg4)
      ∧ m' ((c.tc : Thread Cert.NextReferenceIdeal.nD Cert.NextReferenceIdeal.τ).loc Cert.NextReferenceIdeal.main_arg5) = m ((c.tc : Thread Cert.NextIdeal.nD Cert.NextIdeal.τ).loc Cert.NextIdeal.main_arg5)
      ∧ m' ((c.tc : Thread Cert.NextReferenceIdeal.nD Cert.NextReferenceIdeal.τ).loc Cert.NextReferenceIdeal.main_arg6) = m ((c.tc : Thread Cert.NextIdeal.nD Cert.NextIdeal.τ).loc Cert.NextIdeal.main_arg6)
      ∧ m' ((c.tc : Thread Cert.NextReferenceIdeal.nD Cert.NextReferenceIdeal.τ).loc Cert.NextReferenceIdeal.main_arg7) = m ((c.tc : Thread Cert.NextIdeal.nD Cert.NextIdeal.τ).loc Cert.NextIdeal.main_arg7)
      ∧ m' ((c.tc : Thread Cert.NextReferenceIdeal.nD Cert.NextReferenceIdeal.τ).loc Cert.NextReferenceIdeal.main_arg8) = m ((c.tc : Thread Cert.NextIdeal.nD Cert.NextIdeal.τ).loc Cert.NextIdeal.main_arg8)) →
    ∃ (v0 : (c : Dev Cert.NextIdeal.nD) → Buf (Elt Ideal) ((c.tc : Thread Cert.NextIdeal.nD Cert.NextIdeal.τ).loc Cert.NextIdeal.main_v4)),
      θ_run (Cert.NextIdeal.defs (F := Ideal)) (onTc (τ := Cert.NextIdeal.τ) (Cert.NextIdeal.main (F := Ideal))) ⟨m, fun _ => 0, g⟩ (fun r => ∀ c : Dev Cert.NextIdeal.nD,
          r.2.mem ((c.tc : Thread Cert.NextIdeal.nD Cert.NextIdeal.τ).loc Cert.NextIdeal.main_v4) = v0 c
          ∧ r.2.mem ((c.tc : Thread Cert.NextIdeal.nD Cert.NextIdeal.τ).loc Cert.NextIdeal.main_arg0) = m ((c.tc : Thread Cert.NextIdeal.nD Cert.NextIdeal.τ).loc Cert.NextIdeal.main_arg0)
          ∧ r.2.mem ((c.tc : Thread Cert.NextIdeal.nD Cert.NextIdeal.τ).loc Cert.NextIdeal.main_arg1) = m ((c.tc : Thread Cert.NextIdeal.nD Cert.NextIdeal.τ).loc Cert.NextIdeal.main_arg1)
          ∧ r.2.mem ((c.tc : Thread Cert.NextIdeal.nD Cert.NextIdeal.τ).loc Cert.NextIdeal.main_arg2) = m ((c.tc : Thread Cert.NextIdeal.nD Cert.NextIdeal.τ).loc Cert.NextIdeal.main_arg2)
          ∧ r.2.mem ((c.tc : Thread Cert.NextIdeal.nD Cert.NextIdeal.τ).loc Cert.NextIdeal.main_arg3) = m ((c.tc : Thread Cert.NextIdeal.nD Cert.NextIdeal.τ).loc Cert.NextIdeal.main_arg3)
          ∧ r.2.mem ((c.tc : Thread Cert.NextIdeal.nD Cert.NextIdeal.τ).loc Cert.NextIdeal.main_arg4) = m ((c.tc : Thread Cert.NextIdeal.nD Cert.NextIdeal.τ).loc Cert.NextIdeal.main_arg4)
          ∧ r.2.mem ((c.tc : Thread Cert.NextIdeal.nD Cert.NextIdeal.τ).loc Cert.NextIdeal.main_arg5) = m ((c.tc : Thread Cert.NextIdeal.nD Cert.NextIdeal.τ).loc Cert.NextIdeal.main_arg5)
          ∧ r.2.mem ((c.tc : Thread Cert.NextIdeal.nD Cert.NextIdeal.τ).loc Cert.NextIdeal.main_arg6) = m ((c.tc : Thread Cert.NextIdeal.nD Cert.NextIdeal.τ).loc Cert.NextIdeal.main_arg6)
          ∧ r.2.mem ((c.tc : Thread Cert.NextIdeal.nD Cert.NextIdeal.τ).loc Cert.NextIdeal.main_arg7) = m ((c.tc : Thread Cert.NextIdeal.nD Cert.NextIdeal.τ).loc Cert.NextIdeal.main_arg7)
          ∧ r.2.mem ((c.tc : Thread Cert.NextIdeal.nD Cert.NextIdeal.τ).loc Cert.NextIdeal.main_arg8) = m ((c.tc : Thread Cert.NextIdeal.nD Cert.NextIdeal.τ).loc Cert.NextIdeal.main_arg8))
      ∧ θ_run (Cert.NextReferenceIdeal.defs (F := Ideal)) (onTc (τ := Cert.NextReferenceIdeal.τ) (Cert.NextReferenceIdeal.main (F := Ideal))) ⟨m', fun _ => 0, g'⟩ (fun r => ∀ c : Dev Cert.NextReferenceIdeal.nD,
          r.2.mem ((c.tc : Thread Cert.NextReferenceIdeal.nD Cert.NextReferenceIdeal.τ).loc Cert.NextReferenceIdeal.main_v36) = v0 c
          ∧ r.2.mem ((c.tc : Thread Cert.NextReferenceIdeal.nD Cert.NextReferenceIdeal.τ).loc Cert.NextReferenceIdeal.main_arg0) = m' ((c.tc : Thread Cert.NextReferenceIdeal.nD Cert.NextReferenceIdeal.τ).loc Cert.NextReferenceIdeal.main_arg0)
          ∧ r.2.mem ((c.tc : Thread Cert.NextReferenceIdeal.nD Cert.NextReferenceIdeal.τ).loc Cert.NextReferenceIdeal.main_arg1) = m' ((c.tc : Thread Cert.NextReferenceIdeal.nD Cert.NextReferenceIdeal.τ).loc Cert.NextReferenceIdeal.main_arg1)
          ∧ r.2.mem ((c.tc : Thread Cert.NextReferenceIdeal.nD Cert.NextReferenceIdeal.τ).loc Cert.NextReferenceIdeal.main_arg2) = m' ((c.tc : Thread Cert.NextReferenceIdeal.nD Cert.NextReferenceIdeal.τ).loc Cert.NextReferenceIdeal.main_arg2)
          ∧ r.2.mem ((c.tc : Thread Cert.NextReferenceIdeal.nD Cert.NextReferenceIdeal.τ).loc Cert.NextReferenceIdeal.main_arg3) = m' ((c.tc : Thread Cert.NextReferenceIdeal.nD Cert.NextReferenceIdeal.τ).loc Cert.NextReferenceIdeal.main_arg3)
          ∧ r.2.mem ((c.tc : Thread Cert.NextReferenceIdeal.nD Cert.NextReferenceIdeal.τ).loc Cert.NextReferenceIdeal.main_arg4) = m' ((c.tc : Thread Cert.NextReferenceIdeal.nD Cert.NextReferenceIdeal.τ).loc Cert.NextReferenceIdeal.main_arg4)
          ∧ r.2.mem ((c.tc : Thread Cert.NextReferenceIdeal.nD Cert.NextReferenceIdeal.τ).loc Cert.NextReferenceIdeal.main_arg5) = m' ((c.tc : Thread Cert.NextReferenceIdeal.nD Cert.NextReferenceIdeal.τ).loc Cert.NextReferenceIdeal.main_arg5)
          ∧ r.2.mem ((c.tc : Thread Cert.NextReferenceIdeal.nD Cert.NextReferenceIdeal.τ).loc Cert.NextReferenceIdeal.main_arg6) = m' ((c.tc : Thread Cert.NextReferenceIdeal.nD Cert.NextReferenceIdeal.τ).loc Cert.NextReferenceIdeal.main_arg6)
          ∧ r.2.mem ((c.tc : Thread Cert.NextReferenceIdeal.nD Cert.NextReferenceIdeal.τ).loc Cert.NextReferenceIdeal.main_arg7) = m' ((c.tc : Thread Cert.NextReferenceIdeal.nD Cert.NextReferenceIdeal.τ).loc Cert.NextReferenceIdeal.main_arg7)
          ∧ r.2.mem ((c.tc : Thread Cert.NextReferenceIdeal.nD Cert.NextReferenceIdeal.τ).loc Cert.NextReferenceIdeal.main_arg8) = m' ((c.tc : Thread Cert.NextReferenceIdeal.nD Cert.NextReferenceIdeal.τ).loc Cert.NextReferenceIdeal.main_arg8))

def Claim : Prop :=
  ∃ (hKernel : Cert.Kernel.Facts) (hKernelIdeal : Cert.KernelIdeal.Facts) (hReferenceIdeal : Cert.ReferenceIdeal.Facts) (hReference : Cert.Reference.Facts) (hNode : Cert.Node.Facts) (hNodeIdeal : Cert.NodeIdeal.Facts) (hNodeReferenceIdeal : Cert.NodeReferenceIdeal.Facts) (hEdge : Cert.Edge.Facts) (hEdgeIdeal : Cert.EdgeIdeal.Facts) (hEdgeReferenceIdeal : Cert.EdgeReferenceIdeal.Facts) (hPost : Cert.Post.Facts) (hPostIdeal : Cert.PostIdeal.Facts) (hPostReferenceIdeal : Cert.PostReferenceIdeal.Facts) (hNext : Cert.Next.Facts) (hNextIdeal : Cert.NextIdeal.Facts) (hNextReferenceIdeal : Cert.NextReferenceIdeal.Facts) (hPre_types_in_range : Cert.Pre_types_in_range.Facts) (hPre_types_in_range_next : Cert.Pre_types_in_range_next.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Node (hNode := hNode)
    ∧ quiescent_NodeIdeal (hNodeIdeal := hNodeIdeal)
    ∧ quiescent_NodeReferenceIdeal (hNodeReferenceIdeal := hNodeReferenceIdeal)
    ∧ quiescent_Edge (hEdge := hEdge)
    ∧ quiescent_EdgeIdeal (hEdgeIdeal := hEdgeIdeal)
    ∧ quiescent_EdgeReferenceIdeal (hEdgeReferenceIdeal := hEdgeReferenceIdeal)
    ∧ quiescent_Post (hPost := hPost)
    ∧ quiescent_PostIdeal (hPostIdeal := hPostIdeal)
    ∧ quiescent_PostIdeal_pre_types_in_range (hPostIdeal := hPostIdeal) (hPre_types_in_range := hPre_types_in_range)
    ∧ quiescent_PostReferenceIdeal (hPostReferenceIdeal := hPostReferenceIdeal)
    ∧ quiescent_PostReferenceIdeal_pre_types_in_range (hPostReferenceIdeal := hPostReferenceIdeal) (hPre_types_in_range := hPre_types_in_range)
    ∧ quiescent_Next (hNext := hNext)
    ∧ quiescent_NextIdeal (hNextIdeal := hNextIdeal)
    ∧ quiescent_NextIdeal_pre_types_in_range_next (hNextIdeal := hNextIdeal) (hPre_types_in_range_next := hPre_types_in_range_next)
    ∧ quiescent_NextReferenceIdeal (hNextReferenceIdeal := hNextReferenceIdeal)
    ∧ quiescent_NextReferenceIdeal_pre_types_in_range_next (hNextReferenceIdeal := hNextReferenceIdeal) (hPre_types_in_range_next := hPre_types_in_range_next)
    ∧ preserves_Kernel_KernelIdeal
    ∧ bitexact_Kernel_Reference (hKernel := hKernel) (hReference := hReference)
    ∧ algebraic_KernelIdeal_ReferenceIdeal (hKernelIdeal := hKernelIdeal) (hReferenceIdeal := hReferenceIdeal)
    ∧ preserves_Node_NodeIdeal
    ∧ algebraic_NodeIdeal_NodeReferenceIdeal (hNodeIdeal := hNodeIdeal) (hNodeReferenceIdeal := hNodeReferenceIdeal)
    ∧ preserves_Edge_EdgeIdeal
    ∧ algebraic_EdgeIdeal_EdgeReferenceIdeal (hEdgeIdeal := hEdgeIdeal) (hEdgeReferenceIdeal := hEdgeReferenceIdeal)
    ∧ preserves_Post_PostIdeal
    ∧ algebraic_PostIdeal_PostReferenceIdeal_pre_types_in_range (hPostIdeal := hPostIdeal) (hPostReferenceIdeal := hPostReferenceIdeal) (hPre_types_in_range := hPre_types_in_range)
    ∧ preserves_Next_NextIdeal
    ∧ algebraic_NextIdeal_NextReferenceIdeal_pre_types_in_range_next (hNextIdeal := hNextIdeal) (hNextReferenceIdeal := hNextReferenceIdeal) (hPre_types_in_range_next := hPre_types_in_range_next)
-- ==== Pre_types_in_range.lean ====
abbrev S10240x128 : Shape := ⟨2, ![10240, 128]⟩
abbrev S10240 : Shape := ⟨1, ![10240]⟩
abbrev S20x512x128 : Shape := ⟨3, ![20, 512, 128]⟩
abbrev S20x128 : Shape := ⟨2, ![20, 128]⟩
abbrev S_ : Shape := ⟨0, ![]⟩

class Facts : Prop where
  bcast_S_S10240 : S_.BroadcastsInDim S10240 (![] : Fin 0 → Fin S10240.rank)
  reducesTo_S10240_S_d0 : S10240.ReducesTo [0] S_
  h_S_ : 0 < S_.numel

variable [Facts]

def fn {F : FTy → Type} [FloatOps F] (main_arg0 : FVec F S10240x128 .f32) (main_arg1 : FVec F S10240x128 .f32) (main_arg2 : FVec F S10240x128 .f32) (main_arg3 : FVec F S10240x128 .f32) (main_arg4 : FVec F S10240 .f32) (main_arg5 : IVec S10240 32) (main_arg6 : FVec F S20x512x128 .f32) (main_arg7 : FVec F S20x128 .f32) : IVec S_ 1 :=
  let main_c : IVec S_ 32 := constantI S_ 32 0#32
  let main_v0 : IVec S10240 32 := broadcastInDim S10240 ![] bcast_S_S10240 main_c
  let main_v1 : IVec S10240 1 := cmpi .sge main_arg5 main_v0
  let main_c_0 : IVec S_ 32 := constantI S_ 32 20#32
  let main_v2 : IVec S10240 32 := broadcastInDim S10240 ![] bcast_S_S10240 main_c_0
  let main_v3 : IVec S10240 1 := cmpi .slt main_arg5 main_v2
  let main_v4 : IVec S10240 1 := andi main_v1 main_v3
  let main_c_1 : IVec S_ 1 := constantI S_ 1 1#1
  let main_v5 : IVec S_ 1 := (fun x v => Host.reduce IntOp.andi x v reducesTo_S10240_S_d0 h_S_) main_v4 main_c_1
  main_v5
-- ==== Pre_types_in_range_next.lean ====
abbrev S10240x128 : Shape := ⟨2, ![10240, 128]⟩
abbrev S10240 : Shape := ⟨1, ![10240]⟩
abbrev S20x512x128 : Shape := ⟨3, ![20, 512, 128]⟩
abbrev S20x128 : Shape := ⟨2, ![20, 128]⟩
abbrev S128x128 : Shape := ⟨2, ![128, 128]⟩
abbrev S_ : Shape := ⟨0, ![]⟩

class Facts : Prop where
  bcast_S_S10240 : S_.BroadcastsInDim S10240 (![] : Fin 0 → Fin S10240.rank)
  reducesTo_S10240_S_d0 : S10240.ReducesTo [0] S_
  h_S_ : 0 < S_.numel

variable [Facts]

def fn {F : FTy → Type} [FloatOps F] (main_arg0 : FVec F S10240x128 .f32) (main_arg1 : FVec F S10240x128 .f32) (main_arg2 : FVec F S10240x128 .f32) (main_arg3 : FVec F S10240x128 .f32) (main_arg4 : FVec F S10240 .f32) (main_arg5 : IVec S10240 32) (main_arg6 : FVec F S20x512x128 .f32) (main_arg7 : FVec F S20x128 .f32) (main_arg8 : FVec F S128x128 .f32) : IVec S_ 1 :=
  let main_c : IVec S_ 32 := constantI S_ 32 0#32
  let main_v0 : IVec S10240 32 := broadcastInDim S10240 ![] bcast_S_S10240 main_c
  let main_v1 : IVec S10240 1 := cmpi .sge main_arg5 main_v0
  let main_c_0 : IVec S_ 32 := constantI S_ 32 20#32
  let main_v2 : IVec S10240 32 := broadcastInDim S10240 ![] bcast_S_S10240 main_c_0
  let main_v3 : IVec S10240 1 := cmpi .slt main_arg5 main_v2
  let main_v4 : IVec S10240 1 := andi main_v1 main_v3
  let main_c_1 : IVec S_ 1 := constantI S_ 1 1#1
  let main_v5 : IVec S_ 1 := (fun x v => Host.reduce IntOp.andi x v reducesTo_S10240_S_d0 h_S_) main_v4 main_c_1
  main_v5
-- ==== Kernel.lean ====
abbrev S2x320000 : Shape := ⟨2, ![2, 320000]⟩
abbrev S1x320000 : Shape := ⟨2, ![1, 320000]⟩
abbrev S320000 : Shape := ⟨1, ![320000]⟩
abbrev S21004288 : Shape := ⟨1, ![21004288]⟩
abbrev S1024 : Shape := ⟨1, ![1024]⟩
abbrev S4000 : Shape := ⟨1, ![4000]⟩
abbrev S4048 : Shape := ⟨1, ![4048]⟩
abbrev S16 : Shape := ⟨1, ![16]⟩
abbrev S_ : Shape := ⟨0, ![]⟩
abbrev S1 : Shape := ⟨1, ![1]⟩
abbrev S4032 : Shape := ⟨1, ![4032]⟩
abbrev S64x16 : Shape := ⟨2, ![64, 16]⟩
abbrev S328192 : Shape := ⟨1, ![328192]⟩
abbrev S1x328192 : Shape := ⟨2, ![1, 328192]⟩
abbrev S64x1 : Shape := ⟨2, ![64, 1]⟩
abbrev S64x328192 : Shape := ⟨2, ![64, 328192]⟩

abbrev nBuf : Table → Nat
  | .hbm => 28
  | .local .scVector .vmem => 7
  | _ => 0

abbrev bufTy : (tb : Table) → Fin (nBuf tb) → BufTy
  | .hbm, ⟨0, _⟩ => ⟨S2x320000, .i32⟩
  | .hbm, ⟨1, _⟩ => ⟨S1x320000, .i32⟩
  | .hbm, ⟨2, _⟩ => ⟨S320000, .i32⟩
  | .hbm, ⟨3, _⟩ => ⟨S1x320000, .i32⟩
  | .hbm, ⟨4, _⟩ => ⟨S320000, .i32⟩
  | .hbm, ⟨5, _⟩ => ⟨S21004288, .i32⟩
  | .hbm, ⟨6, _⟩ => ⟨S21004288, .i32⟩
  | .hbm, ⟨7, _⟩ => ⟨S1024, .i32⟩
  | .hbm, ⟨8, _⟩ => ⟨S64x16, .i32⟩
  | .hbm, ⟨9, _⟩ => ⟨S328192, .i32⟩
  | .hbm, ⟨10, _⟩ => ⟨S1x328192, .i32⟩
  | .hbm, ⟨11, _⟩ => ⟨S64x1, .i32⟩
  | .hbm, ⟨12, _⟩ => ⟨S_, .i32⟩
  | .hbm, ⟨13, _⟩ => ⟨S64x1, .i32⟩
  | .hbm, ⟨14, _⟩ => ⟨S64x1, .i32⟩
  | .hbm, ⟨15, _⟩ => ⟨S64x328192, .i32⟩
  | .hbm, ⟨16, _⟩ => ⟨S64x328192, .i32⟩
  | .hbm, ⟨17, _⟩ => ⟨S64x328192, .i1⟩
  | .hbm, ⟨18, _⟩ => ⟨S64x328192, .i32⟩
  | .hbm, ⟨19, _⟩ => ⟨S_, .i32⟩
  | .hbm, ⟨20, _⟩ => ⟨S_, .i32⟩
  | .hbm, ⟨21, _⟩ => ⟨S64x328192, .i32⟩
  | .hbm, ⟨22, _⟩ => ⟨S64x328192, .i32⟩
  | .hbm, ⟨23, _⟩ => ⟨S64x328192, .i32⟩
  | .hbm, ⟨24, _⟩ => ⟨S_, .i32⟩
  | .hbm, ⟨25, _⟩ => ⟨S_, .i32⟩
  | .hbm, ⟨26, _⟩ => ⟨S64x328192, .i32⟩
  | .hbm, ⟨27, _⟩ => ⟨S64x328192, .i32⟩
  | .local .scVector .vmem, ⟨0, _⟩ => ⟨S4000, .i32⟩
  | .local .scVector .vmem, ⟨1, _⟩ => ⟨S4000, .i32⟩
  | .local .scVector .vmem, ⟨2, _⟩ => ⟨S4048, .i32⟩
  | .local .scVector .vmem, ⟨3, _⟩ => ⟨S4048, .i32⟩
  | .local .scVector .vmem, ⟨4, _⟩ => ⟨S4048, .i32⟩
  | .local .scVector .vmem, ⟨5, _⟩ => ⟨S4048, .i32⟩
  | .local .scVector .vmem, ⟨6, _⟩ => ⟨S16, .i32⟩
  | _, _ => ⟨S2x320000, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4_0 : Ref sig .tc := ⟨.hbm, 5, rfl⟩
abbrev main_v4_1 : Ref sig .tc := ⟨.hbm, 6, rfl⟩
abbrev main_v4_2 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c_0 : Ref sig .tc := ⟨.hbm, 19, rfl⟩
abbrev main_call0_v0 : Ref sig .tc := ⟨.hbm, 20, rfl⟩
abbrev main_call0_v1 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_call1_v0 : Ref sig .tc := ⟨.hbm, 25, rfl⟩
abbrev main_call1_v1 : Ref sig .tc := ⟨.hbm, 26, rfl⟩
abbrev main_v17 : Ref sig .tc := ⟨.hbm, 27, rfl⟩
abbrev main_v1_scv : Ref sig .scVector := ⟨.hbm, 2, rfl⟩
abbrev main_v3_scv : Ref sig .scVector := ⟨.hbm, 4, rfl⟩
abbrev main_v4_0_scv : Ref sig .scVector := ⟨.hbm, 5, rfl⟩
abbrev main_v4_1_scv : Ref sig .scVector := ⟨.hbm, 6, rfl⟩
abbrev main_v4_2_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_4 : BitVec 32 := 0#32
  let c253_i32 : BitVec 32 := 253#32
  let v10 : BitVec 32 := Scalar.addi c0_i32_4 c253_i32
  let c1_i32_5 : BitVec 32 := 1#32
  ⟨c0_i32_4, v10, c1_i32_5⟩
def k0_off1 (k0_t1 : Fin k0_t1_loop.trips) : Fin 1 → Nat :=
  let c0_i32_4 : BitVec 32 := 0#32
  let c1_i32_5 : BitVec 32 := 1#32
  let arg14 : BitVec 32 := Scf.iv c0_i32_4 c1_i32_5 k0_t1
  let c16_i32_22 : BitVec 32 := 16#32
  let v31 : BitVec 32 := Scalar.muli arg14 c16_i32_22
  let v32 : Index := Scalar.indexCast v31
  ![v32.toNat]
@[reducible] def k0_t2_loop : Scf.Loop 32 :=
  let c0_i32_9 : BitVec 32 := 0#32
  let c80_i32 : BitVec 32 := 80#32
  let v12 : BitVec 32 := Scalar.addi c0_i32_9 c80_i32
  let c1_i32_10 : BitVec 32 := 1#32
  ⟨c0_i32_9, v12, c1_i32_10⟩
def k0_off2 (k0_t2 : Fin k0_t2_loop.trips) : Fin 1 → Nat :=
  let c0_i32_9 : BitVec 32 := 0#32
  let c1_i32_10 : BitVec 32 := 1#32
  let arg14 : BitVec 32 := Scf.iv c0_i32_9 c1_i32_10 k0_t2
  let c4000_i32 : BitVec 32 := 4000#32
  let v31 : BitVec 32 := Scalar.muli arg14 c4000_i32
  ![v31.toNat]
@[reducible] def k0_t3_loop : Scf.Loop 32 :=
  let c0_i32_25 : BitVec 32 := 0#32
  let c250_i32 : BitVec 32 := 250#32
  let v33 : BitVec 32 := Scalar.addi c0_i32_25 c250_i32
  let c1_i32_26 : BitVec 32 := 1#32
  ⟨c0_i32_25, v33, c1_i32_26⟩
def k0_off3 (k0_t3 : Fin k0_t3_loop.trips) : Fin 1 → Nat :=
  let c0_i32_25 : BitVec 32 := 0#32
  let c1_i32_26 : BitVec 32 := 1#32
  let arg17 : BitVec 32 := Scf.iv c0_i32_25 c1_i32_26 k0_t3
  let c16_i32_32 : BitVec 32 := 16#32
  let v55 : BitVec 32 := Scalar.muli arg17 c16_i32_32
  let v56 : Index := Scalar.indexCast v55
  ![v56.toNat]

def k0_chk1 (v97 : IVec S16 32) : Prop :=
  (∀ a x, ((![v97] : Fin 1 → IVec S16 32) a x).toNat < S4048.size a) ∧
  (∀ a x, ((![v97] : Fin 1 → IVec S16 32) a x).toNat < S4048.size a)
theorem k0_idx1_inb : ∀ (v97 : IVec S16 32) (k0_hw1 : k0_chk1 v97), ∀ a x, ((![v97] : Fin 1 → IVec S16 32) a x).toNat < S4048.size a := fun v97 k0_hw1 => k0_hw1.1
theorem k0_idx2_inb : ∀ (v97 : IVec S16 32) (k0_hw1 : k0_chk1 v97), ∀ a x, ((![v97] : Fin 1 → IVec S16 32) a x).toNat < S4048.size a := fun v97 k0_hw1 => k0_hw1.2

def k0_chk2 (v103 : IVec S16 32) : Prop :=
  (∀ a x, ((![v103] : Fin 1 → IVec S16 32) a x).toNat < S4048.size a) ∧
  (∀ a x, ((![v103] : Fin 1 → IVec S16 32) a x).toNat < S4048.size a)
theorem k0_idx3_inb : ∀ (v103 : IVec S16 32) (k0_hw2 : k0_chk2 v103), ∀ a x, ((![v103] : Fin 1 → IVec S16 32) a x).toNat < S4048.size a := fun v103 k0_hw2 => k0_hw2.1
theorem k0_idx4_inb : ∀ (v103 : IVec S16 32) (k0_hw2 : k0_chk2 v103), ∀ a x, ((![v103] : Fin 1 → IVec S16 32) a x).toNat < S4048.size a := fun v103 k0_hw2 => k0_hw2.2
def k0_off4 (v34_0 : BitVec 32) : Fin 1 → Nat :=
  let v35 : Index := Scalar.indexCast v34_0
  ![v35.toNat]

def k0_chk3 (v34_0 : BitVec 32) : Prop :=
  (∀ a, (k0_off4 v34_0) a + S16.size a ≤ S4048.size a)
theorem k0_off4_inb : ∀ (v34_0 : BitVec 32) (k0_hw3 : k0_chk3 v34_0), ∀ a, (k0_off4 v34_0) a + S16.size a ≤ S4048.size a := fun v34_0 k0_hw3 => k0_hw3

def k0_off5 (v34_1 : BitVec 32) : Fin 1 → Nat :=
  let v39 : Index := Scalar.indexCast v34_1
  ![v39.toNat]

def k0_chk4 (v34_1 : BitVec 32) : Prop :=
  (∀ a, (k0_off5 v34_1) a + S16.size a ≤ S4048.size a)
theorem k0_off5_inb : ∀ (v34_1 : BitVec 32) (k0_hw4 : k0_chk4 v34_1), ∀ a, (k0_off5 v34_1) a + S16.size a ≤ S4048.size a := fun v34_1 k0_hw4 => k0_hw4

def k0_mult1 (i : grid0.Coords) (arg15 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c328192_i32_28 : BitVec 32 := 328192#32
  let v43 : BitVec 32 := Scalar.muli v2 c328192_i32_28
  let v44 : BitVec 32 := Scalar.addi v43 arg15
  v44

def k0_mult2 (i : grid0.Coords) (arg16 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1 : BitVec 32 := 2#32
  let v3 : BitVec 32 := Scalar.muli v1 c2_i32_1
  let c1_i32 : BitVec 32 := 1#32
  let v4 : BitVec 32 := Scalar.addi v3 c1_i32
  let c328192_i32_29 : BitVec 32 := 328192#32
  let v46 : BitVec 32 := Scalar.muli v4 c328192_i32_29
  let v47 : BitVec 32 := Scalar.addi v46 arg16
  v47

def k0_off6 (i : grid0.Coords) (arg15 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c328192_i32_28 : BitVec 32 := 328192#32
  let v43 : BitVec 32 := Scalar.muli v2 c328192_i32_28
  let v44 : BitVec 32 := Scalar.addi v43 arg15
  let v45 : BitVec 32 := v44
  ![v45.toNat]

def k0_chk5 (i : grid0.Coords) (arg15 : BitVec 32) : Prop :=
  (8 ∣ (k0_mult1 i arg15).toNat) ∧
  (∀ a, (k0_off6 i arg15) a + S4032.size a ≤ S21004288.size a)
theorem k0_mult1_dvd : ∀ (i : grid0.Coords) (arg15 : BitVec 32) (k0_hw5 : k0_chk5 i arg15), 8 ∣ (k0_mult1 i arg15).toNat := fun i arg15 k0_hw5 => k0_hw5.1
theorem k0_off6_inb : ∀ (i : grid0.Coords) (arg15 : BitVec 32) (k0_hw5 : k0_chk5 i arg15), ∀ a, (k0_off6 i arg15) a + S4032.size a ≤ S21004288.size a := fun i arg15 k0_hw5 => k0_hw5.2

def k0_off7 (i : grid0.Coords) (arg16 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1 : BitVec 32 := 2#32
  let v3 : BitVec 32 := Scalar.muli v1 c2_i32_1
  let c1_i32 : BitVec 32 := 1#32
  let v4 : BitVec 32 := Scalar.addi v3 c1_i32
  let c328192_i32_29 : BitVec 32 := 328192#32
  let v46 : BitVec 32 := Scalar.muli v4 c328192_i32_29
  let v47 : BitVec 32 := Scalar.addi v46 arg16
  let v48 : BitVec 32 := v47
  ![v48.toNat]

def k0_chk6 (i : grid0.Coords) (arg16 : BitVec 32) : Prop :=
  (8 ∣ (k0_mult2 i arg16).toNat) ∧
  (∀ a, (k0_off7 i arg16) a + S4032.size a ≤ S21004288.size a)
theorem k0_mult2_dvd : ∀ (i : grid0.Coords) (arg16 : BitVec 32) (k0_hw6 : k0_chk6 i arg16), 8 ∣ (k0_mult2 i arg16).toNat := fun i arg16 k0_hw6 => k0_hw6.1
theorem k0_off7_inb : ∀ (i : grid0.Coords) (arg16 : BitVec 32) (k0_hw6 : k0_chk6 i arg16), ∀ a, (k0_off7 i arg16) a + S4032.size a ≤ S21004288.size a := fun i arg16 k0_hw6 => k0_hw6.2

@[reducible] def k0_t4_loop : Scf.Loop 32 :=
  let c0_i32_13 : BitVec 32 := 0#32
  let c253_i32_14 : BitVec 32 := 253#32
  let v14 : BitVec 32 := Scalar.addi c0_i32_13 c253_i32_14
  let c1_i32_15 : BitVec 32 := 1#32
  ⟨c0_i32_13, v14, c1_i32_15⟩
def k0_off8 (k0_t4 : Fin k0_t4_loop.trips) : Fin 1 → Nat :=
  let c0_i32_13 : BitVec 32 := 0#32
  let c1_i32_15 : BitVec 32 := 1#32
  let arg14 : BitVec 32 := Scf.iv c0_i32_13 c1_i32_15 k0_t4
  let c16_i32_22 : BitVec 32 := 16#32
  let v31 : BitVec 32 := Scalar.muli arg14 c16_i32_22
  let v32 : Index := Scalar.indexCast v31
  ![v32.toNat]
def k0_mult3 (i : grid0.Coords) (v13_0 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c328192_i32 : BitVec 32 := 328192#32
  let v15 : BitVec 32 := Scalar.muli v2 c328192_i32
  let v16 : BitVec 32 := Scalar.addi v15 v13_0
  v16

def k0_mult4 (i : grid0.Coords) (v13_1 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1 : BitVec 32 := 2#32
  let v3 : BitVec 32 := Scalar.muli v1 c2_i32_1
  let c1_i32 : BitVec 32 := 1#32
  let v4 : BitVec 32 := Scalar.addi v3 c1_i32
  let c328192_i32_17 : BitVec 32 := 328192#32
  let v18 : BitVec 32 := Scalar.muli v4 c328192_i32_17
  let v19 : BitVec 32 := Scalar.addi v18 v13_1
  v19

def k0_off9 (i : grid0.Coords) (v13_0 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c328192_i32 : BitVec 32 := 328192#32
  let v15 : BitVec 32 := Scalar.muli v2 c328192_i32
  let v16 : BitVec 32 := Scalar.addi v15 v13_0
  let v17 : BitVec 32 := v16
  ![v17.toNat]

def k0_chk7 (i : grid0.Coords) (v13_0 : BitVec 32) : Prop :=
  (8 ∣ (k0_mult3 i v13_0).toNat) ∧
  (∀ a, (k0_off9 i v13_0) a + S4032.size a ≤ S21004288.size a)
theorem k0_mult3_dvd : ∀ (i : grid0.Coords) (v13_0 : BitVec 32) (k0_hw7 : k0_chk7 i v13_0), 8 ∣ (k0_mult3 i v13_0).toNat := fun i v13_0 k0_hw7 => k0_hw7.1
theorem k0_off9_inb : ∀ (i : grid0.Coords) (v13_0 : BitVec 32) (k0_hw7 : k0_chk7 i v13_0), ∀ a, (k0_off9 i v13_0) a + S4032.size a ≤ S21004288.size a := fun i v13_0 k0_hw7 => k0_hw7.2

def k0_off10 (i : grid0.Coords) (v13_1 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1 : BitVec 32 := 2#32
  let v3 : BitVec 32 := Scalar.muli v1 c2_i32_1
  let c1_i32 : BitVec 32 := 1#32
  let v4 : BitVec 32 := Scalar.addi v3 c1_i32
  let c328192_i32_17 : BitVec 32 := 328192#32
  let v18 : BitVec 32 := Scalar.muli v4 c328192_i32_17
  let v19 : BitVec 32 := Scalar.addi v18 v13_1
  let v20 : BitVec 32 := v19
  ![v20.toNat]

def k0_chk8 (i : grid0.Coords) (v13_1 : BitVec 32) : Prop :=
  (8 ∣ (k0_mult4 i v13_1).toNat) ∧
  (∀ a, (k0_off10 i v13_1) a + S4032.size a ≤ S21004288.size a)
theorem k0_mult4_dvd : ∀ (i : grid0.Coords) (v13_1 : BitVec 32) (k0_hw8 : k0_chk8 i v13_1), 8 ∣ (k0_mult4 i v13_1).toNat := fun i v13_1 k0_hw8 => k0_hw8.1
theorem k0_off10_inb : ∀ (i : grid0.Coords) (v13_1 : BitVec 32) (k0_hw8 : k0_chk8 i v13_1), ∀ a, (k0_off10 i v13_1) a + S4032.size a ≤ S21004288.size a := fun i v13_1 k0_hw8 => k0_hw8.2

def k0_off11 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c16_i32 : BitVec 32 := 16#32
  let v25 : BitVec 32 := Scalar.muli v2 c16_i32
  ![v25.toNat]
def k0_off12 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1 : BitVec 32 := 2#32
  let v3 : BitVec 32 := Scalar.muli v1 c2_i32_1
  let c1_i32 : BitVec 32 := 1#32
  let v4 : BitVec 32 := Scalar.addi v3 c1_i32
  let c16_i32_21 : BitVec 32 := 16#32
  let v30 : BitVec 32 := Scalar.muli v4 c16_i32_21
  ![v30.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S2x320000 : Shape := ⟨2, ![2, 320000]⟩
abbrev S1x320000 : Shape := ⟨2, ![1, 320000]⟩
abbrev S320000 : Shape := ⟨1, ![320000]⟩
abbrev S64 : Shape := ⟨1, ![64]⟩
abbrev S64x1 : Shape := ⟨2, ![64, 1]⟩
abbrev S_ : Shape := ⟨0, ![]⟩
abbrev S64x320000 : Shape := ⟨2, ![64, 320000]⟩
abbrev S5120x4000 : Shape := ⟨2, ![5120, 4000]⟩
abbrev S5120x1 : Shape := ⟨2, ![5120, 1]⟩
abbrev S64x80 : Shape := ⟨2, ![64, 80]⟩
abbrev S328192 : Shape := ⟨1, ![328192]⟩
abbrev S1x328192 : Shape := ⟨2, ![1, 328192]⟩
abbrev S64x328192 : Shape := ⟨2, ![64, 328192]⟩
abbrev S64x320000x1 : Shape := ⟨3, ![64, 320000, 1]⟩
abbrev S64x320000x2 : Shape := ⟨3, ![64, 320000, 2]⟩
abbrev S64x16 : Shape := ⟨2, ![64, 16]⟩

abbrev nBuf : Space → Nat
  | .hbm => 136
  | .vmem => 0
  | .smem => 0
  | _ => 0

abbrev hbmTy0_0 (i : Nat) : BufTy := match i % 128 with
  | 0 => ⟨S2x320000, .i32⟩
  | 1 => ⟨S1x320000, .i32⟩
  | 2 => ⟨S320000, .i32⟩
  | 3 => ⟨S1x320000, .i32⟩
  | 4 => ⟨S320000, .i32⟩
  | 5 => ⟨S320000, .i32⟩
  | 6 => ⟨S64, .i32⟩
  | 7 => ⟨S64x1, .i32⟩
  | 8 => ⟨S_, .i32⟩
  | 9 => ⟨S64x1, .i32⟩
  | 10 => ⟨S64x1, .i32⟩
  | 11 => ⟨S1x320000, .i32⟩
  | 12 => ⟨S64x320000, .i32⟩
  | 13 => ⟨S64x320000, .i32⟩
  | 14 => ⟨S64x320000, .i1⟩
  | 15 => ⟨S_, .i32⟩
  | 16 => ⟨S64x1, .i32⟩
  | 17 => ⟨S64x1, .i32⟩
  | 18 => ⟨S1x320000, .i32⟩
  | 19 => ⟨S64x320000, .i32⟩
  | 20 => ⟨S64x320000, .i32⟩
  | 21 => ⟨S64x320000, .i1⟩
  | 22 => ⟨S64x320000, .i1⟩
  | 23 => ⟨S64x320000, .i32⟩
  | 24 => ⟨S5120x4000, .i32⟩
  | 25 => ⟨S_, .i32⟩
  | 26 => ⟨S_, .i32⟩
  | 27 => ⟨S5120x4000, .i32⟩
  | 28 => ⟨S5120x1, .i32⟩
  | 29 => ⟨S_, .i32⟩
  | 30 => ⟨S5120x1, .i32⟩
  | 31 => ⟨S5120x1, .i32⟩
  | 32 => ⟨S_, .i32⟩
  | 33 => ⟨S_, .i32⟩
  | 34 => ⟨S5120x1, .i32⟩
  | 35 => ⟨S5120x1, .i32⟩
  | 36 => ⟨S5120x1, .i32⟩
  | 37 => ⟨S_, .i32⟩
  | 38 => ⟨S5120x1, .i32⟩
  | 39 => ⟨S5120x1, .i1⟩
  | 40 => ⟨S5120x1, .i32⟩
  | 41 => ⟨S5120x1, .i32⟩
  | 42 => ⟨S_, .i32⟩
  | 43 => ⟨S5120x1, .i32⟩
  | 44 => ⟨S5120x1, .i1⟩
  | 45 => ⟨S5120x1, .i1⟩
  | 46 => ⟨S_, .i32⟩
  | 47 => ⟨S5120x1, .i32⟩
  | 48 => ⟨S5120x1, .i32⟩
  | 49 => ⟨S5120x1, .i32⟩
  | 50 => ⟨S_, .i32⟩
  | 51 => ⟨S5120x1, .i32⟩
  | 52 => ⟨S5120x1, .i32⟩
  | 53 => ⟨S64x80, .i32⟩
  | 54 => ⟨S_, .i32⟩
  | 55 => ⟨S_, .i32⟩
  | 56 => ⟨S64x80, .i32⟩
  | 57 => ⟨S64x80, .i32⟩
  | 58 => ⟨S5120x1, .i32⟩
  | 59 => ⟨S5120x4000, .i32⟩
  | 60 => ⟨S5120x4000, .i32⟩
  | 61 => ⟨S5120x4000, .i32⟩
  | 62 => ⟨S64x320000, .i32⟩
  | 63 => ⟨S64x1, .i32⟩
  | 64 => ⟨S_, .i32⟩
  | 65 => ⟨S_, .i32⟩
  | 66 => ⟨S64x320000, .i32⟩
  | 67 => ⟨S64x320000, .i32⟩
  | 68 => ⟨S64, .i32⟩
  | 69 => ⟨S64x1, .i32⟩
  | 70 => ⟨S64x320000, .i32⟩
  | 71 => ⟨S328192, .i32⟩
  | 72 => ⟨S1x328192, .i32⟩
  | 73 => ⟨S_, .i32⟩
  | 74 => ⟨S64x1, .i32⟩
  | 75 => ⟨S64x1, .i32⟩
  | 76 => ⟨S64x328192, .i32⟩
  | 77 => ⟨S64x328192, .i32⟩
  | 78 => ⟨S64x328192, .i1⟩
  | 79 => ⟨S_, .i32⟩
  | 80 => ⟨S_, .i32⟩
  | 81 => ⟨S64x328192, .i32⟩
  | 82 => ⟨S64x328192, .i32⟩
  | 83 => ⟨S64x328192, .i32⟩
  | 84 => ⟨S1x320000, .i32⟩
  | 85 => ⟨S64x320000, .i32⟩
  | 86 => ⟨S64x320000, .i32⟩
  | 87 => ⟨S64x320000, .i32⟩
  | 88 => ⟨S_, .i32⟩
  | 89 => ⟨S64x320000, .i32⟩
  | 90 => ⟨S64x320000, .i32⟩
  | 91 => ⟨S1x320000, .i32⟩
  | 92 => ⟨S64x320000, .i32⟩
  | 93 => ⟨S64x320000, .i32⟩
  | 94 => ⟨S_, .i32⟩
  | 95 => ⟨S64x320000, .i32⟩
  | 96 => ⟨S64x320000, .i1⟩
  | 97 => ⟨S_, .i32⟩
  | 98 => ⟨S64x320000, .i32⟩
  | 99 => ⟨S64x320000, .i32⟩
  | 100 => ⟨S64x320000, .i32⟩
  | 101 => ⟨S_, .i32⟩
  | 102 => ⟨S64x320000, .i32⟩
  | 103 => ⟨S64x320000, .i1⟩
  | 104 => ⟨S_, .i32⟩
  | 105 => ⟨S64x320000, .i32⟩
  | 106 => ⟨S64x320000, .i32⟩
  | 107 => ⟨S64x320000, .i32⟩
  | 108 => ⟨S64x320000x1, .i32⟩
  | 109 => ⟨S64x320000x1, .i32⟩
  | 110 => ⟨S64x320000x2, .i32⟩
  | 111 => ⟨S64x328192, .i32⟩
  | 112 => ⟨S64x328192, .i32⟩
  | 113 => ⟨S64x328192, .i32⟩
  | 114 => ⟨S_, .i32⟩
  | 115 => ⟨S64x328192, .i32⟩
  | 116 => ⟨S64x320000, .i32⟩
  | 117 => ⟨S_, .i32⟩
  | 118 => ⟨S64x320000, .i32⟩
  | 119 => ⟨S64x320000, .i1⟩
  | 120 => ⟨S_, .i32⟩
  | 121 => ⟨S64x320000, .i32⟩
  | 122 => ⟨S64x320000, .i32⟩
  | 123 => ⟨S64x320000, .i32⟩
  | 124 => ⟨S_, .i32⟩
  | 125 => ⟨S64x320000, .i32⟩
  | 126 => ⟨S64x320000, .i1⟩
  | 127 => ⟨S_, .i32⟩
  | _ => ⟨S2x320000, .i32⟩

abbrev hbmTy0_1 (i : Nat) : BufTy := match i % 128 with
  | 0 => ⟨S64x320000, .i32⟩
  | 1 => ⟨S64x320000, .i32⟩
  | 2 => ⟨S64x320000, .i32⟩
  | 3 => ⟨S64x320000x1, .i32⟩
  | 4 => ⟨S64x320000x1, .i32⟩
  | 5 => ⟨S64x320000x2, .i32⟩
  | 6 => ⟨S64x328192, .i32⟩
  | 7 => ⟨S64x16, .i32⟩
  | _ => ⟨S2x320000, .i32⟩

abbrev hbmTy (i : Nat) : BufTy := match i / 128 with
  | 0 => hbmTy0_0 i
  | 1 => hbmTy0_1 i
  | _ => ⟨S2x320000, .i32⟩

abbrev bufTy : (tb : Table) → Fin (tcTables nBuf tb) → BufTy
  | .hbm, ⟨i, _⟩ => hbmTy i
  | _, _ => ⟨S2x320000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c_0 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_call0_call0_c : Ref sig .tc := ⟨.hbm, 25, rfl⟩
abbrev main_call0_call0_v0 : Ref sig .tc := ⟨.hbm, 26, rfl⟩
abbrev main_v22 : Ref sig .tc := ⟨.hbm, 27, rfl⟩
abbrev main_v23 : Ref sig .tc := ⟨.hbm, 28, rfl⟩
abbrev main_c_1 : Ref sig .tc := ⟨.hbm, 29, rfl⟩
abbrev main_v24 : Ref sig .tc := ⟨.hbm, 30, rfl⟩
abbrev main_v25 : Ref sig .tc := ⟨.hbm, 31, rfl⟩
abbrev main_c_2 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_c : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_0 : Ref sig .tc := ⟨.hbm, 46, rfl⟩
abbrev main_call1_v12 : Ref sig .tc := ⟨.hbm, 47, rfl⟩
abbrev main_call1_v13 : Ref sig .tc := ⟨.hbm, 48, rfl⟩
abbrev main_v26 : Ref sig .tc := ⟨.hbm, 49, rfl⟩
abbrev main_c_3 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_call2_call0_c : Ref sig .tc := ⟨.hbm, 54, rfl⟩
abbrev main_call2_call0_v0 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_4 : Ref sig .tc := ⟨.hbm, 64, rfl⟩
abbrev main_call3_v0 : Ref sig .tc := ⟨.hbm, 65, rfl⟩
abbrev main_call3_v1 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_c_5 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_c_6 : Ref sig .tc := ⟨.hbm, 79, rfl⟩
abbrev main_c_7 : Ref sig .tc := ⟨.hbm, 80, rfl⟩
abbrev main_call4_v0 : Ref sig .tc := ⟨.hbm, 81, rfl⟩
abbrev main_call4_v1 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_c_8 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_c_9 : Ref sig .tc := ⟨.hbm, 94, rfl⟩
abbrev main_v59 : Ref sig .tc := ⟨.hbm, 95, rfl⟩
abbrev main_v60 : Ref sig .tc := ⟨.hbm, 96, rfl⟩
abbrev main_c_10 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_c_11 : Ref sig .tc := ⟨.hbm, 101, rfl⟩
abbrev main_v64 : Ref sig .tc := ⟨.hbm, 102, rfl⟩
abbrev main_v65 : Ref sig .tc := ⟨.hbm, 103, rfl⟩
abbrev main_c_12 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_c_13 : Ref sig .tc := ⟨.hbm, 114, rfl⟩
abbrev main_v75 : Ref sig .tc := ⟨.hbm, 115, rfl⟩
abbrev main_v76 : Ref sig .tc := ⟨.hbm, 116, rfl⟩
abbrev main_c_14 : Ref sig .tc := ⟨.hbm, 117, rfl⟩
abbrev main_v77 : Ref sig .tc := ⟨.hbm, 118, rfl⟩
abbrev main_v78 : Ref sig .tc := ⟨.hbm, 119, rfl⟩
abbrev main_c_15 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_c_16 : Ref sig .tc := ⟨.hbm, 124, rfl⟩
abbrev main_v82 : Ref sig .tc := ⟨.hbm, 125, rfl⟩
abbrev main_v83 : Ref sig .tc := ⟨.hbm, 126, rfl⟩
abbrev main_c_17 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩

abbrev nD : Nat := 1
abbrev τ : Topo := Topo.v7x

variable {F : FTy → Type} [FloatOps F]
-- ==== Node.lean ====
abbrev S10240x128 : Shape := ⟨2, ![10240, 128]⟩
abbrev S128x128 : Shape := ⟨2, ![128, 128]⟩
abbrev S256x128 : Shape := ⟨2, ![256, 128]⟩

abbrev nBuf : Space → Nat
  | .hbm => 3
  | .vmem => 5
  | .smem => 0
  | _ => 0

abbrev bufTy : (tb : Table) → Fin (tcTables nBuf tb) → BufTy
  | .hbm, ⟨0, _⟩ => ⟨S10240x128, .f32⟩
  | .hbm, ⟨1, _⟩ => ⟨S128x128, .f32⟩
  | .hbm, ⟨2, _⟩ => ⟨S10240x128, .f32⟩
  | .local _ .vmem, ⟨0, _⟩ => ⟨S256x128, .f32⟩
  | .local _ .vmem, ⟨1, _⟩ => ⟨S256x128, .f32⟩
  | .local _ .vmem, ⟨2, _⟩ => ⟨S128x128, .f32⟩
  | .local _ .vmem, ⟨3, _⟩ => ⟨S256x128, .f32⟩
  | .local _ .vmem, ⟨4, _⟩ => ⟨S256x128, .f32⟩
  | _, _ => ⟨S10240x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NodeReferenceIdeal.lean ====
abbrev S10240x128 : Shape := ⟨2, ![10240, 128]⟩
abbrev S128x128 : Shape := ⟨2, ![128, 128]⟩

abbrev nBuf : Space → Nat
  | .hbm => 3
  | .vmem => 0
  | .smem => 0
  | _ => 0

abbrev bufTy : (tb : Table) → Fin (tcTables nBuf tb) → BufTy
  | .hbm, ⟨0, _⟩ => ⟨S10240x128, .f32⟩
  | .hbm, ⟨1, _⟩ => ⟨S128x128, .f32⟩
  | .hbm, ⟨2, _⟩ => ⟨S10240x128, .f32⟩
  | _, _ => ⟨S10240x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Edge.lean ====
abbrev S321536x16 : Shape := ⟨2, ![321536, 16]⟩
abbrev S16x128 : Shape := ⟨2, ![16, 128]⟩
abbrev S128 : Shape := ⟨1, ![128]⟩
abbrev S1x128 : Shape := ⟨2, ![1, 128]⟩
abbrev S321536x128 : Shape := ⟨2, ![321536, 128]⟩
abbrev S1024x16 : Shape := ⟨2, ![1024, 16]⟩
abbrev S1024x128 : Shape := ⟨2, ![1024, 128]⟩

abbrev nBuf : Space → Nat
  | .hbm => 9
  | .vmem => 10
  | .smem => 0
  | _ => 0

abbrev bufTy : (tb : Table) → Fin (tcTables nBuf tb) → BufTy
  | .hbm, ⟨0, _⟩ => ⟨S321536x16, .f32⟩
  | .hbm, ⟨1, _⟩ => ⟨S16x128, .f32⟩
  | .hbm, ⟨2, _⟩ => ⟨S128, .f32⟩
  | .hbm, ⟨3, _⟩ => ⟨S16x128, .f32⟩
  | .hbm, ⟨4, _⟩ => ⟨S128, .f32⟩
  | .hbm, ⟨5, _⟩ => ⟨S1x128, .f32⟩
  | .hbm, ⟨6, _⟩ => ⟨S1x128, .f32⟩
  | .hbm, ⟨7, _⟩ => ⟨S321536x128, .f32⟩
  | .hbm, ⟨8, _⟩ => ⟨S321536x128, .f32⟩
  | .local _ .vmem, ⟨0, _⟩ => ⟨S1024x16, .f32⟩
  | .local _ .vmem, ⟨1, _⟩ => ⟨S1024x16, .f32⟩
  | .local _ .vmem, ⟨2, _⟩ => ⟨S16x128, .f32⟩
  | .local _ .vmem, ⟨3, _⟩ => ⟨S1x128, .f32⟩
  | .local _ .vmem, ⟨4, _⟩ => ⟨S16x128, .f32⟩
  | .local _ .vmem, ⟨5, _⟩ => ⟨S1x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | _, _ => ⟨S321536x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![314], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== EdgeReferenceIdeal.lean ====
abbrev S321536x16 : Shape := ⟨2, ![321536, 16]⟩
abbrev S16x128 : Shape := ⟨2, ![16, 128]⟩
abbrev S128 : Shape := ⟨1, ![128]⟩
abbrev S321536x128 : Shape := ⟨2, ![321536, 128]⟩
abbrev S1x128 : Shape := ⟨2, ![1, 128]⟩

abbrev nBuf : Space → Nat
  | .hbm => 13
  | .vmem => 0
  | .smem => 0
  | _ => 0

abbrev bufTy : (tb : Table) → Fin (tcTables nBuf tb) → BufTy
  | .hbm, ⟨0, _⟩ => ⟨S321536x16, .f32⟩
  | .hbm, ⟨1, _⟩ => ⟨S16x128, .f32⟩
  | .hbm, ⟨2, _⟩ => ⟨S128, .f32⟩
  | .hbm, ⟨3, _⟩ => ⟨S16x128, .f32⟩
  | .hbm, ⟨4, _⟩ => ⟨S128, .f32⟩
  | .hbm, ⟨5, _⟩ => ⟨S321536x128, .f32⟩
  | .hbm, ⟨6, _⟩ => ⟨S1x128, .f32⟩
  | .hbm, ⟨7, _⟩ => ⟨S321536x128, .f32⟩
  | .hbm, ⟨8, _⟩ => ⟨S321536x128, .f32⟩
  | .hbm, ⟨9, _⟩ => ⟨S321536x128, .f32⟩
  | .hbm, ⟨10, _⟩ => ⟨S1x128, .f32⟩
  | .hbm, ⟨11, _⟩ => ⟨S321536x128, .f32⟩
  | .hbm, ⟨12, _⟩ => ⟨S321536x128, .f32⟩
  | _, _ => ⟨S321536x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Post.lean ====
abbrev S10240x128 : Shape := ⟨2, ![10240, 128]⟩
abbrev S10240 : Shape := ⟨1, ![10240]⟩
abbrev S20x512x128 : Shape := ⟨3, ![20, 512, 128]⟩
abbrev S20x128 : Shape := ⟨2, ![20, 128]⟩
abbrev S10240x1 : Shape := ⟨2, ![10240, 1]⟩
abbrev S256x128 : Shape := ⟨2, ![256, 128]⟩
abbrev S256x512 : Shape := ⟨2, ![256, 512]⟩
abbrev S1x512x128 : Shape := ⟨3, ![1, 512, 128]⟩
abbrev S512x128 : Shape := ⟨2, ![512, 128]⟩
abbrev S1x128 : Shape := ⟨2, ![1, 128]⟩
abbrev S128 : Shape := ⟨1, ![128]⟩

abbrev nBuf : Space → Nat
  | .hbm => 13
  | .vmem => 16
  | .smem => 0
  | _ => 0

abbrev bufTy : (tb : Table) → Fin (tcTables nBuf tb) → BufTy
  | .hbm, ⟨0, _⟩ => ⟨S10240x128, .f32⟩
  | .hbm, ⟨1, _⟩ => ⟨S10240x128, .f32⟩
  | .hbm, ⟨2, _⟩ => ⟨S10240x128, .f32⟩
  | .hbm, ⟨3, _⟩ => ⟨S10240x128, .f32⟩
  | .hbm, ⟨4, _⟩ => ⟨S10240, .f32⟩
  | .hbm, ⟨5, _⟩ => ⟨S10240, .i32⟩
  | .hbm, ⟨6, _⟩ => ⟨S20x512x128, .f32⟩
  | .hbm, ⟨7, _⟩ => ⟨S20x128, .f32⟩
  | .hbm, ⟨8, _⟩ => ⟨S10240x1, .i32⟩
  | .hbm, ⟨9, _⟩ => ⟨S10240x128, .i32⟩
  | .hbm, ⟨10, _⟩ => ⟨S10240x1, .f32⟩
  | .hbm, ⟨11, _⟩ => ⟨S10240x128, .f32⟩
  | .hbm, ⟨12, _⟩ => ⟨S10240x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .i32⟩
  | .local _ .vmem, ⟨11, _⟩ => ⟨S256x128, .i32⟩
  | .local _ .vmem, ⟨12, _⟩ => ⟨S20x512x128, .f32⟩
  | .local _ .vmem, ⟨13, _⟩ => ⟨S20x128, .f32⟩
  | .local _ .vmem, ⟨14, _⟩ => ⟨S256x128, .f32⟩
  | .local _ .vmem, ⟨15, _⟩ => ⟨S256x128, .f32⟩
  | _, _ => ⟨S10240x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S20x512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S20x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PostReferenceIdeal.lean ====
abbrev S10240x128 : Shape := ⟨2, ![10240, 128]⟩
abbrev S10240 : Shape := ⟨1, ![10240]⟩
abbrev S20x512x128 : Shape := ⟨3, ![20, 512, 128]⟩
abbrev S20x128 : Shape := ⟨2, ![20, 128]⟩
abbrev S_ : Shape := ⟨0, ![]⟩
abbrev S10240x1 : Shape := ⟨2, ![10240, 1]⟩
abbrev S10240x512 : Shape := ⟨2, ![10240, 512]⟩
abbrev S10240x20x128 : Shape := ⟨3, ![10240, 20, 128]⟩
abbrev S10240x1x1 : Shape := ⟨3, ![10240, 1, 1]⟩
abbrev S1x1x128 : Shape := ⟨3, ![1, 1, 128]⟩
abbrev S10240x1x128 : Shape := ⟨3, ![10240, 1, 128]⟩
abbrev S10240x1x128x1 : Shape := ⟨4, ![10240, 1, 128, 1]⟩
abbrev S1 : Shape := ⟨1, ![1]⟩
abbrev S1x1x1x1 : Shape := ⟨4, ![1, 1, 1, 1]⟩

abbrev nBuf : Space → Nat
  | .hbm => 80
  | .vmem => 0
  | .smem => 0
  | _ => 0

abbrev bufTy : (tb : Table) → Fin (tcTables nBuf tb) → BufTy
  | .hbm, ⟨0, _⟩ => ⟨S10240x128, .f32⟩
  | .hbm, ⟨1, _⟩ => ⟨S10240x128, .f32⟩
  | .hbm, ⟨2, _⟩ => ⟨S10240x128, .f32⟩
  | .hbm, ⟨3, _⟩ => ⟨S10240x128, .f32⟩
  | .hbm, ⟨4, _⟩ => ⟨S10240, .f32⟩
  | .hbm, ⟨5, _⟩ => ⟨S10240, .i32⟩
  | .hbm, ⟨6, _⟩ => ⟨S20x512x128, .f32⟩
  | .hbm, ⟨7, _⟩ => ⟨S20x128, .f32⟩
  | .hbm, ⟨8, _⟩ => ⟨S_, .f32⟩
  | .hbm, ⟨9, _⟩ => ⟨S10240, .f32⟩
  | .hbm, ⟨10, _⟩ => ⟨S10240, .i1⟩
  | .hbm, ⟨11, _⟩ => ⟨S10240x1, .i1⟩
  | .hbm, ⟨12, _⟩ => ⟨S_, .f32⟩
  | .hbm, ⟨13, _⟩ => ⟨S10240, .f32⟩
  | .hbm, ⟨14, _⟩ => ⟨S10240, .f32⟩
  | .hbm, ⟨15, _⟩ => ⟨S10240x1, .f32⟩
  | .hbm, ⟨16, _⟩ => ⟨S_, .f32⟩
  | .hbm, ⟨17, _⟩ => ⟨S_, .f32⟩
  | .hbm, ⟨18, _⟩ => ⟨S10240x128, .i1⟩
  | .hbm, ⟨19, _⟩ => ⟨S10240x128, .f32⟩
  | .hbm, ⟨20, _⟩ => ⟨S10240x128, .f32⟩
  | .hbm, ⟨21, _⟩ => ⟨S_, .f32⟩
  | .hbm, ⟨22, _⟩ => ⟨S_, .f32⟩
  | .hbm, ⟨23, _⟩ => ⟨S10240x128, .i1⟩
  | .hbm, ⟨24, _⟩ => ⟨S10240x128, .f32⟩
  | .hbm, ⟨25, _⟩ => ⟨S10240x128, .f32⟩
  | .hbm, ⟨26, _⟩ => ⟨S10240x128, .f32⟩
  | .hbm, ⟨27, _⟩ => ⟨S10240x128, .f32⟩
  | .hbm, ⟨28, _⟩ => ⟨S10240x128, .f32⟩
  | .hbm, ⟨29, _⟩ => ⟨S10240x128, .f32⟩
  | .hbm, ⟨30, _⟩ => ⟨S10240x128, .f32⟩
  | .hbm, ⟨31, _⟩ => ⟨S10240x128, .f32⟩
  | .hbm, ⟨32, _⟩ => ⟨S_, .f32⟩
  | .hbm, ⟨33, _⟩ => ⟨S10240x128, .f32⟩
  | .hbm, ⟨34, _⟩ => ⟨S10240x128, .f32⟩
  | .hbm, ⟨35, _⟩ => ⟨S_, .f32⟩
  | .hbm, ⟨36, _⟩ => ⟨S10240x128, .f32⟩
  | .hbm, ⟨37, _⟩ => ⟨S10240x128, .f32⟩
  | .hbm, ⟨38, _⟩ => ⟨S10240x128, .f32⟩
  | .hbm, ⟨39, _⟩ => ⟨S10240x512, .f32⟩
  | .hbm, ⟨40, _⟩ => ⟨S10240x20x128, .f32⟩
  | .hbm, ⟨41, _⟩ => ⟨S10240x1x1, .i32⟩
  | .hbm, ⟨42, _⟩ => ⟨S_, .i32⟩
  | .hbm, ⟨43, _⟩ => ⟨S1x1x128, .i32⟩
  | .hbm, ⟨44, _⟩ => ⟨S10240x1x128, .i32⟩
  | .hbm, ⟨45, _⟩ => ⟨S10240x1x128, .i32⟩
  | .hbm, ⟨46, _⟩ => ⟨S10240x1x128, .i32⟩
  | .hbm, ⟨47, _⟩ => ⟨S_, .i32⟩
  | .hbm, ⟨48, _⟩ => ⟨S10240x1x128, .i32⟩
  | .hbm, ⟨49, _⟩ => ⟨S10240x1x128, .i1⟩
  | .hbm, ⟨50, _⟩ => ⟨S_, .i32⟩
  | .hbm, ⟨51, _⟩ => ⟨S10240x1x128, .i32⟩
  | .hbm, ⟨52, _⟩ => ⟨S10240x1x128, .i32⟩
  | .hbm, ⟨53, _⟩ => ⟨S10240x1x128, .i32⟩
  | .hbm, ⟨54, _⟩ => ⟨S10240x1x128x1, .i32⟩
  | .hbm, ⟨55, _⟩ => ⟨S1, .i32⟩
  | .hbm, ⟨56, _⟩ => ⟨S_, .i32⟩
  | .hbm, ⟨57, _⟩ => ⟨S10240x1x128x1, .i32⟩
  | .hbm, ⟨58, _⟩ => ⟨S10240x1x128x1, .i1⟩
  | .hbm, ⟨59, _⟩ => ⟨S1x1x1x1, .i32⟩
  | .hbm, ⟨60, _⟩ => ⟨S10240x1x128x1, .i32⟩
  | .hbm, ⟨61, _⟩ => ⟨S10240x1x128x1, .i1⟩
  | .hbm, ⟨62, _⟩ => ⟨S10240x1x128x1, .i1⟩
  | .hbm, ⟨63, _⟩ => ⟨S_, .i1⟩
  | .hbm, ⟨64, _⟩ => ⟨S10240x1x128, .i1⟩
  | .hbm, ⟨65, _⟩ => ⟨S10240x1x128, .f32⟩
  | .hbm, ⟨66, _⟩ => ⟨S_, .f32⟩
  | .hbm, ⟨67, _⟩ => ⟨S10240x1x128, .f32⟩
  | .hbm, ⟨68, _⟩ => ⟨S10240x1x128, .f32⟩
  | .hbm, ⟨69, _⟩ => ⟨S10240x128, .f32⟩
  | .hbm, ⟨70, _⟩ => ⟨S_, .i32⟩
  | .hbm, ⟨71, _⟩ => ⟨S10240, .i32⟩
  | .hbm, ⟨72, _⟩ => ⟨S10240, .i1⟩
  | .hbm, ⟨73, _⟩ => ⟨S_, .i32⟩
  | .hbm, ⟨74, _⟩ => ⟨S10240, .i32⟩
  | .hbm, ⟨75, _⟩ => ⟨S10240, .i32⟩
  | .hbm, ⟨76, _⟩ => ⟨S10240, .i32⟩
  | .hbm, ⟨77, _⟩ => ⟨S10240x1, .i32⟩
  | .hbm, ⟨78, _⟩ => ⟨S10240x128, .f32⟩
  | .hbm, ⟨79, _⟩ => ⟨S10240x128, .f32⟩
  | _, _ => ⟨S10240x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v6 : Ref sig .tc := ⟨.hbm, 20, rfl⟩
abbrev main_cst_2 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call2_cst : Ref sig .tc := ⟨.hbm, 32, rfl⟩
abbrev main_call2_v0 : Ref sig .tc := ⟨.hbm, 33, rfl⟩
abbrev main_v14 : Ref sig .tc := ⟨.hbm, 34, rfl⟩
abbrev main_cst_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_call3_c : Ref sig .tc := ⟨.hbm, 47, rfl⟩
abbrev main_call3_v0 : Ref sig .tc := ⟨.hbm, 48, rfl⟩
abbrev main_call3_v1 : Ref sig .tc := ⟨.hbm, 49, rfl⟩
abbrev main_call3_c_0 : Ref sig .tc := ⟨.hbm, 50, rfl⟩
abbrev main_call3_v2 : Ref sig .tc := ⟨.hbm, 51, rfl⟩
abbrev main_call3_v3 : Ref sig .tc := ⟨.hbm, 52, rfl⟩
abbrev main_call3_v4 : Ref sig .tc := ⟨.hbm, 53, rfl⟩
abbrev main_call3_v5 : Ref sig .tc := ⟨.hbm, 54, rfl⟩
abbrev main_call3_c_1 : Ref sig .tc := ⟨.hbm, 55, rfl⟩
abbrev main_call3_c_2 : Ref sig .tc := ⟨.hbm, 56, rfl⟩
abbrev main_call3_v6 : Ref sig .tc := ⟨.hbm, 57, rfl⟩
abbrev main_call3_v7 : Ref sig .tc := ⟨.hbm, 58, rfl⟩
abbrev main_call3_v8 : Ref sig .tc := ⟨.hbm, 59, rfl⟩
abbrev main_call3_v9 : Ref sig .tc := ⟨.hbm, 60, rfl⟩
abbrev main_call3_v10 : Ref sig .tc := ⟨.hbm, 61, rfl⟩
abbrev main_call3_v11 : Ref sig .tc := ⟨.hbm, 62, rfl⟩
abbrev main_call3_c_3 : Ref sig .tc := ⟨.hbm, 63, rfl⟩
abbrev main_call3_v12 : Ref sig .tc := ⟨.hbm, 64, rfl⟩
abbrev main_call3_v13 : Ref sig .tc := ⟨.hbm, 65, rfl⟩
abbrev main_call3_cst : Ref sig .tc := ⟨.hbm, 66, rfl⟩
abbrev main_call3_v14 : Ref sig .tc := ⟨.hbm, 67, rfl⟩
abbrev main_v25 : Ref sig .tc := ⟨.hbm, 68, rfl⟩
abbrev main_v26 : Ref sig .tc := ⟨.hbm, 69, rfl⟩
abbrev main_c_4 : Ref sig .tc := ⟨.hbm, 70, rfl⟩
abbrev main_v27 : Ref sig .tc := ⟨.hbm, 71, rfl⟩
abbrev main_v28 : Ref sig .tc := ⟨.hbm, 72, rfl⟩
abbrev main_c_5 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩

abbrev nD : Nat := 1
abbrev τ : Topo := Topo.v7x

variable {F : FTy → Type} [FloatOps F]
-- ==== Next.lean ====
abbrev S10240x128 : Shape := ⟨2, ![10240, 128]⟩
abbrev S10240 : Shape := ⟨1, ![10240]⟩
abbrev S20x512x128 : Shape := ⟨3, ![20, 512, 128]⟩
abbrev S20x128 : Shape := ⟨2, ![20, 128]⟩
abbrev S128x128 : Shape := ⟨2, ![128, 128]⟩
abbrev S10240x1 : Shape := ⟨2, ![10240, 1]⟩
abbrev S256x128 : Shape := ⟨2, ![256, 128]⟩
abbrev S256x512 : Shape := ⟨2, ![256, 512]⟩
abbrev S1x512x128 : Shape := ⟨3, ![1, 512, 128]⟩
abbrev S512x128 : Shape := ⟨2, ![512, 128]⟩
abbrev S1x128 : Shape := ⟨2, ![1, 128]⟩
abbrev S128 : Shape := ⟨1, ![128]⟩

abbrev nBuf : Space → Nat
  | .hbm => 14
  | .vmem => 17
  | .smem => 0
  | _ => 0

abbrev bufTy : (tb : Table) → Fin (tcTables nBuf tb) → BufTy
  | .hbm, ⟨0, _⟩ => ⟨S10240x128, .f32⟩
  | .hbm, ⟨1, _⟩ => ⟨S10240x128, .f32⟩
  | .hbm, ⟨2, _⟩ => ⟨S10240x128, .f32⟩
  | .hbm, ⟨3, _⟩ => ⟨S10240x128, .f32⟩
  | .hbm, ⟨4, _⟩ => ⟨S10240, .f32⟩
  | .hbm, ⟨5, _⟩ => ⟨S10240, .i32⟩
  | .hbm, ⟨6, _⟩ => ⟨S20x512x128, .f32⟩
  | .hbm, ⟨7, _⟩ => ⟨S20x128, .f32⟩
  | .hbm, ⟨8, _⟩ => ⟨S128x128, .f32⟩
  | .hbm, ⟨9, _⟩ => ⟨S10240x1, .i32⟩
  | .hbm, ⟨10, _⟩ => ⟨S10240x128, .i32⟩
  | .hbm, ⟨11, _⟩ => ⟨S10240x1, .f32⟩
  | .hbm, ⟨12, _⟩ => ⟨S10240x128, .f32⟩
  | .hbm, ⟨13, _⟩ => ⟨S10240x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .i32⟩
  | .local _ .vmem, ⟨11, _⟩ => ⟨S256x128, .i32⟩
  | .local _ .vmem, ⟨12, _⟩ => ⟨S20x512x128, .f32⟩
  | .local _ .vmem, ⟨13, _⟩ => ⟨S20x128, .f32⟩
  | .local _ .vmem, ⟨14, _⟩ => ⟨S128x128, .f32⟩
  | .local _ .vmem, ⟨15, _⟩ => ⟨S256x128, .f32⟩
  | .local _ .vmem, ⟨16, _⟩ => ⟨S256x128, .f32⟩
  | _, _ => ⟨S10240x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S20x512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S20x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== NextReferenceIdeal.lean ====
abbrev S10240x128 : Shape := ⟨2, ![10240, 128]⟩
abbrev S10240 : Shape := ⟨1, ![10240]⟩
abbrev S20x512x128 : Shape := ⟨3, ![20, 512, 128]⟩
abbrev S20x128 : Shape := ⟨2, ![20, 128]⟩
abbrev S128x128 : Shape := ⟨2, ![128, 128]⟩
abbrev S_ : Shape := ⟨0, ![]⟩
abbrev S10240x1 : Shape := ⟨2, ![10240, 1]⟩
abbrev S10240x512 : Shape := ⟨2, ![10240, 512]⟩
abbrev S10240x20x128 : Shape := ⟨3, ![10240, 20, 128]⟩
abbrev S10240x1x1 : Shape := ⟨3, ![10240, 1, 1]⟩
abbrev S1x1x128 : Shape := ⟨3, ![1, 1, 128]⟩
abbrev S10240x1x128 : Shape := ⟨3, ![10240, 1, 128]⟩
abbrev S10240x1x128x1 : Shape := ⟨4, ![10240, 1, 128, 1]⟩
abbrev S1 : Shape := ⟨1, ![1]⟩
abbrev S1x1x1x1 : Shape := ⟨4, ![1, 1, 1, 1]⟩

abbrev nBuf : Space → Nat
  | .hbm => 85
  | .vmem => 0
  | .smem => 0
  | _ => 0

abbrev bufTy : (tb : Table) → Fin (tcTables nBuf tb) → BufTy
  | .hbm, ⟨0, _⟩ => ⟨S10240x128, .f32⟩
  | .hbm, ⟨1, _⟩ => ⟨S10240x128, .f32⟩
  | .hbm, ⟨2, _⟩ => ⟨S10240x128, .f32⟩
  | .hbm, ⟨3, _⟩ => ⟨S10240x128, .f32⟩
  | .hbm, ⟨4, _⟩ => ⟨S10240, .f32⟩
  | .hbm, ⟨5, _⟩ => ⟨S10240, .i32⟩
  | .hbm, ⟨6, _⟩ => ⟨S20x512x128, .f32⟩
  | .hbm, ⟨7, _⟩ => ⟨S20x128, .f32⟩
  | .hbm, ⟨8, _⟩ => ⟨S128x128, .f32⟩
  | .hbm, ⟨9, _⟩ => ⟨S_, .f32⟩
  | .hbm, ⟨10, _⟩ => ⟨S10240, .f32⟩
  | .hbm, ⟨11, _⟩ => ⟨S10240, .i1⟩
  | .hbm, ⟨12, _⟩ => ⟨S10240x1, .i1⟩
  | .hbm, ⟨13, _⟩ => ⟨S_, .f32⟩
  | .hbm, ⟨14, _⟩ => ⟨S10240, .f32⟩
  | .hbm, ⟨15, _⟩ => ⟨S10240, .f32⟩
  | .hbm, ⟨16, _⟩ => ⟨S10240x1, .f32⟩
  | .hbm, ⟨17, _⟩ => ⟨S_, .f32⟩
  | .hbm, ⟨18, _⟩ => ⟨S_, .f32⟩
  | .hbm, ⟨19, _⟩ => ⟨S10240x128, .i1⟩
  | .hbm, ⟨20, _⟩ => ⟨S10240x128, .f32⟩
  | .hbm, ⟨21, _⟩ => ⟨S10240x128, .f32⟩
  | .hbm, ⟨22, _⟩ => ⟨S_, .f32⟩
  | .hbm, ⟨23, _⟩ => ⟨S_, .f32⟩
  | .hbm, ⟨24, _⟩ => ⟨S10240x128, .i1⟩
  | .hbm, ⟨25, _⟩ => ⟨S10240x128, .f32⟩
  | .hbm, ⟨26, _⟩ => ⟨S10240x128, .f32⟩
  | .hbm, ⟨27, _⟩ => ⟨S10240x128, .f32⟩
  | .hbm, ⟨28, _⟩ => ⟨S10240x128, .f32⟩
  | .hbm, ⟨29, _⟩ => ⟨S10240x128, .f32⟩
  | .hbm, ⟨30, _⟩ => ⟨S10240x128, .f32⟩
  | .hbm, ⟨31, _⟩ => ⟨S10240x128, .f32⟩
  | .hbm, ⟨32, _⟩ => ⟨S10240x128, .f32⟩
  | .hbm, ⟨33, _⟩ => ⟨S_, .f32⟩
  | .hbm, ⟨34, _⟩ => ⟨S10240x128, .f32⟩
  | .hbm, ⟨35, _⟩ => ⟨S10240x128, .f32⟩
  | .hbm, ⟨36, _⟩ => ⟨S_, .f32⟩
  | .hbm, ⟨37, _⟩ => ⟨S10240x128, .f32⟩
  | .hbm, ⟨38, _⟩ => ⟨S10240x128, .f32⟩
  | .hbm, ⟨39, _⟩ => ⟨S10240x128, .f32⟩
  | .hbm, ⟨40, _⟩ => ⟨S10240x512, .f32⟩
  | .hbm, ⟨41, _⟩ => ⟨S10240x20x128, .f32⟩
  | .hbm, ⟨42, _⟩ => ⟨S10240x1x1, .i32⟩
  | .hbm, ⟨43, _⟩ => ⟨S_, .i32⟩
  | .hbm, ⟨44, _⟩ => ⟨S1x1x128, .i32⟩
  | .hbm, ⟨45, _⟩ => ⟨S10240x1x128, .i32⟩
  | .hbm, ⟨46, _⟩ => ⟨S10240x1x128, .i32⟩
  | .hbm, ⟨47, _⟩ => ⟨S10240x1x128, .i32⟩
  | .hbm, ⟨48, _⟩ => ⟨S_, .i32⟩
  | .hbm, ⟨49, _⟩ => ⟨S10240x1x128, .i32⟩
  | .hbm, ⟨50, _⟩ => ⟨S10240x1x128, .i1⟩
  | .hbm, ⟨51, _⟩ => ⟨S_, .i32⟩
  | .hbm, ⟨52, _⟩ => ⟨S10240x1x128, .i32⟩
  | .hbm, ⟨53, _⟩ => ⟨S10240x1x128, .i32⟩
  | .hbm, ⟨54, _⟩ => ⟨S10240x1x128, .i32⟩
  | .hbm, ⟨55, _⟩ => ⟨S10240x1x128x1, .i32⟩
  | .hbm, ⟨56, _⟩ => ⟨S1, .i32⟩
  | .hbm, ⟨57, _⟩ => ⟨S_, .i32⟩
  | .hbm, ⟨58, _⟩ => ⟨S10240x1x128x1, .i32⟩
  | .hbm, ⟨59, _⟩ => ⟨S10240x1x128x1, .i1⟩
  | .hbm, ⟨60, _⟩ => ⟨S1x1x1x1, .i32⟩
  | .hbm, ⟨61, _⟩ => ⟨S10240x1x128x1, .i32⟩
  | .hbm, ⟨62, _⟩ => ⟨S10240x1x128x1, .i1⟩
  | .hbm, ⟨63, _⟩ => ⟨S10240x1x128x1, .i1⟩
  | .hbm, ⟨64, _⟩ => ⟨S_, .i1⟩
  | .hbm, ⟨65, _⟩ => ⟨S10240x1x128, .i1⟩
  | .hbm, ⟨66, _⟩ => ⟨S10240x1x128, .f32⟩
  | .hbm, ⟨67, _⟩ => ⟨S_, .f32⟩
  | .hbm, ⟨68, _⟩ => ⟨S10240x1x128, .f32⟩
  | .hbm, ⟨69, _⟩ => ⟨S10240x1x128, .f32⟩
  | .hbm, ⟨70, _⟩ => ⟨S10240x128, .f32⟩
  | .hbm, ⟨71, _⟩ => ⟨S_, .i32⟩
  | .hbm, ⟨72, _⟩ => ⟨S10240, .i32⟩
  | .hbm, ⟨73, _⟩ => ⟨S10240, .i1⟩
  | .hbm, ⟨74, _⟩ => ⟨S_, .i32⟩
  | .hbm, ⟨75, _⟩ => ⟨S10240, .i32⟩
  | .hbm, ⟨76, _⟩ => ⟨S10240, .i32⟩
  | .hbm, ⟨77, _⟩ => ⟨S10240, .i32⟩
  | .hbm, ⟨78, _⟩ => ⟨S10240x1, .i32⟩
  | .hbm, ⟨79, _⟩ => ⟨S10240x128, .f32⟩
  | .hbm, ⟨80, _⟩ => ⟨S10240x128, .f32⟩
  | .hbm, ⟨81, _⟩ => ⟨S_, .f32⟩
  | .hbm, ⟨82, _⟩ => ⟨S10240x128, .f32⟩
  | .hbm, ⟨83, _⟩ => ⟨S10240x128, .f32⟩
  | .hbm, ⟨84, _⟩ => ⟨S10240x128, .f32⟩
  | _, _ => ⟨S10240x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v6 : Ref sig .tc := ⟨.hbm, 21, rfl⟩
abbrev main_cst_2 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_call2_cst : Ref sig .tc := ⟨.hbm, 33, rfl⟩
abbrev main_call2_v0 : Ref sig .tc := ⟨.hbm, 34, rfl⟩
abbrev main_v14 : Ref sig .tc := ⟨.hbm, 35, rfl⟩
abbrev main_cst_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_call3_c : Ref sig .tc := ⟨.hbm, 48, rfl⟩
abbrev main_call3_v0 : Ref sig .tc := ⟨.hbm, 49, rfl⟩
abbrev main_call3_v1 : Ref sig .tc := ⟨.hbm, 50, rfl⟩
abbrev main_call3_c_0 : Ref sig .tc := ⟨.hbm, 51, rfl⟩
abbrev main_call3_v2 : Ref sig .tc := ⟨.hbm, 52, rfl⟩
abbrev main_call3_v3 : Ref sig .tc := ⟨.hbm, 53, rfl⟩
abbrev main_call3_v4 : Ref sig .tc := ⟨.hbm, 54, rfl⟩
abbrev main_call3_v5 : Ref sig .tc := ⟨.hbm, 55, rfl⟩
abbrev main_call3_c_1 : Ref sig .tc := ⟨.hbm, 56, rfl⟩
abbrev main_call3_c_2 : Ref sig .tc := ⟨.hbm, 57, rfl⟩
abbrev main_call3_v6 : Ref sig .tc := ⟨.hbm, 58, rfl⟩
abbrev main_call3_v7 : Ref sig .tc := ⟨.hbm, 59, rfl⟩
abbrev main_call3_v8 : Ref sig .tc := ⟨.hbm, 60, rfl⟩
abbrev main_call3_v9 : Ref sig .tc := ⟨.hbm, 61, rfl⟩
abbrev main_call3_v10 : Ref sig .tc := ⟨.hbm, 62, rfl⟩
abbrev main_call3_v11 : Ref sig .tc := ⟨.hbm, 63, rfl⟩
abbrev main_call3_c_3 : Ref sig .tc := ⟨.hbm, 64, rfl⟩
abbrev main_call3_v12 : Ref sig .tc := ⟨.hbm, 65, rfl⟩
abbrev main_call3_v13 : Ref sig .tc := ⟨.hbm, 66, rfl⟩
abbrev main_call3_cst : Ref sig .tc := ⟨.hbm, 67, rfl⟩
abbrev main_call3_v14 : Ref sig .tc := ⟨.hbm, 68, rfl⟩
abbrev main_v25 : Ref sig .tc := ⟨.hbm, 69, rfl⟩
abbrev main_v26 : Ref sig .tc := ⟨.hbm, 70, rfl⟩
abbrev main_c_4 : Ref sig .tc := ⟨.hbm, 71, rfl⟩
abbrev main_v27 : Ref sig .tc := ⟨.hbm, 72, rfl⟩
abbrev main_v28 : Ref sig .tc := ⟨.hbm, 73, rfl⟩
abbrev main_c_5 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_call4_cst : Ref sig .tc := ⟨.hbm, 81, rfl⟩
abbrev main_call4_v0 : Ref sig .tc := ⟨.hbm, 82, rfl⟩
abbrev main_v35 : Ref sig .tc := ⟨.hbm, 83, rfl⟩
abbrev main_v36 : Ref sig .tc := ⟨.hbm, 84, rfl⟩

abbrev nD : Nat := 1
abbrev τ : Topo := Topo.v7x

variable {F : FTy → Type} [FloatOps F]
-- ==== Proof.NodeValue.lean ====
/- The value of the node terms' matrix product: block by block and as one array. -/
module

public import proofs.«01_k».proof.Proof.Gen.NodeIdeal.Value
public import Idealize.ShloMosaic.Lib.Pipeline.ValueKit

@[expose] public section

noncomputable section

namespace Cert.NodeIdeal.Value

open Cert.NodeIdeal Cert.NodeIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Entry `(r, l)` of the product of a matrix by the weights. -/
def prod (x : FVec Ideal S10240x128 .f32) (w : FVec Ideal S128x128 .f32) : FVec Ideal S10240x128 .f32 :=
  fun i => ∑ k : Fin 128, x (ix2 (i 0) k) * w (ix2 k (i 1))

theorem idx (t : Fin cfg0.N) : win0_0.index t = ![(grid0.coords t 0).val, 0] ∧ win0_1.index t = ![0, 0] ∧ win0_2.index t = ![(grid0.coords t 0).val, 0] :=
  (by decide +kernel : ∀ t : Fin grid0.N, win0_0.index t = ![(grid0.coords t 0).val, 0] ∧ win0_1.index t = ![0, 0] ∧ win0_2.index t = ![(grid0.coords t 0).val, 0]) t

/-- After the run the result array is the product of the two argument arrays. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, prod]
  blk_point [iblk, V, idx t]

end Cert.NodeIdeal.Value

end
-- ==== Proof.EdgeValue.lean ====
/- The values of the two edge terms: block by block and as whole arrays. -/
module

public import proofs.«01_k».proof.Proof.Gen.EdgeIdeal.Value
public import Idealize.ShloMosaic.Lib.Pipeline.ValueKit

@[expose] public section

noncomputable section

namespace Cert.EdgeIdeal.Value

open Cert.EdgeIdeal Cert.EdgeIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Entry `(r, l)` of the edges' attributes times a matrix, plus that column's bias. -/
def affine (x : FVec Ideal S321536x16 .f32) (w : FVec Ideal S16x128 .f32) (b : FVec Ideal S128 .f32) : FVec Ideal S321536x128 .f32 :=
  fun i => ∑ k : Fin 16, x (ix2 (i 0) k) * w (ix2 k (i 1)) + b (ix1 (i 1))

/-- Each grid point's blocks: its own rows of the attributes and results, all of the weights and biases. -/
theorem idx : ∀ t : Fin cfg0.N, win0_0.index t = ![(grid0.coords t 0).val, 0] ∧ win0_1.index t = ![0, 0] ∧ win0_2.index t = ![0, 0]
    ∧ win0_3.index t = ![0, 0] ∧ win0_4.index t = ![0, 0] ∧ win0_5.index t = ![(grid0.coords t 0).val, 0] ∧ win0_6.index t = ![(grid0.coords t 0).val, 0] :=
  (by decide +kernel : ∀ t : Fin grid0.N, _)

/-- After the run the first result is the first affine function of the attributes. -/
theorem final5 (c : Dev nD) : (dats m 0 c).arrAt 5 cfg0.N
    = affine (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]; frame_out
  pointwise [k0_pay1, affine]
  blk_point [iblk, V, idx t]

/-- And the second result is the second. -/
theorem final6 (c : Dev nD) : (dats m 0 c).arrAt 6 cfg0.N
    = affine (m ((c : Thread nD τ).loc main_arg0)) (m ((c : Thread nD τ).loc main_arg3)) (m ((c : Thread nD τ).loc main_arg4)) := by
  refine (dats m 0 c).arrAt_eq_of_covers 6 _ (by decide +kernel) fun t hf y => ?_
  blk_simp
  rw [after0_6]; frame_out
  pointwise [k0_pay2, affine]
  blk_point [iblk, V, idx t]

end Cert.EdgeIdeal.Value

end
-- ==== Proof.Finish.lean ====
/-
  The last stage in plain numbers: a node's statistics of its messages, and the choice of its type among twenty values by a
  sum against indicator factors.
-/
module

public import Idealize.ShloMosaic.Lib.Pipeline.ValueKit

@[expose] public section

noncomputable section

namespace Finish

open Idealize.ShloMosaic

/-- The 512 statistics of row `r`: sum, minimum, maximum and deviation, 128 columns of each. The count is given at each
    column; minimum and maximum are zero where it is not positive. -/
def stats {n : Nat} (s sq mn mx : Fin n → Fin 128 → EReal) (cnt : Fin n → Fin 128 → EReal) (r : Fin n) (k : Fin 512) : EReal :=
  if h : (k : Nat) < 128 then s r ⟨k, h⟩
  else if h : (k : Nat) - 128 < 128 then if 0 < cnt r ⟨k - 128, h⟩ then mn r ⟨k - 128, h⟩ else 0
  else if h : (k : Nat) - 128 - 128 < 128 then if 0 < cnt r ⟨k - 128 - 128, h⟩ then mx r ⟨k - 128 - 128, h⟩ else 0
  else
    have h : (k : Nat) - 128 - 128 - 128 < 128 := by omega
    Ideal.sqrt (max (Ideal.div (sq r ⟨k - 128 - 128 - 128, h⟩) (max (cnt r ⟨k - 128 - 128 - 128, h⟩) 1)
      - Ideal.div (s r ⟨k - 128 - 128 - 128, h⟩) (max (cnt r ⟨k - 128 - 128 - 128, h⟩) 1)
        * Ideal.div (s r ⟨k - 128 - 128 - 128, h⟩) (max (cnt r ⟨k - 128 - 128 - 128, h⟩) 1)) 0 + Ideal.ofBits FTy.f32 925353388#32)

/-- A row's statistics read that row alone. -/
theorem stats_congr {n n' : Nat} {s sq mn mx cnt : Fin n → Fin 128 → EReal} {s' sq' mn' mx' cnt' : Fin n' → Fin 128 → EReal} {r : Fin n} {r' : Fin n'}
    (h0 : ∀ l, s r l = s' r' l) (h1 : ∀ l, sq r l = sq' r' l) (h2 : ∀ l, mn r l = mn' r' l) (h3 : ∀ l, mx r l = mx' r' l) (h4 : ∀ l, cnt r l = cnt' r' l)
    (k : Fin 512) : stats s sq mn mx cnt r k = stats s' sq' mn' mx' cnt' r' k := by
  unfold stats
  simp only [h0, h1, h2, h3, h4]

/-- The factor of type `t` for a word `v`: the comparison's bit as a number. -/
def hot (v t : BitVec 32) : EReal := FloatOps.sitofp (F := Ideal) FTy.f32 (BitVec.setWidth 32 (IntOp.cmpi CmpIPredicate.eq v t))

/-- The twenty values of `d`, each times its type's factor, added in order from zero. -/
def mixed (v : BitVec 32) (d : Fin 20 → EReal) : EReal :=
  0 + hot v 0#32 * d 0 + hot v 1#32 * d 1 + hot v 2#32 * d 2 + hot v 3#32 * d 3 + hot v 4#32 * d 4
    + hot v 5#32 * d 5 + hot v 6#32 * d 6 + hot v 7#32 * d 7 + hot v 8#32 * d 8 + hot v 9#32 * d 9
    + hot v 10#32 * d 10 + hot v 11#32 * d 11 + hot v 12#32 * d 12 + hot v 13#32 * d 13 + hot v 14#32 * d 14
    + hot v 15#32 * d 15 + hot v 16#32 * d 16 + hot v 17#32 * d 17 + hot v 18#32 * d 18 + hot v 19#32 * d 19

theorem hot_self (v : BitVec 32) : hot v v = 1 := by
  have h : BitVec.setWidth 32 (IntOp.cmpi CmpIPredicate.eq v v) = 1#32 := by simp [IntOp.cmpi]
  unfold hot
  rw [h]
  exact (Ideal.scalar_sitofp_def (φ := .f32) 1#32).trans (by simp)

theorem hot_ne {v t : BitVec 32} (h : v ≠ t) : hot v t = 0 := by
  have h : BitVec.setWidth 32 (IntOp.cmpi CmpIPredicate.eq v t) = 0#32 := by
    simp [IntOp.cmpi, beq_eq_false_iff_ne.mpr h]
  unfold hot
  rw [h]
  exact (Ideal.scalar_sitofp_def (φ := .f32) 0#32).trans (by simp)

/-- Of a word that is a type's number, the sum is that type's value. -/
theorem mixed_eq (v : BitVec 32) (d : Fin 20 → EReal) (hv : v.toNat < 20) : mixed v d = d ⟨v.toNat, hv⟩ := by
  obtain ⟨k, rfl⟩ : ∃ k : Fin 20, v = BitVec.ofNat 32 k := ⟨⟨v.toNat, hv⟩, by simp⟩
  have e (a b : Nat) (ha : a < 20) (hb : b < 20) : hot (BitVec.ofNat 32 a) (BitVec.ofNat 32 b) = if a = b then 1 else 0 := by
    split
    · next h => rw [h]; exact hot_self _
    · next h => exact hot_ne fun h' => h (by simpa [Nat.mod_eq_of_lt (show a < 4294967296 by omega), Nat.mod_eq_of_lt (show b < 4294967296 by omega)] using congrArg BitVec.toNat h')
  unfold mixed
  fin_cases k <;> simp [e]

end Finish

end
-- ==== Proof.PostValue.lean ====
/- The value of the last stage: block by block and as one array. -/
module

public import proofs.«01_k».proof.Proof.Finish
public import proofs.«01_k».proof.Proof.Gen.PostIdeal.Value
public import Idealize.ShloMosaic.Lib.Pipeline.ValueKit

@[expose] public section

noncomputable section

namespace Cert.PostIdeal.Value

open Cert.PostIdeal Cert.PostIdeal.Gen Idealize.ShloMosaic Idealize.ShloMosaic.TcCoe Idealize.SL.Sem
open Idealize.ShloMosaic.Pipeline (Dat)

/-- The statistics a block computes of its rows. -/
theorem stats_eq (s sq mn mx cnt : Vec Ideal S256x128 .f32) (r : Fin 256) (k : Fin 512) :
    k0_pay2 s cnt sq mn mx (ix2 r k)
      = Finish.stats (fun r l => s (ix2 r l)) (fun r l => sq (ix2 r l)) (fun r l => mn (ix2 r l)) (fun r l => mx (ix2 r l)) (fun r l => cnt (ix2 r l)) r k := by
  unfold Finish.stats
  pointwise [k0_pay2]

theorem agg_eq (x0 x1 x2 x3 x4 : Vec Ideal S256x128 .f32) (x5 : Vec Ideal S256x128 .i32) (x6 : Vec Ideal S20x512x128 .f32) (x7 : Vec Ideal S20x128 .f32) :
    k0_pay22 x0 x1 x2 x3 x4 x5 x6 x7 = k0_pay2 x0 x4 x1 x2 x3 := by
  unfold k0_pay22
  frame_out

theorem ids_eq (x0 x1 x2 x3 x4 : Vec Ideal S256x128 .f32) (x5 : Vec Ideal S256x128 .i32) (x6 : Vec Ideal S20x512x128 .f32) (x7 : Vec Ideal S20x128 .f32) (r : Fin 256) (l : Fin 128) :
    k0_pay23 x0 x1 x2 x3 x4 x5 x6 x7 (ix2 r l) = x5 (ix2 r l) := by
  unfold k0_pay23
  frame_out
  pointwise [k0_pay3]

/-- What a block's point leaves at row `r`, column `l`. -/
theorem block (x0 x1 x2 x3 x4 : Vec Ideal S256x128 .f32) (x5 : Vec Ideal S256x128 .i32) (x6 : Vec Ideal S20x512x128 .f32) (x7 : Vec Ideal S20x128 .f32) (r : Fin 256) (l : Fin 128) :
    out0_8 x0 x1 x2 x3 x4 x5 x6 x7 (ix2 r l) = Finish.mixed (x5 (ix2 r l)) fun t =>
      ∑ k : Fin 512, Finish.stats (fun r l => x0 (ix2 r l)) (fun r l => x1 (ix2 r l)) (fun r l => x2 (ix2 r l)) (fun r l => x3 (ix2 r l)) (fun r l => x4 (ix2 r l)) r k * x6 (ix3 t k l)
        + x7 (ix2 t l) := by
  simp only [← stats_eq]
  unfold Finish.mixed Finish.hot
  frame_out
  pointwise [k0_pay1, k0_pay18, k0_pay15, k0_pay14, k0_pay12, k0_pay10, k0_pay7, k0_pay4, k0_pay5, k0_pay6, k0_pay8, k0_pay9, k0_pay11, k0_pay13, k0_pay16, k0_pay17, k0_pay19, k0_pay20, k0_pay21, k0_pay3]
  rw [ids_eq, agg_eq]

variable (m : (ℓ : Loc nD τ sig) → Buf (Elt Ideal) ℓ) (ρ : Dev nD → PrngReg)

/-- The last stage over whole arrays: each row's statistics against its type's weights, plus its type's bias. -/
def post (s sq mn mx : Vec Ideal S10240x128 .f32) (cnt : Vec Ideal S10240 .f32) (ids : Vec Ideal S10240 .i32) (wp : Vec Ideal S20x512x128 .f32)
    (bp : Vec Ideal S20x128 .f32) : Vec Ideal S10240x128 .f32 := fun i =>
  Finish.mixed (ids (ix1 (i 0))) fun t =>
    ∑ k : Fin 512, Finish.stats (fun r l => s (ix2 r l)) (fun r l => sq (ix2 r l)) (fun r l => mn (ix2 r l)) (fun r l => mx (ix2 r l)) (fun r _ => cnt (ix1 r)) (i 0) k
      * wp (ix3 t k (i 1)) + bp (ix2 t (i 1))

/-- Each grid point's blocks: its own rows of the statistics and results, all of the weights and biases. -/
theorem idx : ∀ t : Fin cfg0.N, win0_0.index t = ![(grid0.coords t 0).val, 0] ∧ win0_1.index t = ![(grid0.coords t 0).val, 0]
    ∧ win0_2.index t = ![(grid0.coords t 0).val, 0] ∧ win0_3.index t = ![(grid0.coords t 0).val, 0] ∧ win0_4.index t = ![(grid0.coords t 0).val, 0]
    ∧ win0_5.index t = ![(grid0.coords t 0).val, 0] ∧ win0_6.index t = ![0, 0, 0] ∧ win0_7.index t = ![0, 0] ∧ win0_8.index t = ![(grid0.coords t 0).val, 0] :=
  (by decide +kernel : ∀ t : Fin grid0.N, _)

/-- The array index of a block's entry: the block's rows and all columns. -/
abbrev at8 (t : Fin cfg0.N) (r : Fin 256) (l : Fin 128) : S10240x128.Idx := ((View.whole main_v4).slice (win0_8.rect t)).emb (ix2 r l)

theorem read0 (c : Dev nD) (t : Fin cfg0.N) (r : Fin 256) (l j : Fin 128) : iblk m c 0 t (ix2 r j) = m ((c : Thread nD τ).loc main_arg0) (ix2 (at8 t r l 0) j) := by
  unfold at8
  blk_ext! [iblk, V, idx t]
theorem read1 (c : Dev nD) (t : Fin cfg0.N) (r : Fin 256) (l j : Fin 128) : iblk m c 1 t (ix2 r j) = m ((c : Thread nD τ).loc main_arg1) (ix2 (at8 t r l 0) j) := by
  unfold at8
  blk_ext! [iblk, V, idx t]
theorem read2 (c : Dev nD) (t : Fin cfg0.N) (r : Fin 256) (l j : Fin 128) : iblk m c 2 t (ix2 r j) = m ((c : Thread nD τ).loc main_arg2) (ix2 (at8 t r l 0) j) := by
  unfold at8
  blk_ext! [iblk, V, idx t]
theorem read3 (c : Dev nD) (t : Fin cfg0.N) (r : Fin 256) (l j : Fin 128) : iblk m c 3 t (ix2 r j) = m ((c : Thread nD τ).loc main_arg3) (ix2 (at8 t r l 0) j) := by
  unfold at8
  blk_ext! [iblk, V, idx t]
theorem read4 (c : Dev nD) (t : Fin cfg0.N) (r : Fin 256) (l j : Fin 128) : iblk m c 4 t (ix2 r j) = m ((c : Thread nD τ).loc main_arg4) (ix1 (at8 t r l 0)) := by
  unfold at8
  blk_ext! [iblk, V, idx t]
theorem read5 (c : Dev nD) (t : Fin cfg0.N) (r : Fin 256) (l j : Fin 128) : iblk m c 5 t (ix2 r j) = m ((c : Thread nD τ).loc main_arg5) (ix1 (at8 t r l 0)) := by
  unfold at8
  blk_ext! [iblk, V, idx t]
theorem read6 (c : Dev nD) (t : Fin cfg0.N) (r : Fin 256) (l : Fin 128) (q : Fin 20) (k : Fin 512) :
    iblk m c 6 t (ix3 q k l) = m ((c : Thread nD τ).loc main_arg6) (ix3 q k (at8 t r l 1)) := by
  unfold at8
  blk_ext! [iblk, V, idx t]
theorem read7 (c : Dev nD) (t : Fin cfg0.N) (r : Fin 256) (l : Fin 128) (q : Fin 20) :
    iblk m c 7 t (ix2 q l) = m ((c : Thread nD τ).loc main_arg7) (ix2 q (at8 t r l 1)) := by
  unfold at8
  blk_ext! [iblk, V, idx t]

/-- After the run the result array is the last stage of the argument arrays. -/
theorem final (c : Dev nD) : (dats m 0 c).arrAt 8 cfg0.N
    = post (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp
  rw [after0_8]
  obtain ⟨r, l, rfl⟩ : ∃ (r : Fin 256) (l : Fin 128), y = ix2 r l := ⟨y 0, y 1, by funext a; fin_cases a <;> rfl⟩
  refine (block _ _ _ _ _ _ _ _ r l).trans ?_
  show _ = post _ _ _ _ _ _ _ _ (at8 t r l)
  unfold post
  rw [read5 m c t r l l]
  refine congrArg _ (funext fun q => ?_)
  rw [read7 m c t r l q]
  refine congrArg (· + _) (Finset.sum_congr rfl fun k _ => ?_)
  rw [read6 m c t r l q k]
  refine congrArg (· * _) (Finish.stats_congr (fun j => read0 m c t r l j) (fun j => read1 m c t r l j) (fun j => read2 m c t r l j) (fun j => read3 m c t r l j)
    (fun j => read4 m c t r l j) k)

end Cert.PostIdeal.Value

end
-- ==== Proof.PostRef.lean ====
/- The last stage's reference read at an index: under node types in range, the statistics against the type's weights, plus its bias. -/
module

public import proofs.«01_k».proof.Proof.Finish
public import proofs.«01_k».proof.Proof.Gen.PostReferenceIdeal.Run
public import Idealize.ShloMosaic.Lib.Pipeline.ValueKit
public import Idealize.ShloMosaic.Lib.ReduceAll

@[expose] public section

noncomputable section

namespace Cert.PostReferenceIdeal.Value

open Cert.PostReferenceIdeal Cert.PostReferenceIdeal.Gen Idealize.ShloMosaic Idealize.ShloMosaic.TcCoe Idealize.SL.Sem

/-- The types times one, at every column. -/
def types (ids : IVec S10240 32) : IVec S10240x1x128 32 :=
  muli (broadcastInDim S10240x1x128 ![0, 1, 2] bcast_S10240x1x1_S10240x1x128_0_1_2 (broadcastInDim S10240x1x1 ![0] bcast_S10240_S10240x1x1_0 ids))
    (broadcastInDim S10240x1x128 ![0, 1, 2] bcast_S1x1x128_S10240x1x128_0_1_2 (broadcastInDim S1x1x128 ![] bcast_S_S1x1x128 (constantI S_ 32 1#32)))

/-- The positions to read: a negative type counts from the end. -/
def pick (ids : IVec S10240 32) : IVec S10240x1x128x1 32 :=
  shapeCast _ (select (cmpi .slt (types ids) (broadcastInDim S10240x1x128 ![] bcast_S_S10240x1x128 (constantI S_ 32 0#32)))
    (addi (types ids) (broadcastInDim S10240x1x128 ![] bcast_S_S10240x1x128 (constantI S_ 32 20#32))) (types ids)) shapeCasts_S10240x1x128_S10240x1x128x1

/-- Whether each position lies among the twenty. -/
def inside (ids : IVec S10240 32) : IVec S10240x1x128 1 :=
  Host.reduce IntOp.andi (andi (cmpi .sge (pick ids) (broadcastInDim S10240x1x128x1 ![] bcast_S_S10240x1x128x1 (constantI S_ 32 0#32)))
    (cmpi .sle (pick ids) (broadcastInDim S10240x1x128x1 ![0, 1, 2, 3] bcast_S1x1x1x1_S10240x1x128x1_0_1_2_3
      (broadcastInDim S1x1x1x1 ![3] bcast_S1_S1x1x1x1_3 (constantI S1 32 19#32))))) (constantI S_ 1 1#1) reducesTo_S10240x1x128x1_S10240x1x128_d3 h_S_

/-- The counts, at every column. -/
def wide (cnt : FVec Ideal S10240 .f32) : FVec Ideal S10240x128 .f32 :=
  broadcastInDim S10240x128 ![0, 1] bcast_S10240x1_S10240x128_0_1 (broadcastInDim S10240x1 ![0] bcast_S10240_S10240x1_0
    (maximumf cnt (broadcastInDim S10240 ![] bcast_S_S10240 (constant S_ .f32 0x3F800000#32))))

/-- An array where the count is positive, zero elsewhere. -/
def kept (cnt : FVec Ideal S10240 .f32) (x : FVec Ideal S10240x128 .f32) : FVec Ideal S10240x128 .f32 :=
  select (broadcastInDim S10240x128 ![0, 1] bcast_S10240x1_S10240x128_0_1 (broadcastInDim S10240x1 ![0] bcast_S10240_S10240x1_0
    (cmpf .ogt cnt (broadcastInDim S10240 ![] bcast_S_S10240 (constant S_ .f32 0x00000000#32))))) x
    (broadcastInDim S10240x128 ![] bcast_S_S10240x128 (id (constant S_ .f32 0x00000000#32)))

/-- The four statistics side by side. -/
def agg (s sq mn mx : FVec Ideal S10240x128 .f32) (cnt : FVec Ideal S10240 .f32) : FVec Ideal S10240x512 .f32 :=
  concatenate S10240x512 1 [⟨S10240x128, s⟩, ⟨S10240x128, kept cnt mn⟩, ⟨S10240x128, kept cnt mx⟩,
    ⟨S10240x128, Host.sqrt (addf (maximumf (subf (Host.divf sq (wide cnt)) (mulf (Host.divf s (wide cnt)) (Host.divf s (wide cnt))))
      (broadcastInDim S10240x128 ![] bcast_S_S10240x128 (constant S_ .f32 0x00000000#32)))
      (broadcastInDim S10240x128 ![] bcast_S_S10240x128 (constant S_ .f32 0x3727C5AC#32)))⟩]
    concatenates_S10240x128_S10240x128_S10240x128_S10240x128_S10240x512_d1

/-- The positions of the biases. -/
def row (ids : IVec S10240 32) : IVec S10240x1 32 :=
  broadcastInDim S10240x1 ![0] bcast_S10240_S10240x1_0 (select (cmpi .slt ids (broadcastInDim S10240 ![] bcast_S_S10240 (constantI S_ 32 0#32)))
    (addi ids (broadcastInDim S10240 ![] bcast_S_S10240 (constantI S_ 32 20#32))) ids)

/-- The reference's result of its arguments. -/
def out (s sq mn mx : FVec Ideal S10240x128 .f32) (cnt : FVec Ideal S10240 .f32) (ids : IVec S10240 32) (wp : FVec Ideal S20x512x128 .f32)
    (bp : FVec Ideal S20x128 .f32) : FVec Ideal S10240x128 .f32 :=
  addf (shapeCast _ (select (inside ids) (Host.gather gather_S10240x20x128_S10240x1x128x1_S10240x1x128_n_1_02_02_1_3_111
      (Host.dotGeneral dot_S10240x512_S20x512x128_S10240x20x128_1_1_0_02_n_n none (agg s sq mn mx cnt) wp) (pick ids))
    (broadcastInDim S10240x1x128 ![] bcast_S_S10240x1x128 (constant S_ .f32 0x7FC00000#32))) shapeCasts_S10240x1x128_S10240x128)
    (Host.gather gather_S20x128_S10240x1_S10240x128_1_0_n_n_0_1_1128 bp (row ids))

set_option maxRecDepth 8192 in
theorem res_eq (m : (ℓ : Loc nD τ sig) → Buf (Elt Ideal) ℓ) (c : Dev nD) : res_main_v34 m c
    = out (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) := by
  unfold res_main_v34 out agg kept wide inside pick types row
  rfl

theorem agg_eq (s sq mn mx : FVec Ideal S10240x128 .f32) (cnt : FVec Ideal S10240 .f32) (r : Fin 10240) (k : Fin 512) :
    agg s sq mn mx cnt (ix2 r k)
      = Finish.stats (fun r l => s (ix2 r l)) (fun r l => sq (ix2 r l)) (fun r l => mn (ix2 r l)) (fun r l => mx (ix2 r l)) (fun r _ => cnt (ix1 r)) r k := by
  unfold Finish.stats
  pointwise [agg, kept, wide, id]

end Cert.PostReferenceIdeal.Value

end
-- ==== Proof.PostRead.lean ====
/- The last stage's reference read at an index: under node types in range, the statistics against the type's weights, plus its bias. -/
module

public import proofs.«01_k».proof.Proof.PostRef
public import proofs.«01_k».proof.Proof.Gen.PostReferenceIdeal.Run
public import Idealize.ShloMosaic.Lib.Pipeline.ValueKit
public import Idealize.ShloMosaic.Lib.ReduceAll

@[expose] public section

noncomputable section

namespace Cert.PostReferenceIdeal.Value

open Cert.PostReferenceIdeal Cert.PostReferenceIdeal.Gen Idealize.ShloMosaic Idealize.ShloMosaic.TcCoe Idealize.SL.Sem

variable {ids : IVec S10240 32}

/-- A type in range is not negative. -/
theorem not_neg {v : BitVec 32} (h : v.toNat < 20) : IntOp.cmpi .slt v 0#32 = 0#1 := by
  have : v.slt 0#32 = false := by
    have e : v.toInt = v.toNat := BitVec.toInt_eq_toNat_of_lt (by omega)
    simp [BitVec.slt, e]
  simp [IntOp.cmpi, this]

/-- Between zero and nineteen, as signed words. -/
theorem among {v : BitVec 32} (h : v.toNat < 20) : IntOp.cmpi .sge v 0#32 = 1#1 ∧ IntOp.cmpi .sle v 19#32 = 1#1 := by
  have e : v.toInt = v.toNat := BitVec.toInt_eq_toNat_of_lt (by omega)
  constructor <;> simp [IntOp.cmpi, BitVec.sle, e]
  rw [decide_eq_true (by omega)]
  rfl

theorem pick_eq (h : ∀ r, (ids (ix1 r)).toNat < 20) (r : Fin 10240) (l : Fin 128) : pick ids (ix4 r 0 l 0) = ids (ix1 r) := by
  pointwise [pick, types]
  have e : IntOp.muli (ids (ix1 r)) 1#32 = ids (ix1 r) := by simp [IntOp.muli]
  rw [e, not_neg (h r)]
  simp [Scalar.select]

theorem row_eq (h : ∀ r, (ids (ix1 r)).toNat < 20) (r : Fin 10240) : row ids (ix2 r 0) = ids (ix1 r) := by
  pointwise [row]
  rw [not_neg (h r)]
  simp [Scalar.select]

/-- The positions' indices, by row and column. -/
theorem only (i : S10240x1x128x1.Idx) : ∃ (r : Fin 10240) (l : Fin 128), i = ix4 r 0 l 0 := by
  refine ⟨i 0, i 2, ?_⟩
  funext a
  obtain rfl | rfl | rfl | rfl := (by decide : ∀ a : Fin 4, a = 0 ∨ a = 1 ∨ a = 2 ∨ a = 3) a
  · rfl
  · exact Subsingleton.elim (α := Fin 1) _ _
  · rfl
  · exact Subsingleton.elim (α := Fin 1) _ _

/-- Every position lies among the twenty. -/
theorem inside_eq (h : ∀ r, (ids (ix1 r)).toNat < 20) (j : S10240x1x128.Idx) : inside ids j = 1#1 := by
  unfold inside
  refine Host.reduce_andi_one _ _ _ _ j (by pointwise) fun i => ?_
  obtain ⟨r, l, rfl⟩ := only i
  pointwise
  rw [pick_eq h, (among (h r)).1, (among (h r)).2]
  rfl

/-- The batched read's dimensions. -/
abbrev place : GatherDims S10240x20x128 S10240x1x128x1 S10240x1x128 := gather_S10240x20x128_S10240x1x128x1_S10240x1x128_n_1_02_02_1_3_111

/-- The row read's dimensions. -/
abbrev rows : GatherDims S20x128 S10240x1 S10240x128 := gather_S20x128_S10240x1_S10240x128_1_0_n_n_0_1_1128

/-- The batched read: row and column are the result's, the place is the position, clamped. -/
theorem gather_place (x : S10240x20x128.Idx → EReal) (p : IVec S10240x1x128x1 32) (r : Fin 10240) (l : Fin 128) :
    Host.gather place x p (ix3 r 0 l) = x (ix3 r ⟨min (p (ix4 r 0 l 0)).toInt.toNat 19, by omega⟩ l) := by
  have off (a : Fin 3) : place.offCoord (ix3 r 0 l) a = 0 :=
    GatherDims.offCoord_eq_zero _ _ _ fun h => absurd ((GatherDims.mem_sKept _ _).mp h)
      (by fin_cases a <;> simp [place, gather_S10240x20x128_S10240x1x128x1_S10240x1x128_n_1_02_02_1_3_111])
  unfold Host.gather
  refine congrArg x (funext fun a => Fin.ext ?_)
  show place.start (ix3 r 0 l) p a + place.batchCoord (ix3 r 0 l) a + place.offCoord (ix3 r 0 l) a = _
  rw [off]
  obtain rfl | rfl | rfl := (by decide : ∀ a : Fin 3, a = 0 ∨ a = 1 ∨ a = 2) a
  · rw [GatherDims.start_batching _ _ _ _ (List.mem_cons.mpr (Or.inl rfl))]
    unfold GatherDims.batchCoord
    rw [dif_pos (show (0 : Fin 3) ∈ place.operandBatchingDims from List.mem_cons.mpr (Or.inl rfl))]
    exact Nat.zero_add _
  · rw [GatherDims.batchCoord_eq_zero _ _ _ (by simp [place, gather_S10240x20x128_S10240x1x128x1_S10240x1x128_n_1_02_02_1_3_111])]
    unfold GatherDims.start
    rw [dif_pos (show (1 : Fin 3) ∈ place.startIndexMap from List.mem_singleton.mpr rfl)]
    refine congrArg (fun i => min (p i).toInt.toNat 19) (?_ : _ = ix4 r 0 l 0)
    funext b
    refine Fin.ext ?_
    match b with
    | ⟨0, _⟩ => rfl
    | ⟨1, _⟩ => rfl
    | ⟨2, _⟩ => rfl
    | ⟨3, _⟩ => rfl
  · rw [GatherDims.start_batching _ _ _ _ (List.mem_cons.mpr (Or.inr (List.mem_singleton.mpr rfl)))]
    unfold GatherDims.batchCoord
    rw [dif_pos (show (2 : Fin 3) ∈ place.operandBatchingDims from List.mem_cons.mpr (Or.inr (List.mem_singleton.mpr rfl)))]
    exact Nat.zero_add _

/-- The row read: the row is the position, clamped, the column the result's. -/
theorem gather_row (x : S20x128.Idx → EReal) (p : IVec S10240x1 32) (r : Fin 10240) (l : Fin 128) :
    Host.gather rows x p (ix2 r l) = x (ix2 ⟨min (p (ix2 r 0)).toInt.toNat 19, by omega⟩ l) := by
  unfold Host.gather
  refine congrArg x (funext fun a => Fin.ext ?_)
  show rows.start (ix2 r l) p a + rows.batchCoord (ix2 r l) a + rows.offCoord (ix2 r l) a = _
  rw [GatherDims.batchCoord_eq_zero _ _ _ List.not_mem_nil]
  obtain rfl | rfl := (by decide : ∀ a : Fin 2, a = 0 ∨ a = 1) a
  · rw [GatherDims.offCoord_eq_zero _ _ _ fun h => ((GatherDims.mem_sKept _ _).mp h).1 (List.mem_singleton.mpr rfl)]
    unfold GatherDims.start
    rw [dif_pos (show (0 : Fin 2) ∈ rows.startIndexMap from List.mem_singleton.mpr rfl)]
    refine congrArg (fun i => min (p i).toInt.toNat 19) (?_ : _ = ix2 r 0)
    funext b
    refine Fin.ext ?_
    match b with
    | ⟨0, _⟩ => rfl
    | ⟨1, _⟩ => rfl
  · unfold GatherDims.start GatherDims.offCoord
    rw [dif_neg (by simp [rows, gather_S20x128_S10240x1_S10240x128_1_0_n_n_0_1_1128]),
      dif_pos ((GatherDims.mem_sKept _ _).mpr (by simp [rows, gather_S20x128_S10240x1_S10240x128_1_0_n_n_0_1_1128]))]
    exact Nat.zero_add _

/-- Clamping changes nothing of a type in range. -/
theorem clamp {v : BitVec 32} (h : v.toNat < 20) : min v.toInt.toNat 19 = v.toNat := by
  have e : v.toInt = v.toNat := BitVec.toInt_eq_toNat_of_lt (by omega)
  rw [e]
  omega

/-- The product with every type's weights, at an index. -/
theorem weighted (x : FVec Ideal S10240x512 .f32) (w : FVec Ideal S20x512x128 .f32) (r : Fin 10240) (t : Fin 20) (l : Fin 128) :
    Ideal.matmul dot_S10240x512_S20x512x128_S10240x20x128_1_1_0_02_n_n x w (fun _ => 0) (ix3 r t l) = ∑ k : Fin 512, x (ix2 r k) * w (ix3 t k l) := by
  pointwise

/-- The reference's entry at row `r`, column `l`. -/
theorem out_apply (s sq mn mx : FVec Ideal S10240x128 .f32) (cnt : FVec Ideal S10240 .f32) (h : ∀ r, (ids (ix1 r)).toNat < 20) (wp : FVec Ideal S20x512x128 .f32)
    (bp : FVec Ideal S20x128 .f32) (r : Fin 10240) (l : Fin 128) : out s sq mn mx cnt ids wp bp (ix2 r l)
      = ∑ k : Fin 512, Finish.stats (fun r l => s (ix2 r l)) (fun r l => sq (ix2 r l)) (fun r l => mn (ix2 r l)) (fun r l => mx (ix2 r l)) (fun r _ => cnt (ix1 r)) r k
          * wp (ix3 ⟨(ids (ix1 r)).toNat, h r⟩ k l) + bp (ix2 ⟨(ids (ix1 r)).toNat, h r⟩ l) := by
  pointwise [out]
  rw [inside_eq h, gather_row]
  simp only [Scalar.select, if_pos]
  rw [gather_place, weighted]
  simp only [pick_eq h, row_eq h, clamp (h r), agg_eq]
  exact congrArg (· + _) (if_pos (show (1#1 : BitVec 1) = 1 from rfl))

end Cert.PostReferenceIdeal.Value

end
-- ==== Proof.NextValue.lean ====
/- The value of a layer's last stage followed by the next layer's product: block by block and as one array. -/
module

public import proofs.«01_k».proof.Proof.PostValue
public import proofs.«01_k».proof.Proof.Gen.NextIdeal.Value
public import Idealize.ShloMosaic.Lib.Pipeline.ValueKit

@[expose] public section

noncomputable section

namespace Cert.NextIdeal.Value

open Cert.NextIdeal Cert.NextIdeal.Gen Idealize.ShloMosaic Idealize.ShloMosaic.TcCoe Idealize.SL.Sem
open Idealize.ShloMosaic.Pipeline (Dat)

/-- The statistics a block computes of its rows. -/
theorem stats_eq (s sq mn mx cnt : Vec Ideal S256x128 .f32) (r : Fin 256) (k : Fin 512) :
    k0_pay2 s cnt sq mn mx (ix2 r k)
      = Finish.stats (fun r l => s (ix2 r l)) (fun r l => sq (ix2 r l)) (fun r l => mn (ix2 r l)) (fun r l => mx (ix2 r l)) (fun r l => cnt (ix2 r l)) r k := by
  unfold Finish.stats
  pointwise [k0_pay2]

theorem agg_eq (x0 x1 x2 x3 x4 : Vec Ideal S256x128 .f32) (x5 : Vec Ideal S256x128 .i32) (x6 : Vec Ideal S20x512x128 .f32) (x7 : Vec Ideal S20x128 .f32) (x8 : Vec Ideal S128x128 .f32) :
    k0_pay23 x0 x1 x2 x3 x4 x5 x6 x7 x8 = k0_pay2 x0 x4 x1 x2 x3 := by
  unfold k0_pay23
  frame_out

theorem ids_eq (x0 x1 x2 x3 x4 : Vec Ideal S256x128 .f32) (x5 : Vec Ideal S256x128 .i32) (x6 : Vec Ideal S20x512x128 .f32) (x7 : Vec Ideal S20x128 .f32) (x8 : Vec Ideal S128x128 .f32) (r : Fin 256) (l : Fin 128) :
    k0_pay24 x0 x1 x2 x3 x4 x5 x6 x7 x8 (ix2 r l) = x5 (ix2 r l) := by
  unfold k0_pay24
  frame_out
  pointwise [k0_pay3]

/-- What a block's point leaves at row `r`, column `l`. -/
theorem block (x0 x1 x2 x3 x4 : Vec Ideal S256x128 .f32) (x5 : Vec Ideal S256x128 .i32) (x6 : Vec Ideal S20x512x128 .f32) (x7 : Vec Ideal S20x128 .f32) (x8 : Vec Ideal S128x128 .f32) (r : Fin 256) (l : Fin 128) :
    out0_9 x0 x1 x2 x3 x4 x5 x6 x7 x8 (ix2 r l) = ∑ j : Fin 128, max (Finish.mixed (x5 (ix2 r j)) fun t =>
      ∑ k : Fin 512, Finish.stats (fun r l => x0 (ix2 r l)) (fun r l => x1 (ix2 r l)) (fun r l => x2 (ix2 r l)) (fun r l => x3 (ix2 r l)) (fun r l => x4 (ix2 r l)) r k * x6 (ix3 t k j)
        + x7 (ix2 t j)) 0 * x8 (ix2 j l) := by
  simp only [← stats_eq]
  unfold Finish.mixed Finish.hot
  frame_out
  pointwise [k0_pay1, k0_pay22, k0_pay18, k0_pay15, k0_pay14, k0_pay12, k0_pay10, k0_pay7, k0_pay4, k0_pay5, k0_pay6, k0_pay8, k0_pay9, k0_pay11, k0_pay13, k0_pay16, k0_pay17, k0_pay19, k0_pay20, k0_pay21, k0_pay3]
  simp only [ids_eq, agg_eq]

variable (m : (ℓ : Loc nD τ sig) → Buf (Elt Ideal) ℓ) (ρ : Dev nD → PrngReg)

/-- The stage over whole arrays: the last stage's result, below zero taken as zero, times the next layer's weights. -/
def next (s sq mn mx : Vec Ideal S10240x128 .f32) (cnt : Vec Ideal S10240 .f32) (ids : Vec Ideal S10240 .i32) (wp : Vec Ideal S20x512x128 .f32)
    (bp : Vec Ideal S20x128 .f32) (wn : Vec Ideal S128x128 .f32) : Vec Ideal S10240x128 .f32 := fun i =>
  ∑ j : Fin 128, max (Cert.PostIdeal.Value.post s sq mn mx cnt ids wp bp (ix2 (i 0) j)) 0 * wn (ix2 j (i 1))

/-- Each grid point's blocks: its own rows of the statistics and results, all of the weights and biases. -/
theorem idx : ∀ t : Fin cfg0.N, win0_0.index t = ![(grid0.coords t 0).val, 0] ∧ win0_1.index t = ![(grid0.coords t 0).val, 0]
    ∧ win0_2.index t = ![(grid0.coords t 0).val, 0] ∧ win0_3.index t = ![(grid0.coords t 0).val, 0] ∧ win0_4.index t = ![(grid0.coords t 0).val, 0]
    ∧ win0_5.index t = ![(grid0.coords t 0).val, 0] ∧ win0_6.index t = ![0, 0, 0] ∧ win0_7.index t = ![0, 0] ∧ win0_8.index t = ![0, 0] ∧ win0_9.index t = ![(grid0.coords t 0).val, 0] :=
  (by decide +kernel : ∀ t : Fin grid0.N, _)

/-- The array index of a block's entry: the block's rows and all columns. -/
abbrev at9 (t : Fin cfg0.N) (r : Fin 256) (l : Fin 128) : S10240x128.Idx := ((View.whole main_v4).slice (win0_9.rect t)).emb (ix2 r l)

theorem read0 (c : Dev nD) (t : Fin cfg0.N) (r : Fin 256) (l j : Fin 128) : iblk m c 0 t (ix2 r j) = m ((c : Thread nD τ).loc main_arg0) (ix2 (at9 t r l 0) j) := by
  unfold at9
  blk_ext! [iblk, V, idx t]
theorem read1 (c : Dev nD) (t : Fin cfg0.N) (r : Fin 256) (l j : Fin 128) : iblk m c 1 t (ix2 r j) = m ((c : Thread nD τ).loc main_arg1) (ix2 (at9 t r l 0) j) := by
  unfold at9
  blk_ext! [iblk, V, idx t]
theorem read2 (c : Dev nD) (t : Fin cfg0.N) (r : Fin 256) (l j : Fin 128) : iblk m c 2 t (ix2 r j) = m ((c : Thread nD τ).loc main_arg2) (ix2 (at9 t r l 0) j) := by
  unfold at9
  blk_ext! [iblk, V, idx t]
theorem read3 (c : Dev nD) (t : Fin cfg0.N) (r : Fin 256) (l j : Fin 128) : iblk m c 3 t (ix2 r j) = m ((c : Thread nD τ).loc main_arg3) (ix2 (at9 t r l 0) j) := by
  unfold at9
  blk_ext! [iblk, V, idx t]
theorem read4 (c : Dev nD) (t : Fin cfg0.N) (r : Fin 256) (l j : Fin 128) : iblk m c 4 t (ix2 r j) = m ((c : Thread nD τ).loc main_arg4) (ix1 (at9 t r l 0)) := by
  unfold at9
  blk_ext! [iblk, V, idx t]
theorem read5 (c : Dev nD) (t : Fin cfg0.N) (r : Fin 256) (l j : Fin 128) : iblk m c 5 t (ix2 r j) = m ((c : Thread nD τ).loc main_arg5) (ix1 (at9 t r l 0)) := by
  unfold at9
  blk_ext! [iblk, V, idx t]
theorem read6 (c : Dev nD) (t : Fin cfg0.N) (q : Fin 20) (k : Fin 512) (j : Fin 128) :
    iblk m c 6 t (ix3 q k j) = m ((c : Thread nD τ).loc main_arg6) (ix3 q k j) := by
  blk_ext! [iblk, V, idx t]
theorem read7 (c : Dev nD) (t : Fin cfg0.N) (q : Fin 20) (j : Fin 128) :
    iblk m c 7 t (ix2 q j) = m ((c : Thread nD τ).loc main_arg7) (ix2 q j) := by
  blk_ext! [iblk, V, idx t]
theorem read8 (c : Dev nD) (t : Fin cfg0.N) (r : Fin 256) (l j : Fin 128) : iblk m c 8 t (ix2 j l) = m ((c : Thread nD τ).loc main_arg8) (ix2 j (at9 t r l 1)) := by
  unfold at9
  blk_ext! [iblk, V, idx t]

/-- After the run the result array is the stage of the argument arrays. -/
theorem final (c : Dev nD) : (dats m 0 c).arrAt 9 cfg0.N
    = next (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) := by
  refine (dats m 0 c).arrAt_eq_of_covers 9 _ (by decide +kernel) fun t hf y => ?_
  blk_simp
  rw [after0_9]
  obtain ⟨r, l, rfl⟩ : ∃ (r : Fin 256) (l : Fin 128), y = ix2 r l := ⟨y 0, y 1, by funext a; fin_cases a <;> rfl⟩
  refine (block _ _ _ _ _ _ _ _ _ r l).trans ?_
  show _ = next _ _ _ _ _ _ _ _ _ (at9 t r l)
  unfold next
  refine Finset.sum_congr rfl fun j _ => ?_
  rw [read8 m c t r l j]
  refine congrArg (max · 0 * _) ?_
  show _ = Finish.mixed _ fun q => ∑ k : Fin 512, Finish.stats _ _ _ _ _ (at9 t r l 0) k * _ + _
  rw [read5 m c t r l j]
  refine congrArg _ (funext fun q => ?_)
  rw [read7 m c t q j]
  refine congrArg (· + _) (Finset.sum_congr rfl fun k _ => ?_)
  rw [read6 m c t q k j]
  refine congrArg (· * _) (Finish.stats_congr (fun j => read0 m c t r l j) (fun j => read1 m c t r l j) (fun j => read2 m c t r l j) (fun j => read3 m c t r l j)
    (fun j => read4 m c t r l j) k)

end Cert.NextIdeal.Value

end
-- ==== Proof.Agree.lean ====
/- The last stages' references agree with the kernels' values when every node type is in range. -/
module

public import proofs.«01_k».proof.Proof.PostValue
public import proofs.«01_k».proof.Proof.PostRead
public import proofs.«01_k».proof.Proof.NextValue
public import proofs.«01_k».proof.Proof.Gen.NextReferenceIdeal.Run
public import proofs.«01_k».proof.Pre_types_in_range
public import proofs.«01_k».proof.Pre_types_in_range_next
public import Idealize.ShloMosaic.Lib.Pipeline.ValueKit
public import Idealize.ShloMosaic.Lib.ReduceAll

@[expose] public section

noncomputable section

/-! ## What the precondition says of one node type -/

namespace Cert.Agree

open Idealize.ShloMosaic Idealize.ShloMosaic.TcCoe Idealize.SL.Sem

/-- A word that is at least zero and below twenty, as signed words compare, is below twenty. -/
theorem below {v : BitVec 32} (h : IntOp.andi (IntOp.cmpi .sge v 0#32) (IntOp.cmpi .slt v 20#32) = 1#1) : v.toNat < 20 := by
  have one {a b : BitVec 1} (h : IntOp.andi a b = 1#1) : a = 1#1 ∧ b = 1#1 := by
    revert a b
    decide
  obtain ⟨h0, h1⟩ := one h
  have of {b : Bool} (h : BitVec.ofBool b = 1#1) : b = true := by cases b <;> simp_all
  have a0 : (0#32).sle v = true := of h0
  have a1 : v.slt 20#32 = true := of h1
  rw [BitVec.sle_iff_toInt_le] at a0
  rw [BitVec.slt_iff_toInt_lt] at a1
  have e0 : (0#32).toInt = 0 := rfl
  have e1 : (20#32).toInt = 20 := rfl
  rw [e0] at a0
  rw [e1] at a1
  rw [BitVec.toInt_eq_toNat_cond] at a0 a1
  split at a0 <;> omega

/-- The precondition's shape relations hold. -/
instance facts : Cert.Pre_types_in_range.Facts where
  bcast_S_S10240 := by decide
  reducesTo_S10240_S_d0 := by decide
  h_S_ := by decide

instance facts_next : Cert.Pre_types_in_range_next.Facts where
  bcast_S_S10240 := by decide
  reducesTo_S10240_S_d0 := by decide
  h_S_ := by decide

/-- Under the precondition every node type is below twenty. -/
theorem types_lt (s sq mn mx : FVec Ideal Cert.Pre_types_in_range.S10240x128 .f32) (cnt : FVec Ideal Cert.Pre_types_in_range.S10240 .f32)
    (ids : IVec Cert.Pre_types_in_range.S10240 32) (wp : FVec Ideal Cert.Pre_types_in_range.S20x512x128 .f32) (bp : FVec Ideal Cert.Pre_types_in_range.S20x128 .f32)
    (h : Cert.Pre_types_in_range.fn (F := Ideal) s sq mn mx cnt ids wp bp = fun _ => 1#1) (r : Fin 10240) : (ids (ix1 r)).toNat < 20 := by
  have : Subsingleton Cert.Pre_types_in_range.S_.Idx := ⟨fun a b => funext fun i => i.elim0⟩
  exact below (Host.reduce_andi_all _ _ _ _ ix0 (congrFun h ix0) (ix1 r))

/-- Under the precondition with the next layer's weights every node type is below twenty. -/
theorem types_lt_next (s sq mn mx : FVec Ideal Cert.Pre_types_in_range_next.S10240x128 .f32) (cnt : FVec Ideal Cert.Pre_types_in_range_next.S10240 .f32)
    (ids : IVec Cert.Pre_types_in_range_next.S10240 32) (wp : FVec Ideal Cert.Pre_types_in_range_next.S20x512x128 .f32) (bp : FVec Ideal Cert.Pre_types_in_range_next.S20x128 .f32)
    (wn : FVec Ideal Cert.Pre_types_in_range_next.S128x128 .f32)
    (h : Cert.Pre_types_in_range_next.fn (F := Ideal) s sq mn mx cnt ids wp bp wn = fun _ => 1#1) (r : Fin 10240) : (ids (ix1 r)).toNat < 20 := by
  have : Subsingleton Cert.Pre_types_in_range_next.S_.Idx := ⟨fun a b => funext fun i => i.elim0⟩
  exact below (Host.reduce_andi_all _ _ _ _ ix0 (congrFun h ix0) (ix1 r))

/-- The last stage's reference is the kernel's value. -/
theorem post (s sq mn mx : FVec Ideal Cert.PostReferenceIdeal.S10240x128 .f32) (cnt : FVec Ideal Cert.PostReferenceIdeal.S10240 .f32)
    (ids : IVec Cert.PostReferenceIdeal.S10240 32) (wp : FVec Ideal Cert.PostReferenceIdeal.S20x512x128 .f32) (bp : FVec Ideal Cert.PostReferenceIdeal.S20x128 .f32)
    (h : ∀ r : Fin 10240, (ids (ix1 r)).toNat < 20) : Cert.PostReferenceIdeal.Value.out s sq mn mx cnt ids wp bp = Cert.PostIdeal.Value.post s sq mn mx cnt ids wp bp := by
  funext i
  obtain ⟨r, l, rfl⟩ : ∃ (r : Fin 10240) (l : Fin 128), i = ix2 r l := ⟨i 0, i 1, by funext a; fin_cases a <;> rfl⟩
  rw [Cert.PostReferenceIdeal.Value.out_apply (ids := ids) s sq mn mx cnt h wp bp r l]
  exact (Finish.mixed_eq (ids (ix1 r)) (fun t => ∑ k : Fin 512, Finish.stats (fun r l => s (ix2 r l)) (fun r l => sq (ix2 r l)) (fun r l => mn (ix2 r l))
    (fun r l => mx (ix2 r l)) (fun r _ => cnt (ix1 r)) r k * wp (ix3 t k l) + bp (ix2 t l)) (h r)).symm

end Cert.Agree

/-! ## The last stage followed by the next layer's product -/

namespace Cert.NextReferenceIdeal.Value

open Cert.NextReferenceIdeal Cert.NextReferenceIdeal.Gen Idealize.ShloMosaic Idealize.ShloMosaic.TcCoe Idealize.SL.Sem

/-- A matrix, below zero taken as zero, times the next layer's weights. -/
def times (x : FVec Ideal S10240x128 .f32) (w : FVec Ideal S128x128 .f32) : FVec Ideal S10240x128 .f32 :=
  Host.dotGeneral dot_S10240x128_S128x128_S10240x128_1_0_0_1_n_n none (maximumf x (broadcastInDim S10240x128 ![] bcast_S_S10240x128 (constant S_ .f32 0x00000000#32))) w

theorem times_apply (x : FVec Ideal S10240x128 .f32) (w : FVec Ideal S128x128 .f32) (r : Fin 10240) (l : Fin 128) :
    times x w (ix2 r l) = ∑ j : Fin 128, max (x (ix2 r j)) 0 * w (ix2 j l) := by
  pointwise [times]

set_option maxRecDepth 8192 in
theorem res_eq (m : (ℓ : Loc nD τ sig) → Buf (Elt Ideal) ℓ) (c : Dev nD) : res_main_v36 m c
    = times (Cert.PostReferenceIdeal.Value.out (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)))
      (m ((c.tc : Thread nD τ).loc main_arg8)) := by
  unfold res_main_v36 times Cert.PostReferenceIdeal.Value.out Cert.PostReferenceIdeal.Value.agg Cert.PostReferenceIdeal.Value.kept Cert.PostReferenceIdeal.Value.wide
    Cert.PostReferenceIdeal.Value.inside Cert.PostReferenceIdeal.Value.pick Cert.PostReferenceIdeal.Value.types Cert.PostReferenceIdeal.Value.row
  rfl

end Cert.NextReferenceIdeal.Value

namespace Cert.Agree

open Idealize.ShloMosaic Idealize.ShloMosaic.TcCoe Idealize.SL.Sem

/-- The reference of the stage with the next layer's product is the kernel's value. -/
theorem next (s sq mn mx : FVec Ideal Cert.PostReferenceIdeal.S10240x128 .f32) (cnt : FVec Ideal Cert.PostReferenceIdeal.S10240 .f32)
    (ids : IVec Cert.PostReferenceIdeal.S10240 32) (wp : FVec Ideal Cert.PostReferenceIdeal.S20x512x128 .f32) (bp : FVec Ideal Cert.PostReferenceIdeal.S20x128 .f32)
    (wn : FVec Ideal Cert.NextReferenceIdeal.S128x128 .f32) (h : ∀ r : Fin 10240, (ids (ix1 r)).toNat < 20) :
    Cert.NextReferenceIdeal.Value.times (Cert.PostReferenceIdeal.Value.out s sq mn mx cnt ids wp bp) wn = Cert.NextIdeal.Value.next s sq mn mx cnt ids wp bp wn := by
  rw [post s sq mn mx cnt ids wp bp h]
  funext i
  obtain ⟨r, l, rfl⟩ : ∃ (r : Fin 10240) (l : Fin 128), i = ix2 r l := ⟨i 0, i 1, by funext a; fin_cases a <;> rfl⟩
  exact Cert.NextReferenceIdeal.Value.times_apply _ _ r l

end Cert.Agree

end
-- ==== Proof.Setup.lean ====
/-
  The program as the launch theorem sees it, and the names of the buffers: the two edge columns and the three results
  in the device's memory, and each vector subcore's own two chunk buffers, four staging buffers and count buffer.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Lists

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's side conditions: its four semaphores are distinct and scoped as the launch needs them. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters
/-- The assertions' resources: memory, semaphores, the launch's rounds and the copies' counters. -/
abbrev MM (F : FTy → Type) := MT nD τ sig (HIx 1) (Elt F) ℕ UU ℕ

abbrev EH : Emb UH (MT nD τ sig (HIx 1) (Elt F) ℕ UU ℕ) := embL

/-! ## The vector subcore and its buffers -/

abbrev cV (L : grid0.Coords) : Fin τ.nSC := (L 0).castLE hcore0
abbrev jV (L : grid0.Coords) : Fin τ.nSub := (L 1).castLE hsub0
/-- The vector subcore at coordinates `L` of device `d`. -/
abbrev thr (d : Dev nD) (L : grid0.Coords) : Thread nD τ := V d (cV L) (jV L)

-- the target column and the source column of the edges, the word lists, the source lists, the lengths
abbrev mD : Memref sig .scVector .hbm S320000 .i32 := Memref.whole main_v1_scv
abbrev mS : Memref sig .scVector .hbm S320000 .i32 := Memref.whole main_v3_scv
abbrev mW : Memref sig .scVector .hbm S21004288 .i32 := Memref.whole main_v4_0_scv
abbrev mR : Memref sig .scVector .hbm S21004288 .i32 := Memref.whole main_v4_1_scv
abbrev mN : Memref sig .scVector .hbm S1024 .i32 := Memref.whole main_v4_2_scv
-- a chunk of targets and of sources; the words and the sources staged for the first and the second block; the count
abbrev bD : Memref sig .scVector .vmem S4000 .i32 := Memref.whole cc0_scratch0
abbrev bS : Memref sig .scVector .vmem S4000 .i32 := Memref.whole cc0_scratch1
abbrev gW0 : Memref sig .scVector .vmem S4048 .i32 := Memref.whole cc0_scratch2
abbrev gW1 : Memref sig .scVector .vmem S4048 .i32 := Memref.whole cc0_scratch3
abbrev gS0 : Memref sig .scVector .vmem S4048 .i32 := Memref.whole cc0_scratch4
abbrev gS1 : Memref sig .scVector .vmem S4048 .i32 := Memref.whole cc0_scratch5
abbrev bN : Memref sig .scVector .vmem S16 .i32 := Memref.whole cc0_scratch6

end Cert.Proof.Lists

end
-- ==== Proof.Spec.lean ====
/-
  The lists in plain arithmetic. The edges come in eighty chunks of four thousand. One block owns some of
  them; its list holds, chunk by chunk, one entry for each edge it owns, in the edges' order, each chunk's entries
  followed by filling up to a multiple of eight places, and after the last chunk 4032 more places of filling.
-/
module

public import Mathlib.Data.Nat.Count

@[expose] public section

namespace Cert.Proof.Spec

variable (own : ℕ → Prop) [DecidablePred own]

/-- How many of the first `n` edges of chunk `c` the block owns. -/
def cnt (c n : ℕ) : ℕ := Nat.count (fun j => own (4000 * c + j)) n

/-- The places chunk `c` takes in the list: its owned edges, rounded up to a multiple of eight. -/
def room (c : ℕ) : ℕ := (cnt own c 4000 + 7) / 8 * 8

/-- Where chunk `c` starts in the list. -/
def start : ℕ → ℕ
  | 0 => 0
  | c + 1 => start c + room own c

/-- The place of edge `e`, if the block owns it. -/
def pos (e : ℕ) : ℕ := start own (e / 4000) + cnt own (e / 4000) (e % 4000)

theorem cnt_zero (c : ℕ) : cnt own c 0 = 0 := Nat.count_zero _

theorem cnt_succ (c n : ℕ) : cnt own c (n + 1) = cnt own c n + if own (4000 * c + n) then 1 else 0 := Nat.count_succ _ _

theorem cnt_le (c n : ℕ) : cnt own c n ≤ n := by
  induction n with
  | zero => simp [cnt_zero]
  | succ n ih => rw [cnt_succ]; split <;> omega

theorem cnt_mono (c : ℕ) {n m : ℕ} (h : n ≤ m) : cnt own c n ≤ cnt own c m := Nat.count_monotone _ h

theorem cnt_lt (c : ℕ) {n m : ℕ} (h : n < m) (ho : own (4000 * c + n)) : cnt own c n < cnt own c m := by
  have h1 := cnt_mono own c (show n + 1 ≤ m from h)
  rw [cnt_succ, if_pos ho] at h1
  omega

/-- Beyond `n`, at most one more owned edge for each further edge. -/
theorem cnt_add_le (c n k : ℕ) : cnt own c (n + k) ≤ cnt own c n + k := by
  induction k with
  | zero => simp
  | succ k ih => rw [← Nat.add_assoc, cnt_succ]; split <;> omega

theorem le_room (c : ℕ) : cnt own c 4000 ≤ room own c := by unfold room; omega
theorem room_le (c : ℕ) : room own c ≤ cnt own c 4000 + 7 := by unfold room; omega
theorem room_le' (c : ℕ) : room own c ≤ 4000 := by
  have := cnt_le own c 4000
  unfold room; omega

theorem start_le (c : ℕ) : start own c ≤ 4000 * c := by
  induction c with
  | zero => simp [start]
  | succ c ih => have := room_le' own c; simp only [start]; omega

theorem start_dvd (c : ℕ) : 8 ∣ start own c := by
  induction c with
  | zero => simp [start]
  | succ c ih => simp only [start, room]; omega

theorem start_mono {c d : ℕ} (h : c ≤ d) : start own c ≤ start own d := by
  induction d with
  | zero => simp_all
  | succ d ih =>
    rcases Nat.lt_or_ge c (d + 1) with h' | h'
    · have := ih (by omega); simp only [start]; omega
    · have : c = d + 1 := by omega
      subst this; exact Nat.le_refl _

theorem pos_chunk (c t : ℕ) (ht : t < 4000) : pos own (4000 * c + t) = start own c + cnt own c t := by
  unfold pos
  rw [show (4000 * c + t) / 4000 = c by omega, show (4000 * c + t) % 4000 = t by omega]

/-- An owned edge's place lies before the next chunk's start. -/
theorem pos_lt {e : ℕ} (ho : own e) : pos own e < start own (e / 4000 + 1) := by
  have hm : e % 4000 < 4000 := Nat.mod_lt _ (by decide)
  have h := cnt_lt own (e / 4000) hm (by rwa [Nat.div_add_mod])
  have := le_room own (e / 4000)
  simp only [start]; unfold pos; omega

theorem pos_lt_of_lt {e n : ℕ} (ho : own e) (he : e < 4000 * n) : pos own e < start own n :=
  Nat.lt_of_lt_of_le (pos_lt own ho) (start_mono own (by omega))

/-- Two owned edges with one place are one edge. -/
theorem pos_inj {e e' : ℕ} (ho : own e) (ho' : own e') (h : pos own e = pos own e') : e = e' := by
  have key : ∀ a b : ℕ, own a → a < b → pos own a < pos own b := by
    intro a b ha hab
    rcases Nat.lt_or_ge (a / 4000) (b / 4000) with hc | hc
    · have h1 := pos_lt own ha
      have h2 := start_mono own (show a / 4000 + 1 ≤ b / 4000 from hc)
      have h3 : start own (b / 4000) ≤ pos own b := by unfold pos; omega
      omega
    · have hc' : a / 4000 = b / 4000 := by have := Nat.div_le_div_right (c := 4000) hab.le; omega
      unfold pos
      rw [← hc']
      have := cnt_lt own (a / 4000) (n := a % 4000) (m := b % 4000) (by omega) (by rwa [Nat.div_add_mod])
      omega
  rcases Nat.lt_trichotomy e e' with hlt | heq | hgt
  · have := key e e' ho hlt; omega
  · exact heq
  · have := key e' e ho' hgt; omega

variable {W : Type} (val : ℕ → W) (fill : W)

/-- `f` holds, at the places of the first `n` edges of chunk `c` counted from the chunk's start, those edges' values. -/
def Staged (c n : ℕ) (f : ℕ → W) : Prop := ∀ t, t < n → own (4000 * c + t) → f (cnt own c t) = val (4000 * c + t)

/-- `L` is the list of the first `n` chunks, so far as it has been written: every owned edge's value at its place, and
    filling at the other places. -/
structure Listed (n : ℕ) (L : ℕ → W) : Prop where
  hit : ∀ e, e < 4000 * n → own e → L (pos own e) = val e
  miss : ∀ x, x < start own n → (∀ e, e < 4000 * n → own e → pos own e ≠ x) → L x = fill

/-- `L` is the whole list with the filling after the last chunk. -/
structure Full (L : ℕ → W) : Prop where
  hit : ∀ e, e < 320000 → own e → L (pos own e) = val e
  miss : ∀ x, x < start own 80 + 4032 → (∀ e, e < 320000 → own e → pos own e ≠ x) → L x = fill

variable {own val fill}

theorem Listed.zero (L : ℕ → W) : Listed own val fill 0 L := ⟨fun _ h => absurd h (by omega), fun _ h => absurd h (by simp [start])⟩

/-- One more chunk: the list up to chunk `c`, the chunk's entries staged with filling after them, and the first 4032
    staged places written at the chunk's start. -/
theorem Listed.succ {c : ℕ} {L L' f : ℕ → W} (hL : Listed own val fill c L) (hs : Staged own val c 4000 f)
    (hf : ∀ j, cnt own c 4000 ≤ j → j < cnt own c 4000 + 16 → f j = fill)
    (hlo : ∀ x, x < start own c → L' x = L x) (hhi : ∀ j, j < 4032 → L' (start own c + j) = f j) :
    Listed own val fill (c + 1) L' := by
  constructor
  · intro e he ho
    rcases Nat.lt_or_ge e (4000 * c) with h | h
    · rw [hlo _ (pos_lt_of_lt own ho h)]; exact hL.hit e h ho
    · obtain ⟨t, rfl⟩ := Nat.exists_eq_add_of_le h
      have ht : t < 4000 := by omega
      have := cnt_le own c t
      rw [pos_chunk own c t ht, hhi _ (by omega)]
      exact hs t ht ho
  · intro x hx hmiss
    rcases Nat.lt_or_ge x (start own c) with h | h
    · rw [hlo x h]; exact hL.miss x h fun e he ho => hmiss e (by omega) ho
    · obtain ⟨j, rfl⟩ := Nat.exists_eq_add_of_le h
      have hr := room_le own c
      have hr' := room_le' own c
      simp only [start] at hx
      rw [hhi j (by omega)]
      by_cases hj : j < cnt own c 4000
      · -- every place below the count is some owned edge's
        exfalso
        have hlt : j < Nat.count (fun j => own (4000 * c + j)) 4000 := hj
        obtain ⟨t, ht, hct, hot⟩ : ∃ t, t < 4000 ∧ cnt own c t = j ∧ own (4000 * c + t) := by
          clear hx hmiss h hlt
          have : ∀ n, j < cnt own c n → ∃ t, t < n ∧ cnt own c t = j ∧ own (4000 * c + t) := by
            intro n
            induction n with
            | zero => intro h; simp [cnt_zero] at h
            | succ n ih =>
              intro h
              by_cases h' : j < cnt own c n
              · obtain ⟨t, h1, h2, h3⟩ := ih h'; exact ⟨t, by omega, h2, h3⟩
              · rw [cnt_succ] at h
                by_cases ho : own (4000 * c + n)
                · rw [if_pos ho] at h; exact ⟨n, by omega, by omega, ho⟩
                · rw [if_neg ho] at h; omega
          exact this 4000 hj
        exact hmiss (4000 * c + t) (by omega) hot (by rw [pos_chunk own c t ht, hct])
      · exact hf j (by omega) (by omega)

/-- After the last chunk, 4032 places of filling written at the list's end. -/
theorem Listed.full {L L' : ℕ → W} (hL : Listed own val fill 80 L)
    (hlo : ∀ x, x < start own 80 → L' x = L x) (hhi : ∀ j, j < 4032 → L' (start own 80 + j) = fill) :
    Full own val fill L' := by
  constructor
  · intro e he ho
    rw [hlo _ (pos_lt_of_lt own ho (by omega))]; exact hL.hit e (by omega) ho
  · intro x hx hm
    rcases Nat.lt_or_ge x (start own 80) with h | h
    · rw [hlo x h]; exact hL.miss x h fun e he ho => hm e (by omega) ho
    · obtain ⟨j, rfl⟩ := Nat.exists_eq_add_of_le h
      exact hhi j (by omega)

/-- Two whole lists agree wherever they are determined. -/
theorem Full.eq {L L' : ℕ → W} (h : Full own val fill L) (h' : Full own val fill L') {x : ℕ}
    (hx : x < start own 80 + 4032) : L x = L' x := by
  by_cases hm : ∃ e, e < 320000 ∧ own e ∧ pos own e = x
  · obtain ⟨e, he, ho, rfl⟩ := hm
    rw [h.hit e he ho, h'.hit e he ho]
  · have hm' : ∀ e, e < 320000 → own e → pos own e ≠ x := fun e he ho hp => hm ⟨e, he, ho, hp⟩
    rw [h.miss x hx hm', h'.miss x hx hm']

/-- A stage extended by sixteen edges: the owned ones' values at their places, everything else as it was. -/
theorem Staged.step {c v : ℕ} {f f' : ℕ → W} (h : Staged own val c (16 * v) f)
    (hhit : ∀ j, j < 16 → own (4000 * c + (16 * v + j)) → f' (cnt own c (16 * v + j)) = val (4000 * c + (16 * v + j)))
    (hmiss : ∀ x, x < cnt own c (16 * v) → f' x = f x) : Staged own val c (16 * (v + 1)) f' := by
  intro t ht ho
  rcases Nat.lt_or_ge t (16 * v) with h' | h'
  · rw [hmiss _ (cnt_lt own c h' ho)]; exact h t h' ho
  · obtain ⟨j, rfl⟩ := Nat.exists_eq_add_of_le h'
    exact hhit j (by omega) ho

theorem Staged.zero (c : ℕ) (f : ℕ → W) : Staged own val c 0 f := fun _ h => absurd h (by omega)

end Cert.Proof.Spec
-- ==== Proof.Rows.lean ====
/-
  Vectors of words read by their place, and what the stores and the copies do to them, place by place: a store of
  sixteen words, a copy into a stretch of a long vector, the running count of a mask's lanes, and a scatter by an index
  vector under a mask.
-/
module

public import Idealize.ShloMosaic.PureOps.ShapeOps
public import Idealize.ShloMosaic.Lib.WritesUnit
public import Idealize.ShloMosaic.Lib.VecWindow
public import Idealize.ShloMosaic.Lib.WordExact
public import Idealize.ShloMosaic.Lib.Routing.Ops
public import Mathlib.Data.Nat.Count

@[expose] public section

namespace Cert.Proof.Rows

open Idealize.ShloMosaic Idealize.ShloMosaic.Routing Idealize.ShloMosaic.ValueIdx

/-- The word at place `k` of a vector, zero beyond its end. -/
def rd {n : ℕ} (f : (shape1 n).Idx → BitVec 32) (k : ℕ) : BitVec 32 := if h : k < n then f (ix1 ⟨k, h⟩) else 0

theorem rd_lt {n : ℕ} (f : (shape1 n).Idx → BitVec 32) {k : ℕ} (h : k < n) : rd f k = f (ix1 ⟨k, h⟩) := dif_pos h

theorem ix1_eta {n : ℕ} (x : (shape1 n).Idx) : x = ix1 (x 0) := funext fun a => by match a with | ⟨0, _⟩ => rfl

theorem rd_ix {n : ℕ} (f : (shape1 n).Idx → BitVec 32) (x : (shape1 n).Idx) : rd f (x 0).val = f x := by
  rw [rd_lt f (x 0).isLt]; exact congrArg f (ix1_eta x).symm

section Views

variable {sig : RefSig} {κ : Kind} {sp : Space} {F : FTy → Type} {n : ℕ}

/-- A load of `w` words from offset `o` reads, at lane `j`, place `o + j`. -/
theorem readAt_rd (v : View sig κ sp (shape1 n) .i32) (f : v.ty.Contents (Elt F)) {off : Fin 1 → ℕ} {w o : ℕ}
    (inb : ∀ a, off a + (![w] : Fin 1 → ℕ) a ≤ (shape1 n).size a) (ho : off = ![o]) (j : Fin w) :
    v.readAt (Elt F) (Rect.unit (s := shape1 n) off ![w] inb).toLoadRect f (ix1 j) = rd (v.read (Elt F) f) (o + j.val) := by
  subst ho
  have hlt : o + j.val < n := by have := inb 0; simp at this; omega
  rw [rd_lt _ hlt]
  refine congrArg (v.read (Elt F) f) (funext fun a => Fin.ext ?_)
  match a with
  | ⟨0, _⟩ => show o + 1 * j.val = o + j.val; omega

/-- After a store of `w` words at offset `o`, place `o + j` holds lane `j`. -/
theorem rd_store_in (v : View sig κ sp (shape1 n) .i32) (f : v.ty.Contents (Elt F)) {off : Fin 1 → ℕ} {w o : ℕ}
    (inb : ∀ a, off a + (![w] : Fin 1 → ℕ) a ≤ (shape1 n).size a) (y : (shape1 w).Idx → BitVec 32) (ho : off = ![o]) (j : Fin w) :
    rd (v.read (Elt F) (v.writes (Elt F) f [⟨Rect.unit (s := shape1 n) off ![w] inb, y⟩])) (o + j.val) = y (ix1 j) := by
  subst ho
  have hlt : o + j.val < n := by have := inb 0; simp at this; omega
  rw [rd_lt _ hlt]
  refine View.read_writes_cons_unit_of_mem v f inb y [] _ (ix1 j) rfl fun a => ?_
  match a with
  | ⟨0, _⟩ => rfl

/-- After a store of `w` words at offset `o`, the places outside `[o, o + w)` hold what they held. -/
theorem rd_store_out (v : View sig κ sp (shape1 n) .i32) (f : v.ty.Contents (Elt F)) {off : Fin 1 → ℕ} {w o : ℕ}
    (inb : ∀ a, off a + (![w] : Fin 1 → ℕ) a ≤ (shape1 n).size a) (y : (shape1 w).Idx → BitVec 32) (ho : off = ![o]) {k : ℕ}
    (hk : k < o ∨ o + w ≤ k) :
    rd (v.read (Elt F) (v.writes (Elt F) f [⟨Rect.unit (s := shape1 n) off ![w] inb, y⟩])) k = rd (v.read (Elt F) f) k := by
  subst ho
  by_cases hlt : k < n
  · rw [rd_lt _ hlt, rd_lt _ hlt]
    exact View.read_writes_cons_unit_of_not_mem v f inb y [] _ rfl 0 hk
  · unfold rd; rw [dif_neg hlt, dif_neg hlt]

/-- After a copy over the whole of the stretch `[o, o + w)`, place `o + j` holds the copied word `j`. -/
theorem rd_copy_in (m : Memref sig κ sp (shape1 n) .i32) (f : m.view.ty.Contents (Elt F)) {off : Fin 1 → ℕ} {w o : ℕ}
    (inb : ∀ a, off a + (![w] : Fin 1 → ℕ) a ≤ (shape1 n).size a) (y : (shape1 w).Idx → BitVec 32) (ho : off = ![o]) (j : Fin w) :
    rd (m.view.read (Elt F) ((m.slice (Rect.unit (s := shape1 n) off ![w] inb) (fun _ => rfl)).view.writes (Elt F) f
      [⟨Rect.whole (Rect.unit (s := shape1 n) off ![w] inb).shape, y⟩])) (o + j.val) = y (ix1 j) := by
  subst ho
  have hlt : o + j.val < n := by have := inb 0; simp at this; omega
  rw [rd_lt _ hlt]
  have h := View.read_writes_cons_emb (Val := Elt F) (m.slice (Rect.unit (s := shape1 n) ![o] ![w] inb) (fun _ => rfl)).view f
    (Rect.whole (Rect.unit (s := shape1 n) ![o] ![w] inb).shape) y [] (ix1 j)
  refine Eq.trans (congrArg _ (funext fun a => Fin.ext ?_)) h
  match a with
  | ⟨0, _⟩ => show o + j.val = o + 1 * (0 + 1 * j.val); omega

/-- A copy into the stretch `[o, o + w)` changes no element outside it. -/
theorem copy_out (m : Memref sig κ sp (shape1 n) .i32) (f : m.view.ty.Contents (Elt F)) {off : Fin 1 → ℕ} {w : ℕ}
    (inb : ∀ a, off a + (![w] : Fin 1 → ℕ) a ≤ (shape1 n).size a) (y : (shape1 w).Idx → BitVec 32) (i : m.view.ty.shape.Idx)
    (hi : i ∉ (m.slice (Rect.unit (s := shape1 n) off ![w] inb) (fun _ => rfl)).view.set) :
    (m.slice (Rect.unit (s := shape1 n) off ![w] inb) (fun _ => rfl)).view.writes (Elt F) f
      [⟨Rect.whole (Rect.unit (s := shape1 n) off ![w] inb).shape, y⟩] i = f i := by
  rw [View.writes_singleton]
  refine View.write_of_not_mem _ _ _ fun hm => hi ?_
  rwa [← View.set_slice_rectWhole]

end Views

/-! ## Running counts -/

/-- The running sum of a vector of sixteen words, one lane at a time. -/
def acc (v : (shape1 16).Idx → BitVec 32) : ℕ → BitVec 32
  | 0 => rd v 0
  | k + 1 => acc v k + rd v (k + 1)

theorem foldl_places (v : (shape1 16).Idx → BitVec 32) (g : Fin 16 → BitVec 32) (hg : ∀ k, g k = rd v k.val) :
    ∀ (l : List (Fin 16)) (r : BitVec 32), l.foldl (fun r k => r + g k) r = (l.map Fin.val).foldl (fun r k => r + rd v k) r
  | [], _ => rfl
  | k :: l, r => by rw [List.foldl_cons, List.map_cons, List.foldl_cons, foldl_places v g hg l, hg]

theorem foldl_acc (v : (shape1 16).Idx → BitVec 32) (n : ℕ) :
    ((List.range n).map (· + 1)).foldl (fun r k => r + rd v k) (rd v 0) = acc v n := by
  induction n with
  | zero => rfl
  | succ n ih => rw [List.range_succ, List.map_append, List.foldl_append, ih]; rfl

theorem lanes_upto : ∀ j : Fin 16, ((List.finRange 16).filter fun k => decide (0 < k.val ∧ k.val ≤ j.val)).map Fin.val = (List.range j.val).map (· + 1) := by
  decide

theorem scan_acc (v : (shape1 16).Idx → BitVec 32) (j : Fin 16) : scan (d := ![16]) .sum v (ix1 j) = acc v j.val := by
  have hg : ∀ k : Fin 16, (fun k : Fin 16 => v (Shape.ofLane (d := ![16]) k)) k = rd v k.val := fun k =>
    (rd_ix v (Shape.ofLane (d := ![16]) k)).symm
  have h := foldl_places v _ hg ((List.finRange 16).filter fun k => decide (0 < k.val ∧ k.val ≤ j.val)) (rd v 0)
  rw [lanes_upto, foldl_acc] at h
  have h0 : v (Shape.ofLane (d := ![16]) (0 : Fin 16)) = rd v 0 := hg 0
  rw [← h0] at h
  exact h

/-- The running sum of the words that are one where `p` holds and zero elsewhere is the running count of `p`. -/
theorem scan_count (p : ℕ → Prop) [DecidablePred p] (v : (shape1 16).Idx → BitVec 32)
    (hv : ∀ j : Fin 16, v (ix1 j) = BitVec.ofNat 32 (if p j.val then 1 else 0)) (j : Fin 16) :
    scan (d := ![16]) .sum v (ix1 j) = BitVec.ofNat 32 (Nat.count p (j.val + 1)) := by
  rw [scan_acc]
  obtain ⟨k, hk⟩ := j
  show acc v k = _
  induction k with
  | zero => rw [acc, rd_lt v hk, hv, Nat.count_succ]; simp
  | succ k ih =>
    rw [acc, ih (by omega), rd_lt v hk, hv, Nat.count_succ p (k + 1), BitVec.ofNat_add]

/-! ## A scatter under a mask -/

section Scatter

variable {F : FTy → Type} [FloatOps F] {n : ℕ}

/-- What one lane of a scatter does. -/
def put (idx y : (shape1 16).Idx → BitVec 32) (mask : IVec (shape1 16) 1) (g : (shape1 n).Idx → BitVec 32) (k : Fin 16) : (shape1 n).Idx → BitVec 32 :=
  fun j => if mask (ix1 k) = 1 ∧ (idx (ix1 k)).toNat = (j 0).val then y (ix1 k) else g j

theorem lane_put (idx y : (shape1 16).Idx → BitVec 32) (mask : IVec (shape1 16) 1)
    (h : ∀ a x, ((![idx] : Fin 1 → IVec (shape1 16) 32) a x).toNat < (shape1 n).size a) (g : (shape1 n).Idx → BitVec 32)
    (j : (shape1 n).Idx) (x : (shape1 16).Idx) (k : Fin 16) (hx : x = ix1 k)
    (_ : ∀ j : (shape1 n).Idx, Decidable (∀ a, (j a).val = (idxAt (s := shape1 n) ![idx] h x a).val)) :
    (if mask x = 1 then (fun j : (shape1 n).Idx => if (∀ a, (j a).val = (idxAt (s := shape1 n) ![idx] h x a).val) then
        (if false then Elt.idxAdd (F := F) .i32 (g (idxAt (s := shape1 n) ![idx] h x)) (y x) else y x) else g j) else g) j
      = put idx y mask g k j := by
  subst hx
  unfold put
  by_cases hm : mask (ix1 k) = 1
  · by_cases hq : (idx (ix1 k)).toNat = (j 0).val
    · have ha : ∀ a, (j a).val = (idxAt (s := shape1 n) ![idx] h (ix1 k) a).val := fun a => by
        match a with
        | ⟨0, _⟩ => exact hq.symm
      rw [if_pos hm, if_pos ha, if_pos (And.intro hm hq), if_neg (by decide)]
    · have ha : ¬∀ a, (j a).val = (idxAt (s := shape1 n) ![idx] h (ix1 k) a).val := fun hh => hq (hh 0).symm
      have hb : ¬(mask (ix1 k) = 1 ∧ (idx (ix1 k)).toNat = (j 0).val) := fun hh => hq hh.2
      rw [if_pos hm, if_neg ha, if_neg hb]
  · rw [if_neg hm, if_neg (fun hh => hm hh.1)]

theorem storeIdx_puts (f : (shape1 n).Idx → BitVec 32) (idx y : (shape1 16).Idx → BitVec 32) (mask : IVec (shape1 16) 1)
    (h : ∀ a x, ((![idx] : Fin 1 → IVec (shape1 16) 32) a x).toNat < (shape1 n).size a) :
    (storeIdx (F := F) (e := .i32) (d := ![16]) f ![idx] y mask false h : (shape1 n).Idx → BitVec 32)
      = (List.finRange 16).foldl (put idx y mask) f := by
  unfold storeIdx
  refine congrArg (fun s : ((shape1 n).Idx → BitVec 32) → Fin 16 → (shape1 n).Idx → BitVec 32 => List.foldl s f (List.finRange 16)) ?_
  funext g k j
  exact lane_put (F := F) idx y mask h g j (Shape.ofLane (d := ![16]) k) k (ix1_eta _) fun _ => _

theorem puts_miss (idx y : (shape1 16).Idx → BitVec 32) (mask : IVec (shape1 16) 1) (i : (shape1 n).Idx) :
    ∀ (l : List (Fin 16)) (g : (shape1 n).Idx → BitVec 32), (∀ k ∈ l, mask (ix1 k) = 1 → (idx (ix1 k)).toNat ≠ (i 0).val) →
    l.foldl (put idx y mask) g i = g i
  | [], _, _ => rfl
  | k :: l, g, hl => by
    rw [List.foldl_cons, puts_miss idx y mask i l _ fun k' hk' => hl k' (List.mem_cons_of_mem _ hk')]
    exact if_neg fun hh => hl k List.mem_cons_self hh.1 hh.2

theorem puts_hit (idx y : (shape1 16).Idx → BitVec 32) (mask : IVec (shape1 16) 1) (i : (shape1 n).Idx) (k : Fin 16)
    (hm : mask (ix1 k) = 1) (hk : (idx (ix1 k)).toNat = (i 0).val) :
    ∀ (l : List (Fin 16)) (g : (shape1 n).Idx → BitVec 32), k ∈ l → (∀ k' ∈ l, mask (ix1 k') = 1 → (idx (ix1 k')).toNat = (i 0).val → k' = k) →
    l.foldl (put idx y mask) g i = y (ix1 k)
  | [], _, hkl, _ => absurd hkl List.not_mem_nil
  | k' :: l, g, hkl, hu => by
    rw [List.foldl_cons]
    by_cases hin : k ∈ l
    · exact puts_hit idx y mask i k hm hk l _ hin fun k'' hk'' => hu k'' (List.mem_cons_of_mem _ hk'')
    · obtain rfl : k = k' := by
        rcases List.mem_cons.mp hkl with h | h
        · exact h
        · exact absurd h hin
      rw [puts_miss idx y mask i l _ fun k'' hk'' hm'' he => hin ((hu k'' (List.mem_cons_of_mem _ hk'') hm'' he) ▸ hk'')]
      exact if_pos ⟨hm, hk⟩

/-- A scatter leaves a place that no lane of the mask names as it was. -/
theorem storeIdx_miss (f : (shape1 n).Idx → BitVec 32) (idx y : (shape1 16).Idx → BitVec 32) (mask : IVec (shape1 16) 1)
    (h : ∀ a x, ((![idx] : Fin 1 → IVec (shape1 16) 32) a x).toNat < (shape1 n).size a) {x : ℕ}
    (hx : ∀ k : Fin 16, mask (ix1 k) = 1 → (idx (ix1 k)).toNat ≠ x) :
    rd (storeIdx (F := F) (e := .i32) (d := ![16]) f ![idx] y mask false h : (shape1 n).Idx → BitVec 32) x = rd f x := by
  by_cases hn : x < n
  · rw [rd_lt _ hn, rd_lt _ hn]
    rw [storeIdx_puts]
    exact puts_miss idx y mask (ix1 ⟨x, hn⟩) _ f fun k _ => hx k
  · unfold rd; rw [dif_neg hn, dif_neg hn]

/-- A scatter writes the word of lane `k` at the place lane `k` names, when no other lane of the mask names it. -/
theorem storeIdx_hit (f : (shape1 n).Idx → BitVec 32) (idx y : (shape1 16).Idx → BitVec 32) (mask : IVec (shape1 16) 1)
    (h : ∀ a x, ((![idx] : Fin 1 → IVec (shape1 16) 32) a x).toNat < (shape1 n).size a) (k : Fin 16) (hm : mask (ix1 k) = 1) {x : ℕ}
    (hk : (idx (ix1 k)).toNat = x) (hu : ∀ k' : Fin 16, mask (ix1 k') = 1 → (idx (ix1 k')).toNat = x → k' = k) :
    rd (storeIdx (F := F) (e := .i32) (d := ![16]) f ![idx] y mask false h : (shape1 n).Idx → BitVec 32) x = y (ix1 k) := by
  have hn : x < n := by have := h 0 (ix1 k); subst hk; exact this
  rw [rd_lt _ hn, storeIdx_puts]
  exact puts_hit idx y mask (ix1 ⟨x, hn⟩) k hm hk _ f (List.mem_finRange k) fun k' _ => hu k'

end Scatter

end Cert.Proof.Rows

end
-- ==== Proof.Words.lean ====
/-
  The words the kernel computes, in plain arithmetic: which edges a block owns, an edge's word, the lanes' counts and
  the places they name, the offsets of the copies, and the room a chunk takes.
-/
module

public import proofs.«01_k».proof.Proof.Spec
public import proofs.«01_k».proof.Proof.Rows
public import proofs.«01_k».proof.Proof.Gen.KernelIdeal
public import proofs.«01_k».proof.Proof.Gen.KernelIdeal.Skeleton
public import Idealize.ShloMosaic.Lib.Routing.Words

@[expose] public section

noncomputable section

namespace Cert.Proof.Words

open Cert.KernelIdeal Cert.KernelIdeal.Gen Cert.Proof.Spec Cert.Proof.Rows
open Idealize.ShloMosaic Idealize.ShloMosaic.Routing Idealize.ShloMosaic.ValueIdx

variable {F : FTy → Type} [FloatOps F]

/-! ## Edges and their words -/

/-- Block `b` owns the edges whose target is one of its 160 rows. -/
def Own (D : ℕ → BitVec 32) (b e : ℕ) : Prop := 160 * b ≤ (D e).toNat ∧ (D e).toNat < 160 * b + 160

instance (D : ℕ → BitVec 32) (b : ℕ) : DecidablePred (Own D b) := fun e => by unfold Own; infer_instance

/-- An owned edge's word: its target's row within the block, above the edge's number. -/
def word (D : ℕ → BitVec 32) (b e : ℕ) : BitVec 32 := BitVec.ofNat 32 (((D e).toNat - 160 * b) * 2 ^ 19 + e)

/-- The word that fills the lists. -/
abbrev wfill : BitVec 32 := 84206080#32
abbrev sfill : BitVec 32 := 0#32

theorem sle_ofNat {x : BitVec 32} {n : ℕ} (hn : n < 2 ^ 31) : (BitVec.ofNat 32 n).sle x = decide (n ≤ x.toNat ∧ x.toNat < 2 ^ 31) := by
  rw [BitVec.sle_eq_decide, decide_eq_decide, BitVec.toInt_eq_toNat_cond, BitVec.toInt_eq_toNat_cond, BitVec.toNat_ofNat]
  have := x.isLt
  rw [Nat.mod_eq_of_lt (by omega)]
  split <;> split <;> omega

theorem slt_ofNat {x : BitVec 32} {n : ℕ} (hn : n < 2 ^ 31) : x.slt (BitVec.ofNat 32 n) = decide (x.toNat < n ∨ 2 ^ 31 ≤ x.toNat) := by
  rw [BitVec.slt_eq_decide, decide_eq_decide, BitVec.toInt_eq_toNat_cond, BitVec.toInt_eq_toNat_cond, BitVec.toNat_ofNat]
  have := x.isLt
  rw [Nat.mod_eq_of_lt (by omega)]
  split <;> split <;> omega

/-- At least `lo` and below `hi`, read signed, is that as natural numbers. -/
theorem within (x : BitVec 32) {lo hi : ℕ} (hl : lo < 2 ^ 31) (hh : hi < 2 ^ 31) :
    IntOp.andi (IntOp.cmpi .sge x (BitVec.ofNat 32 lo)) (IntOp.cmpi .slt x (BitVec.ofNat 32 hi)) = if lo ≤ x.toNat ∧ x.toNat < hi then 1#1 else 0#1 := by
  show BitVec.ofBool ((BitVec.ofNat 32 lo).sle x) &&& BitVec.ofBool (x.slt (BitVec.ofNat 32 hi)) = _
  rw [sle_ofNat hl, slt_ofNat hh]
  by_cases h1 : lo ≤ x.toNat ∧ x.toNat < 2 ^ 31 <;> by_cases h2 : x.toNat < hi ∨ 2 ^ 31 ≤ x.toNat
  · rw [decide_eq_true h1, decide_eq_true h2, if_pos (by omega)]; rfl
  · rw [decide_eq_true h1, decide_eq_false h2, if_neg (by omega)]; rfl
  · rw [decide_eq_false h1, decide_eq_true h2, if_neg (by omega)]; rfl
  · rw [decide_eq_false h1, decide_eq_false h2, if_neg (by omega)]; rfl

/-- A row above an edge's number, joined by bits, is their sum. -/
theorem pack {x : BitVec 32} {b e : ℕ} (hb : b < 64) (hx : 160 * b ≤ x.toNat) (hx' : x.toNat < 160 * b + 160) (he : e < 2 ^ 19) :
    IntOp.ori (IntOp.shli .vector (IntOp.subi x (BitVec.ofNat 32 (160 * b))) 19#32) (BitVec.ofNat 32 e)
      = BitVec.ofNat 32 ((x.toNat - 160 * b) * 2 ^ 19 + e) := by
  have hsub : x - BitVec.ofNat 32 (160 * b) = BitVec.ofNat 32 (x.toNat - 160 * b) := by
    apply BitVec.eq_of_toNat_eq
    rw [BitVec.toNat_sub, BitVec.toNat_ofNat, BitVec.toNat_ofNat]
    have := x.isLt
    omega
  show (IntOp.shli .vector (x - BitVec.ofNat 32 (160 * b)) 19#32) ||| BitVec.ofNat 32 e = _
  rw [hsub]
  unfold IntOp.shli
  rw [if_pos (by decide), show ∀ y : BitVec 32, y <<< 19#32 = y <<< (19#32).toNat from fun _ => rfl]
  apply BitVec.eq_of_toNat_eq
  rw [BitVec.toNat_or, BitVec.toNat_shiftLeft, BitVec.toNat_ofNat, BitVec.toNat_ofNat, BitVec.toNat_ofNat]
  generalize hm : x.toNat - 160 * b = m
  have hm' : m < 160 := by omega
  have h1 : m % 2 ^ 32 = m := Nat.mod_eq_of_lt (by omega)
  have h2 : e % 2 ^ 32 = e := Nat.mod_eq_of_lt (by omega)
  have h3 : m <<< (19 % 2 ^ 32) % 2 ^ 32 = m <<< 19 := by
    show m <<< 19 % 2 ^ 32 = _
    rw [Nat.shiftLeft_eq]
    exact Nat.mod_eq_of_lt (by omega)
  rw [h1, h2, h3, ← Nat.shiftLeft_add_eq_or_of_lt he, Nat.shiftLeft_eq, BitVec.toNat_ofNat]
  exact (Nat.mod_eq_of_lt (by omega)).symm

/-- Rounding a count up to a multiple of eight. -/
theorem round8 : ∀ k : Fin 4001, IntOp.andi (IntOp.addi (BitVec.ofNat 32 k.val) 7#32) 4294967288#32 = BitVec.ofNat 32 ((k.val + 7) / 8 * 8) := by
  decide +kernel

/-! ## One vector of sixteen edges -/

section Lanes

variable (D : ℕ → BitVec 32) {b c v : ℕ}

/-- Edge `16 v + j` of chunk `c`. -/
abbrev edge (c v j : ℕ) : ℕ := 4000 * c + (16 * v + j)

variable (f7 : (shape1 16).Idx → BitVec 32)

theorem mask_at (hb : b < 64) (lo hi : BitVec 32) (hlo : lo = BitVec.ofNat 32 (160 * b)) (hhi : hi = BitVec.ofNat 32 (160 * b + 160))
    (h7 : ∀ j : Fin 16, f7 (ix1 j) = D (edge c v j.val)) (j : Fin 16) :
    k0_pay3 (F := F) lo hi f7 (ix1 j) = if Own D b (edge c v j.val) then 1#1 else 0#1 := by
  subst hlo hhi
  show IntOp.andi (IntOp.cmpi .sge (f7 (ix1 j)) _) (IntOp.cmpi .slt (f7 (ix1 j)) _) = _
  rw [h7 j]
  exact within _ (by omega) (by omega)

theorem count_at (hb : b < 64) (lo hi : BitVec 32) (hlo : lo = BitVec.ofNat 32 (160 * b)) (hhi : hi = BitVec.ofNat 32 (160 * b + 160))
    (h7 : ∀ j : Fin 16, f7 (ix1 j) = D (edge c v j.val)) (j : Fin 16) :
    k0_pay7 (F := F) lo hi f7 (ix1 j) = BitVec.ofNat 32 (Nat.count (fun k => Own D b (edge c v k)) (j.val + 1)) := by
  refine scan_count (fun k => Own D b (edge c v k)) _ (fun i => ?_) j
  show (k0_pay3 (F := F) lo hi f7 (ix1 i)).setWidth 32 = _
  rw [mask_at D f7 hb lo hi hlo hhi h7 i]
  split <;> rfl

/-- The counts before and within a vector add up. -/
theorem cnt_vec (n : ℕ) : cnt (Own D b) c (16 * v) + Nat.count (fun k => Own D b (edge c v k)) n = cnt (Own D b) c (16 * v + n) :=
  (Nat.count_add (fun j => Own D b (4000 * c + j)) (16 * v) n).symm

/-- The place lane `j` names: one below the owned edges up to and with its own. -/
theorem place_at (hb : b < 64) (hv : v < 250) (lo hi a : BitVec 32) (hlo : lo = BitVec.ofNat 32 (160 * b)) (hhi : hi = BitVec.ofNat 32 (160 * b + 160))
    (ha : a = BitVec.ofNat 32 (cnt (Own D b) c (16 * v))) (h7 : ∀ j : Fin 16, f7 (ix1 j) = D (edge c v j.val)) (j : Fin 16) :
    k0_pay9 (F := F) lo hi a f7 (ix1 j) = BitVec.ofNat 32 (cnt (Own D b) c (16 * v + (j.val + 1)) - 1) := by
  subst ha
  show IntOp.maxsi ((BitVec.ofNat 32 (cnt (Own D b) c (16 * v)) + k0_pay7 (F := F) lo hi f7 (ix1 j)) - 1#32) 0#32 = _
  rw [count_at D f7 hb lo hi hlo hhi h7 j, ← BitVec.ofNat_add, cnt_vec]
  have := cnt_le (Own D b) c (16 * v + (j.val + 1))
  exact maxsi_pred (by have := j.isLt; omega)

theorem place_nat (hb : b < 64) (hv : v < 250) (lo hi a : BitVec 32) (hlo : lo = BitVec.ofNat 32 (160 * b)) (hhi : hi = BitVec.ofNat 32 (160 * b + 160))
    (ha : a = BitVec.ofNat 32 (cnt (Own D b) c (16 * v))) (h7 : ∀ j : Fin 16, f7 (ix1 j) = D (edge c v j.val)) (j : Fin 16) :
    (k0_pay9 (F := F) lo hi a f7 (ix1 j)).toNat = cnt (Own D b) c (16 * v + (j.val + 1)) - 1 := by
  rw [place_at D f7 hb hv lo hi a hlo hhi ha h7 j, BitVec.toNat_ofNat]
  have := cnt_le (Own D b) c (16 * v + (j.val + 1))
  exact Nat.mod_eq_of_lt (by have := j.isLt; omega)

/-- Every place a lane names lies in the staging buffer. -/
theorem place_lt (hb : b < 64) (hv : v < 250) (lo hi a : BitVec 32) (hlo : lo = BitVec.ofNat 32 (160 * b)) (hhi : hi = BitVec.ofNat 32 (160 * b + 160))
    (ha : a = BitVec.ofNat 32 (cnt (Own D b) c (16 * v))) (h7 : ∀ j : Fin 16, f7 (ix1 j) = D (edge c v j.val)) :
    ∀ q x, ((![k0_pay9 (F := F) lo hi a f7] : Fin 1 → IVec S16 32) q x).toNat < S4048.size q := by
  intro q x
  match q with
  | ⟨0, _⟩ =>
    obtain ⟨j, rfl⟩ : ∃ j : Fin 16, x = ix1 j := ⟨x 0, ix1_eta x⟩
    show (k0_pay9 (F := F) lo hi a f7 (ix1 j)).toNat < 4048
    rw [place_nat D f7 hb hv lo hi a hlo hhi ha h7]
    have := cnt_le (Own D b) c (16 * v + (j.val + 1))
    have := j.isLt
    omega

/-- The count after the vector. -/
theorem carry_at (hb : b < 64) (lo hi a : BitVec 32) (hlo : lo = BitVec.ofNat 32 (160 * b)) (hhi : hi = BitVec.ofNat 32 (160 * b + 160))
    (ha : a = BitVec.ofNat 32 (cnt (Own D b) c (16 * v))) (h7 : ∀ j : Fin 16, f7 (ix1 j) = D (edge c v j.val)) :
    a + k0_pay7 (F := F) lo hi f7 (ix1 (15 : Fin 16)) = BitVec.ofNat 32 (cnt (Own D b) c (16 * (v + 1))) := by
  subst ha
  rw [count_at D f7 hb lo hi hlo hhi h7, ← BitVec.ofNat_add, cnt_vec]
  rfl

/-- Scattering the lanes' words under the mask extends the stage by the vector's sixteen edges. -/
theorem stage_step (hb : b < 64) (hv : v < 250) (lo hi a : BitVec 32) (hlo : lo = BitVec.ofNat 32 (160 * b)) (hhi : hi = BitVec.ofNat 32 (160 * b + 160))
    (ha : a = BitVec.ofNat 32 (cnt (Own D b) c (16 * v))) (h7 : ∀ j : Fin 16, f7 (ix1 j) = D (edge c v j.val))
    (val : ℕ → BitVec 32) (y : (shape1 16).Idx → BitVec 32) (hy : ∀ j : Fin 16, Own D b (edge c v j.val) → y (ix1 j) = val (edge c v j.val))
    (f : (shape1 4048).Idx → BitVec 32) (hf : Staged (Own D b) val c (16 * v) (rd f))
    (h : ∀ q x, ((![k0_pay9 (F := F) lo hi a f7] : Fin 1 → IVec S16 32) q x).toNat < S4048.size q) :
    Staged (Own D b) val c (16 * (v + 1)) (rd (storeIdx (F := F) (s := S4048) (e := .i32) (d := ![16]) f ![k0_pay9 (F := F) lo hi a f7] y
      (k0_pay3 (F := F) lo hi f7) false h : (shape1 4048).Idx → BitVec 32)) := by
  have hmask : ∀ j : Fin 16, k0_pay3 (F := F) lo hi f7 (ix1 j) = 1 → Own D b (edge c v j.val) := by
    intro j hj
    rw [mask_at D f7 hb lo hi hlo hhi h7 j] at hj
    by_contra hn
    rw [if_neg hn] at hj
    exact absurd hj (by decide)
  have hplace : ∀ j : Fin 16, k0_pay3 (F := F) lo hi f7 (ix1 j) = 1 →
      (k0_pay9 (F := F) lo hi a f7 (ix1 j)).toNat = cnt (Own D b) c (16 * v + j.val) := by
    intro j hj
    rw [place_nat D f7 hb hv lo hi a hlo hhi ha h7, ← Nat.add_assoc, cnt_succ, if_pos (hmask j hj)]
    rfl
  refine hf.step (fun j hj ho => ?_) fun x hx => ?_
  · have hm : k0_pay3 (F := F) lo hi f7 (ix1 (⟨j, hj⟩ : Fin 16)) = 1 := by
      rw [mask_at D f7 hb lo hi hlo hhi h7, if_pos ho]
      rfl
    rw [storeIdx_hit (F := F) f _ y _ h ⟨j, hj⟩ hm (hplace _ hm) fun k hk hkx => ?_]
    · exact hy ⟨j, hj⟩ ho
    · replace hkx : cnt (Own D b) c (16 * v + k.val) = cnt (Own D b) c (16 * v + j) := (hplace k hk).symm.trans hkx
      apply Fin.ext
      show k.val = j
      rcases Nat.lt_trichotomy k.val j with hlt | heq | hgt
      · have := cnt_lt (Own D b) c (show 16 * v + k.val < 16 * v + j by omega) (hmask k hk)
        omega
      · exact heq
      · have := cnt_lt (Own D b) c (show 16 * v + j < 16 * v + k.val by omega) ho
        omega
  · refine storeIdx_miss (F := F) f _ y _ h fun k hk => ?_
    rw [hplace k hk]
    have := cnt_mono (Own D b) c (show 16 * v ≤ 16 * v + k.val by omega)
    omega

/-- The word lane `j` stores, where its edge is owned. -/
theorem word_at (hb : b < 64) (hc : c < 80) (hv : v < 250) (lo : BitVec 32) (hlo : lo = BitVec.ofNat 32 (160 * b))
    (v11 : IVec S16 32) (h11 : ∀ j : Fin 16, v11 (ix1 j) = BitVec.ofNat 32 j.val) (cw : BitVec 32) (hcw : cw = BitVec.ofNat 32 c)
    (k : Fin k0_t3_loop.trips) (hk : k.val = v) (h7 : ∀ j : Fin 16, f7 (ix1 j) = D (edge c v j.val)) (j : Fin 16) (ho : Own D b (edge c v j.val)) :
    k0_pay5 (F := F) lo v11 cw 0#32 1#32 k f7 (ix1 j) = word D b (edge c v j.val) := by
  subst hlo hcw
  have hpay2 : k0_pay2 v11 (BitVec.ofNat 32 c) 0#32 1#32 k (ix1 j) = BitVec.ofNat 32 (edge c v j.val) := by
    show (BitVec.ofNat 32 c * 4000#32 + (Scf.iv 0#32 1#32 k) * 16#32) + v11 (ix1 j) = _
    rw [h11 j]
    have hiv : Scf.iv 0#32 1#32 k = BitVec.ofNat 32 v := by
      subst hk
      show 0#32 + BitVec.ofNat 32 k.val * 1#32 = _
      rw [BitVec.zero_add, BitVec.mul_one]
    rw [hiv]
    rw [← BitVec.ofNat_mul, ← BitVec.ofNat_mul, ← BitVec.ofNat_add, ← BitVec.ofNat_add]
    exact congrArg (BitVec.ofNat 32) (by show c * 4000 + v * 16 + j.val = 4000 * c + (16 * v + j.val); omega)
  show IntOp.ori (IntOp.shli .vector (IntOp.subi (f7 (ix1 j)) _) 19#32) (k0_pay2 v11 (BitVec.ofNat 32 c) 0#32 1#32 k (ix1 j)) = _
  rw [hpay2, h7 j]
  have := j.isLt
  exact pack hb ho.1 ho.2 (by show 4000 * c + (16 * v + j.val) < _; omega)

end Lanes

/-! ## Offsets -/

/-- The number of a vector subcore. -/
abbrev wid (L : grid0.Coords) : ℕ := 2 * (L 1).val + (L 0).val

theorem wid_lt (L : grid0.Coords) : wid L < 32 := by
  have h0 : (L 0).val < 2 := (L 0).isLt
  have h1 : (L 1).val < 16 := (L 1).isLt
  show 2 * (L 1).val + (L 0).val < 32
  omega

variable (L : grid0.Coords) {s : ℕ}

theorem base_word (L : grid0.Coords) (r s : ℕ) (hr : r < 2) (hs : s ≤ 320000) :
    (((BitVec.ofNat 32 (L 1).val * 2#32 + BitVec.ofNat 32 (L 0).val) * 2#32 + BitVec.ofNat 32 r) * 328192#32 + BitVec.ofNat 32 s).toNat
      = (2 * wid L + r) * 328192 + s := by
  have h0 : (L 0).val < 2 := (L 0).isLt
  have h1 : (L 1).val < 16 := (L 1).isLt
  rw [← BitVec.ofNat_mul, ← BitVec.ofNat_add, ← BitVec.ofNat_mul, ← BitVec.ofNat_add, ← BitVec.ofNat_mul, ← BitVec.ofNat_add, BitVec.toNat_ofNat]
  show ((((L 1).val * 2 + (L 0).val) * 2 + r) * 328192 + s) % 2 ^ 32 = (2 * (2 * (L 1).val + (L 0).val) + r) * 328192 + s
  rw [Nat.mod_eq_of_lt (by omega)]
  omega

theorem off6_at (hs : s ≤ 320000) : k0_off6 L (BitVec.ofNat 32 s) = ![(2 * wid L) * 328192 + s] := by
  have h := base_word L 0 s (by omega) hs
  rw [BitVec.add_zero] at h
  exact congrArg (fun n : ℕ => (![n] : Fin 1 → ℕ)) h

theorem off7_at (hs : s ≤ 320000) : k0_off7 L (BitVec.ofNat 32 s) = ![(2 * wid L + 1) * 328192 + s] :=
  congrArg (fun n : ℕ => (![n] : Fin 1 → ℕ)) (base_word L 1 s (by omega) hs)

theorem off9_at (hs : s ≤ 320000) : k0_off9 L (BitVec.ofNat 32 s) = ![(2 * wid L) * 328192 + s] := off6_at L hs
theorem off10_at (hs : s ≤ 320000) : k0_off10 L (BitVec.ofNat 32 s) = ![(2 * wid L + 1) * 328192 + s] := off7_at L hs

theorem chk5_at (hs : s ≤ 320000) (h8 : 8 ∣ s) : k0_chk5 L (BitVec.ofNat 32 s) := by
  have hw := wid_lt L
  have h := base_word L 0 s (by omega) hs
  rw [BitVec.add_zero] at h
  refine ⟨?_, fun a => ?_⟩
  · exact (show (k0_mult1 L (BitVec.ofNat 32 s)).toNat = _ from h) ▸ (by omega)
  · rw [off6_at L hs]
    match a with
    | ⟨0, _⟩ => show (2 * wid L) * 328192 + s + 4032 ≤ 21004288; omega

theorem chk6_at (hs : s ≤ 320000) (h8 : 8 ∣ s) : k0_chk6 L (BitVec.ofNat 32 s) := by
  have hw := wid_lt L
  have h := base_word L 1 s (by omega) hs
  refine ⟨?_, fun a => ?_⟩
  · exact (show (k0_mult2 L (BitVec.ofNat 32 s)).toNat = _ from h) ▸ (by omega)
  · rw [off7_at L hs]
    match a with
    | ⟨0, _⟩ => show (2 * wid L + 1) * 328192 + s + 4032 ≤ 21004288; omega

theorem chk7_at (hs : s ≤ 320000) (h8 : 8 ∣ s) : k0_chk7 L (BitVec.ofNat 32 s) := chk5_at L hs h8
theorem chk8_at (hs : s ≤ 320000) (h8 : 8 ∣ s) : k0_chk8 L (BitVec.ofNat 32 s) := chk6_at L hs h8

theorem off4_at (hs : s ≤ 4000) : k0_off4 (BitVec.ofNat 32 s) = ![s] := by
  show (![(BitVec.ofNat 32 s).toNat] : Fin 1 → ℕ) = _
  rw [BitVec.toNat_ofNat, Nat.mod_eq_of_lt (by omega)]
theorem off5_at (hs : s ≤ 4000) : k0_off5 (BitVec.ofNat 32 s) = ![s] := off4_at hs

theorem chk3_at (hs : s ≤ 4000) : k0_chk3 (BitVec.ofNat 32 s) := by
  intro a
  rw [off4_at hs]
  match a with
  | ⟨0, _⟩ => show s + 16 ≤ 4048; omega
theorem chk4_at (hs : s ≤ 4000) : k0_chk4 (BitVec.ofNat 32 s) := chk3_at hs

end Cert.Proof.Words

end
-- ==== Proof.Chunk.lean ====
/-
  One chunk of edges at one vector subcore: vector by vector, the owned edges' words and sources are scattered into the
  staging buffers, each at the place its running count names.
-/
module

public import proofs.«01_k».proof.Proof.Setup
public import proofs.«01_k».proof.Proof.Words
@[expose] public section

noncomputable section

namespace Cert.Proof.Lists

open Cert.KernelIdeal Cert.KernelIdeal.Gen Cert.Proof.Spec Cert.Proof.Rows Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Routing (shape1)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (D Sx : ℕ → BitVec 32)

/-- A block's words and sources of the first `n` edges of chunk `c`, staged. -/
def Both (b c n : ℕ) (fw fs : (shape1 4048).Idx → BitVec 32) : Prop :=
  Staged (Own D b) (word D b) c n (rd fw) ∧ Staged (Own D b) Sx c n (rd fs)

/-- The invariant of a chunk's loop after `k` vectors: the counts are the owned edges so far, and those are staged. -/
def inv3 (d : Dev nD) (L : grid0.Coords) (c : ℕ) (f7 f8 : (shape1 4000).Idx → BitVec 32) (k : ℕ) (a : BitVec 32 × BitVec 32) : sProp (MM F) :=
  iprop((bD.view.loc (thr d L) ↦{fullShare} f7) ∗ (bS.view.loc (thr d L) ↦{fullShare} f8)
    ∗ ∃ g9 g10 g11 g12 : S4048.Idx → BitVec 32,
      ⌜(a.1 = BitVec.ofNat 32 (cnt (Own D (2 * wid L)) c (16 * k)) ∧ a.2 = BitVec.ofNat 32 (cnt (Own D (2 * wid L + 1)) c (16 * k)))
        ∧ Both D Sx (2 * wid L) c (16 * k) g9 g11 ∧ Both D Sx (2 * wid L + 1) c (16 * k) g10 g12⌝
      ∗ (gW0.view.loc (thr d L) ↦{fullShare} g9) ∗ (gW1.view.loc (thr d L) ↦{fullShare} g10)
      ∗ (gS0.view.loc (thr d L) ↦{fullShare} g11) ∗ (gS1.view.loc (thr d L) ↦{fullShare} g12))

omit [FloatOps F] in
/-- A buffer held whole, its places named as the whole buffer's own. -/
theorem at_access {c : Thread nD τ} {ℓ : Loc nD τ sig} {f : Buf (Elt F) ℓ} {I : Finset (Idx ℓ)} (h : I = Finset.univ) :
    (ℓ ↦{fullShare} f : sProp 𝕄) = ℓ ↦[I]{fullShare} f := by rw [h]

omit [FloatOps F] in
/-- What a scatter into a whole buffer leaves is the scattered contents. -/
theorem scattered (b : Ref sig .scVector) (f : b.ty.Contents (Elt F)) (G : b.ty.Contents (Elt F) → b.ty.Contents (Elt F)) :
    ((Memref.whole b).access (Rect.whole _) : View sig .scVector _ _ _).write (Elt F) f (G (((Memref.whole b).access (Rect.whole _) : View sig .scVector _ _ _).read (Elt F) f)) Finset.univ
      = G f := by rw [Memref.write_access_whole_univ, Memref.read_access_whole]

omit [FloatOps F] in
/-- A count moves on by the last lane of a running sum. -/
theorem carry_read (a : BitVec 32) (y : IVec S16 32) :
    Scalar.addi a (extractAt ![0] (k0_pay12 y) inpos_S1_p0) = a + y (ix1 (15 : Fin 16)) := by
  unfold k0_pay12 extractAt extractStridedSlice Scalar.addi
  refine congrArg (fun z => a + y z) ?_
  funext q
  match q with
  | 0 => rfl

omit [FloatOps F] in
theorem carry_read' (a : BitVec 32) (y : IVec S16 32) :
    Scalar.addi a (extractAt ![0] (k0_pay13 y) inpos_S1_p0) = a + y (ix1 (15 : Fin 16)) := carry_read a y

/-- The values one vector leaves for one block: the count moves on, and the words and the sources are staged. -/
theorem vector_leaves {b c : ℕ} (hb : b < 64) (hc : c < 80) (lo hi a a14 : BitVec 32) (v11 : IVec S16 32) (k : Fin k0_t3_loop.trips)
    (hlo : lo = BitVec.ofNat 32 (160 * b)) (hhi : hi = BitVec.ofNat 32 (160 * b + 160))
    (ha : a = BitVec.ofNat 32 (cnt (Own D b) c (16 * k.val))) (h11 : ∀ j : Fin 16, v11 (ix1 j) = BitVec.ofNat 32 j.val) (h14 : a14 = BitVec.ofNat 32 c)
    (X Y : IVec S16 32) (hd : ∀ j : Fin 16, X (ix1 j) = D (edge c k.val j.val)) (hs : ∀ j : Fin 16, Y (ix1 j) = Sx (edge c k.val j.val))
    (fw fs : S4048.Idx → BitVec 32)
    (hw : Staged (Own D b) (word D b) c (16 * k.val) (rd fw)) (hs' : Staged (Own D b) Sx c (16 * k.val) (rd fs))
    (sums at' words : IVec S16 32) (mask : IVec S16 1) (h : ∀ q x, ((![at'] : Fin 1 → IVec S16 32) q x).toNat < S4048.size q)
    (hsums : sums = k0_pay7 (F := F) lo hi X) (hat : at' = k0_pay9 (F := F) lo hi a X) (hwords : words = k0_pay5 (F := F) lo v11 a14 0#32 1#32 k X)
    (hmask : mask = k0_pay3 (F := F) lo hi X) :
    Scalar.addi a (extractAt ![0] (k0_pay12 sums) inpos_S1_p0) = BitVec.ofNat 32 (cnt (Own D b) c (16 * (k.val + 1)))
      ∧ Both D Sx b c (16 * (k.val + 1)) (storeIdx (F := F) (s := S4048) (e := .i32) fw ![at'] words mask false h) (storeIdx (F := F) (s := S4048) (e := .i32) fs ![at'] Y mask false h) := by
  subst hsums hat hwords hmask
  have hk : k.val < 250 := k.isLt
  exact ⟨(carry_read a _).trans (carry_at (F := F) D X hb lo hi a hlo hhi ha hd),
    stage_step (F := F) D X hb hk lo hi a hlo hhi ha hd _ _ (fun j ho => word_at (F := F) D X hb hc hk lo hlo v11 h11 a14 h14 k rfl hd j ho) fw hw h,
    stage_step (F := F) D X hb hk lo hi a hlo hhi ha hd _ _ (fun j _ => hs j) fs hs' h⟩

set_option maxHeartbeats 400000 in
/-- One vector of sixteen edges: both blocks' counts and staged edges move on by sixteen edges. -/
theorem trip3 (d : Dev nD) (L : grid0.Coords) (c : ℕ) (hc : c < 80) (v2 v4 v5 v6 v7 : BitVec 32) (v8 v9 v11 : IVec S16 32)
    (k2 : Fin k0_t2_loop.trips) (a15 a16 a14 : BitVec 32) (f7 f8 : (shape1 4000).Idx → BitVec 32)
    (h5 : v5 = BitVec.ofNat 32 (160 * (2 * wid L))) (h6 : v6 = BitVec.ofNat 32 (160 * (2 * wid L + 1))) (h7 : v7 = BitVec.ofNat 32 (160 * (2 * wid L + 1) + 160))
    (h11 : ∀ j : Fin 16, v11 (ix1 j) = BitVec.ofNat 32 j.val) (h14 : a14 = BitVec.ofNat 32 c)
    (hf7 : ∀ t, t < 4000 → rd f7 t = D (4000 * c + t)) (hf8 : ∀ t, t < 4000 → rd f8 t = Sx (4000 * c + t))
    (k : Fin k0_t3_loop.trips) (acc : BitVec 32 × BitVec 32) :
    inv3 (F := F) D Sx d L c f7 f8 k.val acc
      ⊢ wp frame (wpE (defs₀ (F := F)) 𝒱₀ (thr d L) none) Set.univ
        (k0_t3_body L mD (Memref.isWhole_whole _) mS (Memref.isWhole_whole _) mW (Memref.isWhole_whole _) mR (Memref.isWhole_whole _) mN (Memref.isWhole_whole _) bD (Memref.isWhole_whole _) bS (Memref.isWhole_whole _) gW0 (Memref.isWhole_whole _) gW1 (Memref.isWhole_whole _) gS0 (Memref.isWhole_whole _) gS1 (Memref.isWhole_whole _) bN (Memref.isWhole_whole _)
        cc0_scoped0 cc0_scoped1 cc0_scoped2 cc0_scoped3 cc0_scoped4 cc0_scoped5 cc0_scoped6 cc0_scoped7 cc0_scoped8 cc0_scoped9 cc0_scoped10 cc0_scoped11 v2 v4 v5 v6 v7 v8 v9 v11 0#32 1#32 k2 a15 a16 a14 k acc)
        fun r => inv3 (F := F) D Sx d L c f7 f8 (k.val + 1) r := by
  obtain ⟨a, b⟩ := acc
  have hk : k.val < 250 := k.isLt
  have hw := wid_lt L
  unfold inv3
  iintro ⟨H7, H8, %g9, %g10, %g11, %g12, %hS, H9, H10, H11, H12⟩
  obtain ⟨⟨ha, hb⟩, ⟨hw0, hs0⟩, ⟨hw1, hs1⟩⟩ := hS
  dsimp only at ha hb
  have hd : ∀ j : Fin 16, View.readAt (Elt F) bD.view (Rect.unit (s := S4000) (k0_off3 k) S16.size (k0_off3_inb k)).toLoadRect f7 (ix1 j) = D (edge c k.val j.val) := fun j =>
    (readAt_rd (F := F) bD.view f7 _ (k0_off3_eq k) j).trans (hf7 (16 * k.val + j.val) (by have := j.isLt; omega))
  have hs : ∀ j : Fin 16, View.readAt (Elt F) bS.view (Rect.unit (s := S4000) (k0_off3 k) S16.size (k0_off3_inb k)).toLoadRect f8 (ix1 j) = Sx (edge c k.val j.val) := fun j =>
    (readAt_rd (F := F) bS.view f8 _ (k0_off3_eq k) j).trans (hf8 (16 * k.val + j.val) (by have := j.isLt; omega))
  have e6 : 160 * (2 * wid L) + 160 = 160 * (2 * wid L + 1) := by omega
  have p0 := place_lt (F := F) D _ (b := 2 * wid L) (c := c) (by omega) hk v5 v6 a h5 (h6.trans (by rw [e6])) ha hd
  have p1 := place_lt (F := F) D _ (b := 2 * wid L + 1) (c := c) (by omega) hk v6 v7 b h6 h7 hb hd
  have q1 : k0_chk1 (k0_pay9 (F := F) v5 v6 a (View.readAt (Elt F) bD.view (Rect.unit (s := S4000) (k0_off3 k) S16.size (k0_off3_inb k)).toLoadRect f7)) := ⟨p0, p0⟩
  have q2 : k0_chk2 (k0_pay11 (k0_pay10 (F := F) v6 v7 b (View.readAt (Elt F) bD.view (Rect.unit (s := S4000) (k0_off3 k) S16.size (k0_off3_inb k)).toLoadRect f7))) := ⟨p1, p1⟩
  unfold k0_t3_body
  sl_exec (disch := first | exact q1 | exact q2)
  ihave H9' := (Entails.of_eq (at_access (F := F) (c := thr d L) (Memref.set_access_whole (cc0_scratch2 : Ref sig .scVector)))) $$ H9
  iapply (SparseCore.wp_vectorStoreIdx 𝒱₀ (thr d L) none Set.univ (base := gW0)) $$ H9'; iintro H9''
  ihave H9 := (Entails.of_eq (at_access (F := F) (c := thr d L) (Memref.set_access_whole (cc0_scratch2 : Ref sig .scVector))).symm) $$ H9''
  ihave H11' := (Entails.of_eq (at_access (F := F) (c := thr d L) (Memref.set_access_whole (cc0_scratch4 : Ref sig .scVector)))) $$ H11
  iapply (SparseCore.wp_vectorStoreIdx 𝒱₀ (thr d L) none Set.univ (base := gS0)) $$ H11'; iintro H11''
  ihave H11 := (Entails.of_eq (at_access (F := F) (c := thr d L) (Memref.set_access_whole (cc0_scratch4 : Ref sig .scVector))).symm) $$ H11''
  ihave H10' := (Entails.of_eq (at_access (F := F) (c := thr d L) (Memref.set_access_whole (cc0_scratch3 : Ref sig .scVector)))) $$ H10
  iapply (SparseCore.wp_vectorStoreIdx 𝒱₀ (thr d L) none Set.univ (base := gW1)) $$ H10'; iintro H10''
  ihave H10 := (Entails.of_eq (at_access (F := F) (c := thr d L) (Memref.set_access_whole (cc0_scratch3 : Ref sig .scVector))).symm) $$ H10''
  ihave H12' := (Entails.of_eq (at_access (F := F) (c := thr d L) (Memref.set_access_whole (cc0_scratch5 : Ref sig .scVector)))) $$ H12
  iapply (SparseCore.wp_vectorStoreIdx 𝒱₀ (thr d L) none Set.univ (base := gS1)) $$ H12'; iintro H12''
  ihave H12 := (Entails.of_eq (at_access (F := F) (c := thr d L) (Memref.set_access_whole (cc0_scratch5 : Ref sig .scVector))).symm) $$ H12''
  dsimp only
  sl_step
  isplitl [H7]; · iexact H7
  isplitl [H8]; · iexact H8
  iexists _, _, _, _
  isplitr
  swap
  · isplitl [H9]; · iexact H9
    isplitl [H10]; · iexact H10
    isplitl [H11]; · iexact H11
    iexact H12
  ipureintro
  have r0 := vector_leaves (F := F) D Sx (b := 2 * wid L) (c := c) (by omega) hc v5 v6 a a14 v11 k h5 (h6.trans (by rw [e6])) ha h11 h14 _ _ hd hs g9 g11 hw0 hs0
    (trip3.sl.v88 (F := F) v5 v6 f7 k) (trip3.sl.v97 (F := F) v5 v6 f7 k a) (trip3.sl.v80 (F := F) v5 v11 a14 f7 k) (trip3.sl.v70 (F := F) v5 v6 f7 k) p0 rfl rfl rfl rfl
  have r1 := vector_leaves (F := F) D Sx (b := 2 * wid L + 1) (c := c) (by omega) hc v6 v7 b a14 v11 k h6 h7 hb h11 h14 _ _ hd hs g10 g12 hw1 hs1
    (trip3.sl.v91 (F := F) v6 v7 f7 k) (trip3.sl.v103 (F := F) v6 v7 f7 k b) (trip3.sl.v85 (F := F) v6 v11 a14 f7 k) (trip3.sl.v75 (F := F) v6 v7 f7 k) p1 rfl rfl rfl rfl
  refine ⟨⟨r0.1, r1.1⟩, ?_, ?_⟩
  · exact (congrArg₂ (Both D Sx (2 * wid L) c (16 * (k.val + 1)))
      (scattered (F := F) cc0_scratch2 g9 fun f => storeIdx (F := F) (s := S4048) (e := .i32) f ![_] _ _ false _)
      (scattered (F := F) cc0_scratch4 g11 fun f => storeIdx (F := F) (s := S4048) (e := .i32) f ![_] _ _ false _)).mpr r0.2
  · exact (congrArg₂ (Both D Sx (2 * wid L + 1) c (16 * (k.val + 1)))
      (scattered (F := F) cc0_scratch3 g10 fun f => storeIdx (F := F) (s := S4048) (e := .i32) f ![_] _ _ false _)
      (scattered (F := F) cc0_scratch5 g12 fun f => storeIdx (F := F) (s := S4048) (e := .i32) f ![_] _ _ false _)).mpr r1.2

end Cert.Proof.Lists

end
-- ==== Proof.Trip.lean ====
/-
  One chunk at one vector subcore: its targets and sources fetched, its owned edges staged for both blocks, filling
  put after them, and the stages written to the blocks' rows at their present lengths.
-/
module

public import proofs.«01_k».proof.Proof.Setup
public import proofs.«01_k».proof.Proof.Words
public import proofs.«01_k».proof.Proof.Chunk
@[expose] public section

noncomputable section

namespace Cert.Proof.Lists

open Cert.KernelIdeal Cert.KernelIdeal.Gen Cert.Proof.Spec Cert.Proof.Rows Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Routing (shape1)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The rows of the two list buffers -/

/-- The places of block `b`'s row in a list buffer. -/
def row (b : ℕ) : Finset S21004288.Idx := Finset.univ.filter fun i => b * 328192 ≤ (i 0).val ∧ (i 0).val < b * 328192 + 328192

theorem mem_row {b : ℕ} {i : S21004288.Idx} : i ∈ row b ↔ b * 328192 ≤ (i 0).val ∧ (i 0).val < b * 328192 + 328192 := by
  simp [row]

/-- Where the program's 4032-word slice of the word lists at `o` lies. -/
theorem mem_cutW {off : Fin 1 → ℕ} (inb : ∀ a, off a + S4032.size a ≤ S21004288.size a) {o : ℕ} (ho : off = ![o]) {i : S21004288.Idx} :
    i ∈ (mW.slice (Rect.unit (s := S21004288) off S4032.size inb) (fun _ => rfl)).view.set ↔ o ≤ (i 0).val ∧ (i 0).val < o + 4032 := by
  subst ho
  rw [show (mW.slice (Rect.unit (s := S21004288) ![o] S4032.size inb) (fun _ => rfl)).view.set = (Rect.unit (s := S21004288) ![o] S4032.size inb).set from
    View.set_slice_whole (main_v4_0_scv : Ref sig .scVector) _, Rect.mem_set_unit]
  exact ⟨fun h => h 0, fun h a => by match a with | ⟨0, _⟩ => exact h⟩

/-- Where the program's 4032-word slice of the source lists at `o` lies. -/
theorem mem_cutR {off : Fin 1 → ℕ} (inb : ∀ a, off a + S4032.size a ≤ S21004288.size a) {o : ℕ} (ho : off = ![o]) {i : S21004288.Idx} :
    i ∈ (mR.slice (Rect.unit (s := S21004288) off S4032.size inb) (fun _ => rfl)).view.set ↔ o ≤ (i 0).val ∧ (i 0).val < o + 4032 := by
  subst ho
  rw [show (mR.slice (Rect.unit (s := S21004288) ![o] S4032.size inb) (fun _ => rfl)).view.set = (Rect.unit (s := S21004288) ![o] S4032.size inb).set from
    View.set_slice_whole (main_v4_1_scv : Ref sig .scVector) _, Rect.mem_set_unit]
  exact ⟨fun h => h 0, fun h a => by match a with | ⟨0, _⟩ => exact h⟩

theorem in_row {b s x : ℕ} (hs : s ≤ 320000) (h : b * 328192 + s ≤ x ∧ x < b * 328192 + s + 4032) : b * 328192 ≤ x ∧ x < b * 328192 + 328192 :=
  ⟨le_trans (Nat.le_add_right _ _) h.1, lt_of_lt_of_le h.2 (by rw [Nat.add_assoc]; exact Nat.add_le_add_left (by omega) _)⟩

/-- The row a list buffer's contents hold for block `b`. -/
def rowOf (f : S21004288.Idx → BitVec 32) (b x : ℕ) : BitVec 32 := rd (n := 21004288) f (b * 328192 + x)

variable (D Sx : ℕ → BitVec 32)

/-- The two lists of block `b` after `c` chunks, in the two list buffers. -/
def Lists (b c : ℕ) (fw fr : S21004288.Idx → BitVec 32) : Prop :=
  Listed (Own D b) (word D b) wfill c (rowOf fw b) ∧ Listed (Own D b) Sx sfill c (rowOf fr b)

/-- The invariant of the chunks' loop: the lengths so far are the carried values, the rows hold the lists so far. -/
def inv2 (d : Dev nD) (L : grid0.Coords) (O : CellTallies nD τ sig (HIx 1)) (W : Waits sig (HIx 1)) (q : PosShare TreeShare)
    (fD fS : S320000.Idx → BitVec 32) (k : ℕ) (a : BitVec 32 × BitVec 32) : sProp (MM F) :=
  iprop(Transfers.MayWaits (thr d L) (default : HIx 1) O
    ∗ (mD.view.loc (thr d L) ↦{q} fD) ∗ (mS.view.loc (thr d L) ↦{q} fS)
    ∗ (∃ f7, bD.view.loc (thr d L) ↦{fullShare} f7) ∗ (∃ f8, bS.view.loc (thr d L) ↦{fullShare} f8)
    ∗ (∃ g9, gW0.view.loc (thr d L) ↦{fullShare} g9) ∗ (∃ g10, gW1.view.loc (thr d L) ↦{fullShare} g10)
    ∗ (∃ g11, gS0.view.loc (thr d L) ↦{fullShare} g11) ∗ (∃ g12, gS1.view.loc (thr d L) ↦{fullShare} g12)
    ∗ (∃ w0 w1 r0 r1 : S21004288.Idx → BitVec 32,
      ⌜(a.1 = BitVec.ofNat 32 (start (Own D (2 * wid L)) k) ∧ a.2 = BitVec.ofNat 32 (start (Own D (2 * wid L + 1)) k))
        ∧ Lists D Sx (2 * wid L) k w0 r0 ∧ Lists D Sx (2 * wid L + 1) k w1 r1⌝
      ∗ (mW.view.loc (thr d L) ↦[row (2 * wid L)]{fullShare} w0) ∗ (mW.view.loc (thr d L) ↦[row (2 * wid L + 1)]{fullShare} w1)
      ∗ (mR.view.loc (thr d L) ↦[row (2 * wid L)]{fullShare} r0) ∗ (mR.view.loc (thr d L) ↦[row (2 * wid L + 1)]{fullShare} r1))
    ∗ semVal (thr d L, SemLoc.dma cc0_scoped0.sem) 0 ∗ semVal (thr d L, SemLoc.dma cc0_scoped1.sem) 0 ∗ semVal (thr d L, SemLoc.dma cc0_scoped2.sem) 0
    ∗ semVal (thr d L, SemLoc.dma cc0_scoped3.sem) 0 ∗ semVal (thr d L, SemLoc.dma cc0_scoped4.sem) 0 ∗ semVal (thr d L, SemLoc.dma cc0_scoped5.sem) 0
    ∗ ∃ W', ⌜∀ p ∈ W', p ∈ W ∨ p.2 = none⌝ ∗ owes (thr d L) O W')

omit [FloatOps F] in
/-- What a fetch into a whole buffer leaves is what it read. -/
theorem fetched (b : Ref sig .scVector) (f y : b.ty.Contents (Elt F)) :
    (View.whole b).write (Elt F) f y Finset.univ = y := View.write_whole_univ ..

omit [FloatOps F] in
/-- The chunk's number is the trip's. -/
theorem iv_eq (k : Fin k0_t2_loop.trips) : Scf.iv 0#32 1#32 k = BitVec.ofNat 32 k.val := by
  unfold Scf.iv
  simp

omit [FloatOps F] in
/-- A written 4032-word slice and the rest of the row are the row again, at the written contents. -/
theorem rejoinW (d : Dev nD) (L : grid0.Coords) {off : Fin 1 → ℕ} (inb : ∀ a, off a + S4032.size a ≤ S21004288.size a) {b : ℕ}
    (hsub : (mW.slice (Rect.unit (s := S21004288) off S4032.size inb) (fun _ => rfl)).view.set ⊆ row b) (w : S21004288.Idx → BitVec 32) (y : S4032.Idx → BitVec 32) :
    iprop(((mW.slice (Rect.unit (s := S21004288) off S4032.size inb) (fun _ => rfl)).view.loc (thr d L)
        ↦[(mW.slice (Rect.unit (s := S21004288) off S4032.size inb) (fun _ => rfl)).view.set]{fullShare}
          (mW.slice (Rect.unit (s := S21004288) off S4032.size inb) (fun _ => rfl)).view.writes (Elt F) w [⟨Rect.whole (Rect.unit (s := S21004288) off S4032.size inb).shape, y⟩])
      ∗ (mW.view.loc (thr d L) ↦[row b \ (mW.slice (Rect.unit (s := S21004288) off S4032.size inb) (fun _ => rfl)).view.set]{fullShare} w))
      ⊢ (mW.view.loc (thr d L) ↦[row b]{fullShare}
          ((mW.slice (Rect.unit (s := S21004288) off S4032.size inb) (fun _ => rfl)).view.writes (Elt F) w [⟨Rect.whole (Rect.unit (s := S21004288) off S4032.size inb).shape, y⟩]) : sProp (MM F)) := by
  rw [pointsTo_congr (ℓ := mW.view.loc (thr d L)) (I := row b \ (mW.slice (Rect.unit (s := S21004288) off S4032.size inb) (fun _ => rfl)).view.set)
    (f := w) (g := (mW.slice (Rect.unit (s := S21004288) off S4032.size inb) (fun _ => rfl)).view.writes (Elt F) w [⟨Rect.whole (Rect.unit (s := S21004288) off S4032.size inb).shape, y⟩])
    fun i hi => (copy_out (F := F) mW w inb y i (Finset.mem_sdiff.mp hi).2).symm]
  exact (pointsTo_split_subset hsub).2

omit [FloatOps F] in
/-- Below the written slice the buffer keeps its contents. -/
theorem keptW {off : Fin 1 → ℕ} (inb : ∀ a, off a + S4032.size a ≤ S21004288.size a) {b s : ℕ} (ho : off = ![b * 328192 + s])
    (w : S21004288.Idx → BitVec 32) (y : S4032.Idx → BitVec 32) {x : ℕ} (hx : x < s) :
    rowOf ((mW.slice (Rect.unit (s := S21004288) off S4032.size inb) (fun _ => rfl)).view.writes (Elt F) w [⟨Rect.whole (Rect.unit (s := S21004288) off S4032.size inb).shape, y⟩]) b x = rowOf w b x := by
  unfold rowOf
  by_cases h : b * 328192 + x < 21004288
  · rw [rd_lt _ h, rd_lt _ h]
    exact copy_out (F := F) mW w inb y _ fun hi => absurd ((mem_cutW inb ho).1 hi).1 (Nat.not_le.mpr (Nat.add_lt_add_left hx _))
  · unfold rd; rw [dif_neg h, dif_neg h]

omit [FloatOps F] in
/-- A place read through the whole buffer is the buffer's place. -/
theorem readW (G : S21004288.Idx → BitVec 32) (o : ℕ) : rd (n := 21004288) (mW.view.read (Elt F) G) o = rd G o :=
  congrArg (fun z => rd (n := 21004288) z o) (show mW.view.read (Elt F) G = G from rfl)

omit [FloatOps F] in
/-- In the written slice are the copied words. -/
theorem putW {off : Fin 1 → ℕ} (inb : ∀ a, off a + S4032.size a ≤ S21004288.size a) {b s : ℕ} (ho : off = ![b * 328192 + s])
    (w : S21004288.Idx → BitVec 32) (y : S4032.Idx → BitVec 32) (j : ℕ) (hj : j < 4032) :
    rowOf ((mW.slice (Rect.unit (s := S21004288) off S4032.size inb) (fun _ => rfl)).view.writes (Elt F) w [⟨Rect.whole (Rect.unit (s := S21004288) off S4032.size inb).shape, y⟩]) b (s + j) = y (ix1 ⟨j, hj⟩) := by
  unfold rowOf
  have h := rd_copy_in (F := F) (n := 21004288) (w := 4032) mW w inb y ho (⟨j, hj⟩ : Fin 4032)
  refine Eq.trans ?_ h
  refine Eq.trans ?_ (readW (F := F) _ _).symm
  rw [← Nat.add_assoc]

omit [FloatOps F] in
/-- A written 4032-word slice and the rest of the row are the row again, at the written contents. -/
theorem rejoinR (d : Dev nD) (L : grid0.Coords) {off : Fin 1 → ℕ} (inb : ∀ a, off a + S4032.size a ≤ S21004288.size a) {b : ℕ}
    (hsub : (mR.slice (Rect.unit (s := S21004288) off S4032.size inb) (fun _ => rfl)).view.set ⊆ row b) (w : S21004288.Idx → BitVec 32) (y : S4032.Idx → BitVec 32) :
    iprop(((mR.slice (Rect.unit (s := S21004288) off S4032.size inb) (fun _ => rfl)).view.loc (thr d L)
        ↦[(mR.slice (Rect.unit (s := S21004288) off S4032.size inb) (fun _ => rfl)).view.set]{fullShare}
          (mR.slice (Rect.unit (s := S21004288) off S4032.size inb) (fun _ => rfl)).view.writes (Elt F) w [⟨Rect.whole (Rect.unit (s := S21004288) off S4032.size inb).shape, y⟩])
      ∗ (mR.view.loc (thr d L) ↦[row b \ (mR.slice (Rect.unit (s := S21004288) off S4032.size inb) (fun _ => rfl)).view.set]{fullShare} w))
      ⊢ (mR.view.loc (thr d L) ↦[row b]{fullShare}
          ((mR.slice (Rect.unit (s := S21004288) off S4032.size inb) (fun _ => rfl)).view.writes (Elt F) w [⟨Rect.whole (Rect.unit (s := S21004288) off S4032.size inb).shape, y⟩]) : sProp (MM F)) := by
  rw [pointsTo_congr (ℓ := mR.view.loc (thr d L)) (I := row b \ (mR.slice (Rect.unit (s := S21004288) off S4032.size inb) (fun _ => rfl)).view.set)
    (f := w) (g := (mR.slice (Rect.unit (s := S21004288) off S4032.size inb) (fun _ => rfl)).view.writes (Elt F) w [⟨Rect.whole (Rect.unit (s := S21004288) off S4032.size inb).shape, y⟩])
    fun i hi => (copy_out (F := F) mR w inb y i (Finset.mem_sdiff.mp hi).2).symm]
  exact (pointsTo_split_subset hsub).2

omit [FloatOps F] in
/-- Below the written slice the buffer keeps its contents. -/
theorem keptR {off : Fin 1 → ℕ} (inb : ∀ a, off a + S4032.size a ≤ S21004288.size a) {b s : ℕ} (ho : off = ![b * 328192 + s])
    (w : S21004288.Idx → BitVec 32) (y : S4032.Idx → BitVec 32) {x : ℕ} (hx : x < s) :
    rowOf ((mR.slice (Rect.unit (s := S21004288) off S4032.size inb) (fun _ => rfl)).view.writes (Elt F) w [⟨Rect.whole (Rect.unit (s := S21004288) off S4032.size inb).shape, y⟩]) b x = rowOf w b x := by
  unfold rowOf
  by_cases h : b * 328192 + x < 21004288
  · rw [rd_lt _ h, rd_lt _ h]
    exact copy_out (F := F) mR w inb y _ fun hi => absurd ((mem_cutR inb ho).1 hi).1 (Nat.not_le.mpr (Nat.add_lt_add_left hx _))
  · unfold rd; rw [dif_neg h, dif_neg h]

omit [FloatOps F] in
/-- A place read through the whole buffer is the buffer's place. -/
theorem readR (G : S21004288.Idx → BitVec 32) (o : ℕ) : rd (n := 21004288) (mR.view.read (Elt F) G) o = rd G o :=
  congrArg (fun z => rd (n := 21004288) z o) (show mR.view.read (Elt F) G = G from rfl)

omit [FloatOps F] in
/-- In the written slice are the copied words. -/
theorem putR {off : Fin 1 → ℕ} (inb : ∀ a, off a + S4032.size a ≤ S21004288.size a) {b s : ℕ} (ho : off = ![b * 328192 + s])
    (w : S21004288.Idx → BitVec 32) (y : S4032.Idx → BitVec 32) (j : ℕ) (hj : j < 4032) :
    rowOf ((mR.slice (Rect.unit (s := S21004288) off S4032.size inb) (fun _ => rfl)).view.writes (Elt F) w [⟨Rect.whole (Rect.unit (s := S21004288) off S4032.size inb).shape, y⟩]) b (s + j) = y (ix1 ⟨j, hj⟩) := by
  unfold rowOf
  have h := rd_copy_in (F := F) (n := 21004288) (w := 4032) mR w inb y ho (⟨j, hj⟩ : Fin 4032)
  refine Eq.trans ?_ h
  refine Eq.trans ?_ (readR (F := F) _ _).symm
  rw [← Nat.add_assoc]

/-- One more chunk of a list: the stage with filling put after its entries, copied to the row at the list's length. -/
theorem pushed {own : ℕ → Prop} [DecidablePred own] {val : ℕ → BitVec 32} {fill : BitVec 32} {c : ℕ} {L L' f f' : ℕ → BitVec 32}
    (hL : Listed own val fill c L) (hs : Staged own val c 4000 f)
    (hin : ∀ j : Fin 16, f' (cnt own c 4000 + j.val) = fill) (hout : ∀ x, x < cnt own c 4000 → f' x = f x)
    (hlo : ∀ x, x < start own c → L' x = L x) (hhi : ∀ j, j < 4032 → L' (start own c + j) = f' j) : Listed own val fill (c + 1) L' :=
  hL.succ (fun t ht ho => (hout _ (cnt_lt own c ht ho)).trans (hs t ht ho))
    (fun j h1 h2 => by
      obtain ⟨e, rfl⟩ := Nat.exists_eq_add_of_le h1
      exact hin ⟨e, by omega⟩) hlo hhi

/-- The length moves on by the chunk's room. -/
theorem next_length {own : ℕ → Prop} [DecidablePred own] {c : ℕ} {a n : BitVec 32} (ha : a = BitVec.ofNat 32 (start own c)) (hn : n = BitVec.ofNat 32 (cnt own c 4000)) :
    Scalar.addi a (Scalar.andi (Scalar.addi n 7#32) 4294967288#32) = BitVec.ofNat 32 (start own (c + 1)) := by
  subst ha hn
  have h := round8 ⟨cnt own c 4000, by have := cnt_le own c 4000; omega⟩
  refine (congrArg (fun z => BitVec.ofNat 32 (start own c) + z) h).trans ?_
  rw [← BitVec.ofNat_add]; rfl

/-- A copy's wait recorded at no handshake keeps the record within bounds. -/
theorem waits_insert {W W' : Waits sig (HIx 1)} {g : SemLoc sig} (h : ∀ p ∈ W', p ∈ W ∨ p.2 = none) :
    ∀ p ∈ insert (g, (default : HIx 1)) W', p ∈ W ∨ p.2 = none := by
  intro p hp
  rcases Finset.mem_insert.mp hp with hp | hp
  · exact .inr (hp ▸ rfl)
  · exact h p hp

set_option maxHeartbeats 1000000 in
/-- One chunk: both blocks' lists move on by one chunk. -/
theorem trip2 (d : Dev nD) (L : grid0.Coords) (O : CellTallies nD τ sig (HIx 1)) (W : Waits sig (HIx 1)) (q : PosShare TreeShare)
    (fD fS : S320000.Idx → BitVec 32) (v2 v4 v5 v6 v7 : BitVec 32) (v11 : IVec S16 32)
    (h5 : v5 = BitVec.ofNat 32 (160 * (2 * wid L))) (h6 : v6 = BitVec.ofNat 32 (160 * (2 * wid L + 1))) (h7 : v7 = BitVec.ofNat 32 (160 * (2 * wid L + 1) + 160))
    (h11 : ∀ j : Fin 16, v11 (ix1 j) = BitVec.ofNat 32 j.val)
    (hD : ∀ e, e < 320000 → rd (n := 320000) fD e = D e) (hS : ∀ e, e < 320000 → rd (n := 320000) fS e = Sx e)
    (k : Fin k0_t2_loop.trips) (acc : BitVec 32 × BitVec 32) :
    inv2 (F := F) D Sx d L O W q fD fS k.val acc
      ⊢ wp frame (wpE (defs₀ (F := F)) 𝒱₀ (thr d L) none) Set.univ
        (k0_t2_body L mD (Memref.isWhole_whole _) mS (Memref.isWhole_whole _) mW (Memref.isWhole_whole _) mR (Memref.isWhole_whole _) mN (Memref.isWhole_whole _) bD (Memref.isWhole_whole _) bS (Memref.isWhole_whole _) gW0 (Memref.isWhole_whole _) gW1 (Memref.isWhole_whole _) gS0 (Memref.isWhole_whole _) gS1 (Memref.isWhole_whole _) bN (Memref.isWhole_whole _)
        cc0_scoped0 cc0_scoped1 cc0_scoped2 cc0_scoped3 cc0_scoped4 cc0_scoped5 cc0_scoped6 cc0_scoped7 cc0_scoped8 cc0_scoped9 cc0_scoped10 cc0_scoped11 v2 v4 v5 v6 v7 v11 k acc)
        fun r => inv2 (F := F) D Sx d L O W q fD fS (k.val + 1) r := by
  obtain ⟨a, b⟩ := acc
  have hk : k.val < 80 := k.isLt
  have hw := wid_lt L
  unfold inv2
  iintro ⟨Hmw, HD, HS, ⟨%f7, H7⟩, ⟨%f8, H8⟩, ⟨%g9, H9⟩, ⟨%g10, H10⟩, ⟨%g11, H11⟩, ⟨%g12, H12⟩, ⟨%w0, %w1, %r0, %r1, %hL, Hw0, Hw1, Hr0, Hr1⟩, Hs0, Hs1, Hs2, Hs3, Hs4, Hs5, %W', %hW', HO⟩
  obtain ⟨⟨ha, hb⟩, ⟨hw0, hr0⟩, ⟨hw1, hr1⟩⟩ := hL
  dsimp only at ha hb
  have s0 : start (Own D (2 * wid L)) k.val ≤ 320000 := by have := start_le (Own D (2 * wid L)) k.val; omega
  have s1 : start (Own D (2 * wid L + 1)) k.val ≤ 320000 := by have := start_le (Own D (2 * wid L + 1)) k.val; omega
  have c5 : k0_chk5 L a := by rw [ha]; exact chk5_at L s0 (start_dvd _ _)
  have c6 : k0_chk6 L b := by rw [hb]; exact chk6_at L s1 (start_dvd _ _)
  have o6 : k0_off6 L a = ![(2 * wid L) * 328192 + start (Own D (2 * wid L)) k.val] := by rw [ha]; exact off6_at L s0
  have o7 : k0_off7 L b = ![(2 * wid L + 1) * 328192 + start (Own D (2 * wid L + 1)) k.val] := by rw [hb]; exact off7_at L s1
  have uHw0 : (mW.slice (Rect.unit (s := S21004288) (k0_off6 L a) S4032.size (k0_off6_inb L a c5)) (fun _ => rfl)).view.set ⊆ row (2 * wid L) := by
    intro i hi
    rw [mem_cutW _ o6] at hi
    exact mem_row.2 (in_row s0 hi)
  ihave Hw0' := (show (mW.view.loc (thr d L) ↦[row (2 * wid L)]{fullShare} w0 : sProp (MM F))
      ⊢ iprop(((mW.slice (Rect.unit (s := S21004288) (k0_off6 L a) S4032.size (k0_off6_inb L a c5)) (fun _ => rfl)).view.loc (thr d L) ↦[(mW.slice (Rect.unit (s := S21004288) (k0_off6 L a) S4032.size (k0_off6_inb L a c5)) (fun _ => rfl)).view.set]{fullShare} w0) ∗ (mW.view.loc (thr d L) ↦[row (2 * wid L) \ (mW.slice (Rect.unit (s := S21004288) (k0_off6 L a) S4032.size (k0_off6_inb L a c5)) (fun _ => rfl)).view.set]{fullShare} w0))
      from (pointsTo_split_subset uHw0).1) $$ Hw0
  icases Hw0' with ⟨Hw0, Hw0c⟩
  have uHw1 : (mW.slice (Rect.unit (s := S21004288) (k0_off7 L b) S4032.size (k0_off7_inb L b c6)) (fun _ => rfl)).view.set ⊆ row (2 * wid L + 1) := by
    intro i hi
    rw [mem_cutW _ o7] at hi
    exact mem_row.2 (in_row s1 hi)
  ihave Hw1' := (show (mW.view.loc (thr d L) ↦[row (2 * wid L + 1)]{fullShare} w1 : sProp (MM F))
      ⊢ iprop(((mW.slice (Rect.unit (s := S21004288) (k0_off7 L b) S4032.size (k0_off7_inb L b c6)) (fun _ => rfl)).view.loc (thr d L) ↦[(mW.slice (Rect.unit (s := S21004288) (k0_off7 L b) S4032.size (k0_off7_inb L b c6)) (fun _ => rfl)).view.set]{fullShare} w1) ∗ (mW.view.loc (thr d L) ↦[row (2 * wid L + 1) \ (mW.slice (Rect.unit (s := S21004288) (k0_off7 L b) S4032.size (k0_off7_inb L b c6)) (fun _ => rfl)).view.set]{fullShare} w1))
      from (pointsTo_split_subset uHw1).1) $$ Hw1
  icases Hw1' with ⟨Hw1, Hw1c⟩
  have uHr0 : (mR.slice (Rect.unit (s := S21004288) (k0_off6 L a) S4032.size (k0_off6_inb L a c5)) (fun _ => rfl)).view.set ⊆ row (2 * wid L) := by
    intro i hi
    rw [mem_cutR _ o6] at hi
    exact mem_row.2 (in_row s0 hi)
  ihave Hr0' := (show (mR.view.loc (thr d L) ↦[row (2 * wid L)]{fullShare} r0 : sProp (MM F))
      ⊢ iprop(((mR.slice (Rect.unit (s := S21004288) (k0_off6 L a) S4032.size (k0_off6_inb L a c5)) (fun _ => rfl)).view.loc (thr d L) ↦[(mR.slice (Rect.unit (s := S21004288) (k0_off6 L a) S4032.size (k0_off6_inb L a c5)) (fun _ => rfl)).view.set]{fullShare} r0) ∗ (mR.view.loc (thr d L) ↦[row (2 * wid L) \ (mR.slice (Rect.unit (s := S21004288) (k0_off6 L a) S4032.size (k0_off6_inb L a c5)) (fun _ => rfl)).view.set]{fullShare} r0))
      from (pointsTo_split_subset uHr0).1) $$ Hr0
  icases Hr0' with ⟨Hr0, Hr0c⟩
  have uHr1 : (mR.slice (Rect.unit (s := S21004288) (k0_off7 L b) S4032.size (k0_off7_inb L b c6)) (fun _ => rfl)).view.set ⊆ row (2 * wid L + 1) := by
    intro i hi
    rw [mem_cutR _ o7] at hi
    exact mem_row.2 (in_row s1 hi)
  ihave Hr1' := (show (mR.view.loc (thr d L) ↦[row (2 * wid L + 1)]{fullShare} r1 : sProp (MM F))
      ⊢ iprop(((mR.slice (Rect.unit (s := S21004288) (k0_off7 L b) S4032.size (k0_off7_inb L b c6)) (fun _ => rfl)).view.loc (thr d L) ↦[(mR.slice (Rect.unit (s := S21004288) (k0_off7 L b) S4032.size (k0_off7_inb L b c6)) (fun _ => rfl)).view.set]{fullShare} r1) ∗ (mR.view.loc (thr d L) ↦[row (2 * wid L + 1) \ (mR.slice (Rect.unit (s := S21004288) (k0_off7 L b) S4032.size (k0_off7_inb L b c6)) (fun _ => rfl)).view.set]{fullShare} r1))
      from (pointsTo_split_subset uHr1).1) $$ Hr1
  icases Hr1' with ⟨Hr1, Hr1c⟩
  unfold k0_t2_body
  sl_exec (disch := first | exact c5 | exact c6 | exact View.amount_pos _ _ (show 0 < S4032.numel by decide) | exact View.amount_pos _ _ (show 0 < S4000.numel by decide))
  have z7 : ∀ t, t < 4000 → rd (n := 4000) (View.write (Elt F) bD.view f7 (trip2.sl.dma0 (F := F) fD k) Finset.univ) t = D (4000 * k.val + t) := fun t ht => by
    rw [fetched (F := F) cc0_scratch0 f7]
    refine (rd_lt _ ht).trans ((readAt_rd (F := F) mD.view fD (k0_off2_inb k) (k0_off2_eq k) (⟨t, ht⟩ : Fin 4000)).trans (hD _ ?_))
    show 4000 * k.val + t < 320000
    omega
  have z8 : ∀ t, t < 4000 → rd (n := 4000) (View.write (Elt F) bS.view f8 (trip2.sl.dma0_1 (F := F) fS k) Finset.univ) t = Sx (4000 * k.val + t) := fun t ht => by
    rw [fetched (F := F) cc0_scratch1 f8]
    refine (rd_lt _ ht).trans ((readAt_rd (F := F) mS.view fS (k0_off2_inb k) (k0_off2_eq k) (⟨t, ht⟩ : Fin 4000)).trans (hS _ ?_))
    show 4000 * k.val + t < 320000
    omega
  have e14 : trip2.sl.arg14 k = BitVec.ofNat 32 k.val := iv_eq k
  sl_for (inv3 (F := F) D Sx d L k.val (View.write (Elt F) bD.view f7 (trip2.sl.dma0 (F := F) fD k) Finset.univ) (View.write (Elt F) bS.view f8 (trip2.sl.dma0_1 (F := F) fS k) Finset.univ)) $$ [H7 H8 H9 H10 H11 H12]
  case region =>
    intro k3 acc3
    exact trip3 (F := F) D Sx d L k.val hk v2 v4 v5 v6 v7 _ _ v11 k a b (trip2.sl.arg14 k) _ _ h5 h6 h7 h11 e14 z7 z8 k3 acc3
  · unfold inv3
    isplitl [H7]; · iexact H7
    isplitl [H8]; · iexact H8
    iexists _, _, _, _
    isplitr
    swap
    · isplitl [H9]; · iexact H9
      isplitl [H10]; · iexact H10
      isplitl [H11]; · iexact H11
      iexact H12
    ipureintro
    exact ⟨⟨rfl, rfl⟩, ⟨Staged.zero _ _, Staged.zero _ _⟩, ⟨Staged.zero _ _, Staged.zero _ _⟩⟩
  iintro %acc3 HI
  obtain ⟨n0, n1⟩ := acc3
  unfold inv3
  icases HI with ⟨H7, H8, %y9, %y10, %y11, %y12, %hY, H9, H10, H11, H12⟩
  obtain ⟨⟨hn0, hn1⟩, ⟨hyw0, hys0⟩, ⟨hyw1, hys1⟩⟩ := hY
  dsimp only at hn0 hn1
  have m0 : cnt (Own D (2 * wid L)) k.val 4000 ≤ 4000 := cnt_le _ _ _
  have m1 : cnt (Own D (2 * wid L + 1)) k.val 4000 ≤ 4000 := cnt_le _ _ _
  have c3 : k0_chk3 n0 := by rw [hn0]; exact chk3_at m0
  have c4 : k0_chk4 n1 := by rw [hn1]; exact chk4_at m1
  have o4 : k0_off4 n0 = ![cnt (Own D (2 * wid L)) k.val 4000] := by rw [hn0]; exact off4_at m0
  have o5 : k0_off5 n1 = ![cnt (Own D (2 * wid L + 1)) k.val 4000] := by rw [hn1]; exact off5_at m1
  sl_exec (disch := first | exact c3 | exact c4 | exact View.amount_pos _ _ (show 0 < S4032.numel by decide) | exact View.amount_pos _ _ (show 0 < S4000.numel by decide))
  sl_step
  have jw0 := pushed hw0 hyw0 (f' := rd (n := 4048) (gW0.view.writes (Elt F) y9 [⟨Rect.unit (s := S4048) (k0_off4 n0) S16.size (k0_off4_inb n0 c3), k0_pay15⟩]))
    (fun j => (rd_store_in (F := F) gW0.view y9 (k0_off4_inb n0 c3) k0_pay15 o4 j).trans rfl) (fun x hx => rd_store_out (F := F) gW0.view y9 (k0_off4_inb n0 c3) k0_pay15 o4 (.inl hx))
    (fun x hx => keptW (F := F) (k0_off6_inb L a c5) o6 w0 (trip2.sl.dma8 (F := F) n0 y9 c3) hx)
    (fun j hj => (putW (F := F) (k0_off6_inb L a c5) o6 w0 (trip2.sl.dma8 (F := F) n0 y9 c3) j hj).trans
      ((readAt_rd (F := F) gW0.view _ inb_S4048_S4032_0 rfl (⟨j, hj⟩ : Fin 4032)).trans (congrArg _ (Nat.zero_add j))))
  have jr0 := pushed hr0 hys0 (f' := rd (n := 4048) (gS0.view.writes (Elt F) y11 [⟨Rect.unit (s := S4048) (k0_off4 n0) S16.size (k0_off4_inb n0 c3), k0_pay14⟩]))
    (fun j => (rd_store_in (F := F) gS0.view y11 (k0_off4_inb n0 c3) k0_pay14 o4 j).trans rfl) (fun x hx => rd_store_out (F := F) gS0.view y11 (k0_off4_inb n0 c3) k0_pay14 o4 (.inl hx))
    (fun x hx => keptR (F := F) (k0_off6_inb L a c5) o6 r0 (trip2.sl.dma8_1 (F := F) n0 y11 c3) hx)
    (fun j hj => (putR (F := F) (k0_off6_inb L a c5) o6 r0 (trip2.sl.dma8_1 (F := F) n0 y11 c3) j hj).trans
      ((readAt_rd (F := F) gS0.view _ inb_S4048_S4032_0 rfl (⟨j, hj⟩ : Fin 4032)).trans (congrArg _ (Nat.zero_add j))))
  have jw1 := pushed hw1 hyw1 (f' := rd (n := 4048) (gW1.view.writes (Elt F) y10 [⟨Rect.unit (s := S4048) (k0_off5 n1) S16.size (k0_off5_inb n1 c4), k0_pay15⟩]))
    (fun j => (rd_store_in (F := F) gW1.view y10 (k0_off5_inb n1 c4) k0_pay15 o5 j).trans rfl) (fun x hx => rd_store_out (F := F) gW1.view y10 (k0_off5_inb n1 c4) k0_pay15 o5 (.inl hx))
    (fun x hx => keptW (F := F) (k0_off7_inb L b c6) o7 w1 (trip2.sl.dma8_2 (F := F) n1 y10 c4) hx)
    (fun j hj => (putW (F := F) (k0_off7_inb L b c6) o7 w1 (trip2.sl.dma8_2 (F := F) n1 y10 c4) j hj).trans
      ((readAt_rd (F := F) gW1.view _ inb_S4048_S4032_0 rfl (⟨j, hj⟩ : Fin 4032)).trans (congrArg _ (Nat.zero_add j))))
  have jr1 := pushed hr1 hys1 (f' := rd (n := 4048) (gS1.view.writes (Elt F) y12 [⟨Rect.unit (s := S4048) (k0_off5 n1) S16.size (k0_off5_inb n1 c4), k0_pay14⟩]))
    (fun j => (rd_store_in (F := F) gS1.view y12 (k0_off5_inb n1 c4) k0_pay14 o5 j).trans rfl) (fun x hx => rd_store_out (F := F) gS1.view y12 (k0_off5_inb n1 c4) k0_pay14 o5 (.inl hx))
    (fun x hx => keptR (F := F) (k0_off7_inb L b c6) o7 r1 (trip2.sl.dma8_3 (F := F) n1 y12 c4) hx)
    (fun j hj => (putR (F := F) (k0_off7_inb L b c6) o7 r1 (trip2.sl.dma8_3 (F := F) n1 y12 c4) j hj).trans
      ((readAt_rd (F := F) gS1.view _ inb_S4048_S4032_0 rfl (⟨j, hj⟩ : Fin 4032)).trans (congrArg _ (Nat.zero_add j))))
  ihave Hw0j := (rejoinW (F := F) d L (k0_off6_inb L a c5) uHw0 w0 _) $$ [Hw0 Hw0c]
  · isplitl [Hw0]; · iexact Hw0
    iexact Hw0c
  ihave Hw1j := (rejoinW (F := F) d L (k0_off7_inb L b c6) uHw1 w1 _) $$ [Hw1 Hw1c]
  · isplitl [Hw1]; · iexact Hw1
    iexact Hw1c
  ihave Hr0j := (rejoinR (F := F) d L (k0_off6_inb L a c5) uHr0 r0 _) $$ [Hr0 Hr0c]
  · isplitl [Hr0]; · iexact Hr0
    iexact Hr0c
  ihave Hr1j := (rejoinR (F := F) d L (k0_off7_inb L b c6) uHr1 r1 _) $$ [Hr1 Hr1c]
  · isplitl [Hr1]; · iexact Hr1
    iexact Hr1c
  isplitl [Hmw]; · iexact Hmw
  isplitl [HD]; · iexact HD
  isplitl [HS]; · iexact HS
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [Hw0j Hw1j Hr0j Hr1j]
  · iexists _, _, _, _
    isplitr
    swap
    · isplitl [Hw0j]; · iexact Hw0j
      isplitl [Hw1j]; · iexact Hw1j
      isplitl [Hr0j]; · iexact Hr0j
      iexact Hr1j
    ipureintro
    exact ⟨⟨next_length ha hn0, next_length hb hn1⟩, ⟨jw0, jr0⟩, ⟨jw1, jr1⟩⟩
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  iexists _
  isplitr
  swap
  · iexact HO
  ipureintro
  exact waits_insert (waits_insert (waits_insert (waits_insert (waits_insert (waits_insert hW')))))

end Cert.Proof.Lists

end
-- ==== Proof.Fill.lean ====
/-
  The two loops that set the stages to filling, at one vector subcore: before the first chunk and after the last.
-/
module

public import proofs.«01_k».proof.Proof.Trip

@[expose] public section

noncomputable section

namespace Cert.Proof.Lists

open Cert.KernelIdeal Cert.KernelIdeal.Gen Cert.Proof.Spec Cert.Proof.Rows Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Routing (shape1)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The two filling loops -/

/-- The first loop only needs the four stages at some contents. -/
def inv1 (d : Dev nD) (L : grid0.Coords) (_k : ℕ) (_a : Unit) : sProp (MM F) :=
  iprop((∃ g9, gW0.view.loc (thr d L) ↦{fullShare} g9) ∗ (∃ g10, gW1.view.loc (thr d L) ↦{fullShare} g10)
    ∗ (∃ g11, gS0.view.loc (thr d L) ↦{fullShare} g11) ∗ (∃ g12, gS1.view.loc (thr d L) ↦{fullShare} g12))

/-- In the last loop the first block's two stages hold filling in their first `16 * k` places. -/
def inv4 (d : Dev nD) (L : grid0.Coords) (k : ℕ) (_a : Unit) : sProp (MM F) :=
  iprop(∃ g9 g11 : S4048.Idx → BitVec 32, ⌜∀ x, x < 16 * k → rd (n := 4048) g9 x = wfill ∧ rd (n := 4048) g11 x = sfill⌝
    ∗ (gW0.view.loc (thr d L) ↦{fullShare} g9) ∗ (gS0.view.loc (thr d L) ↦{fullShare} g11))

theorem trip1 (d : Dev nD) (L : grid0.Coords) (k : Fin k0_t1_loop.trips) (acc : Unit) :
    inv1 (F := F) d L k.val acc
      ⊢ wp frame (wpE (defs₀ (F := F)) 𝒱₀ (thr d L) none) Set.univ
        (k0_t1_body L mD (Memref.isWhole_whole _) mS (Memref.isWhole_whole _) mW (Memref.isWhole_whole _) mR (Memref.isWhole_whole _) mN (Memref.isWhole_whole _) bD (Memref.isWhole_whole _) bS (Memref.isWhole_whole _) gW0 (Memref.isWhole_whole _) gW1 (Memref.isWhole_whole _) gS0 (Memref.isWhole_whole _) gS1 (Memref.isWhole_whole _) bN (Memref.isWhole_whole _)
        cc0_scoped0 cc0_scoped1 cc0_scoped2 cc0_scoped3 cc0_scoped4 cc0_scoped5 cc0_scoped6 cc0_scoped7 cc0_scoped8 cc0_scoped9 cc0_scoped10 cc0_scoped11 k acc)
        fun r => inv1 (F := F) d L (k.val + 1) r := by
  unfold inv1
  iintro ⟨⟨%g9, H9⟩, ⟨%g10, H10⟩, ⟨%g11, H11⟩, ⟨%g12, H12⟩⟩
  unfold k0_t1_body
  sl_exec
  sl_step
  isplitl [H9]; · iexists _; iexact H9
  isplitl [H10]; · iexists _; iexact H10
  isplitl [H11]; · iexists _; iexact H11
  iexists _; iexact H12

theorem trip4 (d : Dev nD) (L : grid0.Coords) (k : Fin k0_t4_loop.trips) (acc : Unit) :
    inv4 (F := F) d L k.val acc
      ⊢ wp frame (wpE (defs₀ (F := F)) 𝒱₀ (thr d L) none) Set.univ
        (k0_t4_body L mD (Memref.isWhole_whole _) mS (Memref.isWhole_whole _) mW (Memref.isWhole_whole _) mR (Memref.isWhole_whole _) mN (Memref.isWhole_whole _) bD (Memref.isWhole_whole _) bS (Memref.isWhole_whole _) gW0 (Memref.isWhole_whole _) gW1 (Memref.isWhole_whole _) gS0 (Memref.isWhole_whole _) gS1 (Memref.isWhole_whole _) bN (Memref.isWhole_whole _)
        cc0_scoped0 cc0_scoped1 cc0_scoped2 cc0_scoped3 cc0_scoped4 cc0_scoped5 cc0_scoped6 cc0_scoped7 cc0_scoped8 cc0_scoped9 cc0_scoped10 cc0_scoped11 k acc)
        fun r => inv4 (F := F) d L (k.val + 1) r := by
  unfold inv4
  iintro ⟨%g9, %g11, %hg, H9, H11⟩
  unfold k0_t4_body
  sl_exec
  sl_step
  iexists _, _
  isplitr
  swap
  · isplitl [H9]; · iexact H9
    iexact H11
  ipureintro
  intro x hx
  have ho := k0_off8_eq k
  by_cases h : x < 16 * k.val
  · exact ⟨(rd_store_out (F := F) gW0.view g9 (k0_off8_inb k) k0_pay15 ho (.inl h)).trans (hg x h).1,
      (rd_store_out (F := F) gS0.view g11 (k0_off8_inb k) k0_pay14 ho (.inl h)).trans (hg x h).2⟩
  · obtain ⟨e, rfl⟩ := Nat.exists_eq_add_of_le (Nat.le_of_not_lt h)
    have he : e < 16 := by omega
    exact ⟨(rd_store_in (F := F) gW0.view g9 (k0_off8_inb k) k0_pay15 ho (⟨e, he⟩ : Fin 16)).trans rfl,
      (rd_store_in (F := F) gS0.view g11 (k0_off8_inb k) k0_pay14 ho (⟨e, he⟩ : Fin 16)).trans rfl⟩

end Cert.Proof.Lists

end
-- ==== Proof.Tile.lean ====
/-
  The whole task of one vector subcore: the stages set to filling, the 80 chunks, a last stage of filling behind each of
  the two blocks' lists, and the two lengths.
-/
module

public import proofs.«01_k».proof.Proof.Fill

@[expose] public section

noncomputable section

namespace Cert.Proof.Lists

open Cert.KernelIdeal Cert.KernelIdeal.Gen Cert.Proof.Spec Cert.Proof.Rows Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Routing (shape1)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (D Sx : ℕ → BitVec 32)

/-- The 16 places of block `b` in the buffer of the lengths. -/
def lens (b : ℕ) : Finset S1024.Idx := Finset.univ.filter fun i => 16 * b ≤ (i 0).val ∧ (i 0).val < 16 * b + 16

theorem mem_lens {b : ℕ} {i : S1024.Idx} : i ∈ lens b ↔ 16 * b ≤ (i 0).val ∧ (i 0).val < 16 * b + 16 := by simp [lens]

/-- The program's 16-word slice of the lengths at `16 * b` is block `b`'s. -/
theorem set_lens {off : Fin 1 → ℕ} (inb : ∀ a, off a + S16.size a ≤ S1024.size a) {b : ℕ} (ho : off = ![16 * b]) :
    (mN.slice (Rect.unit (s := S1024) off S16.size inb) (fun _ => rfl)).view.set = lens b := by
  subst ho
  ext i
  rw [show (mN.slice (Rect.unit (s := S1024) ![16 * b] S16.size inb) (fun _ => rfl)).view.set = (Rect.unit (s := S1024) ![16 * b] S16.size inb).set from
    View.set_slice_whole (main_v4_2_scv : Ref sig .scVector) _, Rect.mem_set_unit, mem_lens]
  exact ⟨fun h => h 0, fun h a => by match a with | ⟨0, _⟩ => exact h⟩

theorem off11_at (L : grid0.Coords) : k0_off11 L = ![16 * (2 * wid L)] := by
  rw [k0_off11_eq]
  exact congrArg (fun n : ℕ => (![n] : Fin 1 → ℕ)) (show 64 * (L 1).val + 32 * (L 0).val = 16 * (2 * (2 * (L 1).val + (L 0).val)) by omega)

theorem off12_at (L : grid0.Coords) : k0_off12 L = ![16 * (2 * wid L + 1)] := by
  rw [k0_off12_eq]
  exact congrArg (fun n : ℕ => (![n] : Fin 1 → ℕ)) (show 64 * (L 1).val + 32 * (L 0).val + 16 = 16 * (2 * (2 * (L 1).val + (L 0).val) + 1) by omega)

/-- What the task leaves for block `b`: its two finished lists and its length. -/
def Done (b : ℕ) (fw fr : S21004288.Idx → BitVec 32) (fn : S1024.Idx → BitVec 32) : Prop :=
  Full (Own D b) (word D b) wfill (rowOf fw b) ∧ Full (Own D b) Sx sfill (rowOf fr b)
    ∧ ∀ j, j < 16 → rd (n := 1024) fn (16 * b + j) = BitVec.ofNat 32 (start (Own D b) 80)

/-- The block bounds the program computes are the blocks' own. -/
theorem bounds_at (L : grid0.Coords) :
    Scalar.muli (Scalar.addi (Scalar.muli (BitVec.ofNat 32 (L 1).val) 2#32) (BitVec.ofNat 32 (L 0).val)) 320#32 = BitVec.ofNat 32 (160 * (2 * wid L))
    ∧ Scalar.addi (Scalar.muli (Scalar.addi (Scalar.muli (BitVec.ofNat 32 (L 1).val) 2#32) (BitVec.ofNat 32 (L 0).val)) 320#32) 160#32 = BitVec.ofNat 32 (160 * (2 * wid L + 1))
    ∧ Scalar.addi (Scalar.muli (Scalar.addi (Scalar.muli (BitVec.ofNat 32 (L 1).val) 2#32) (BitVec.ofNat 32 (L 0).val)) 320#32) 320#32 = BitVec.ofNat 32 (160 * (2 * wid L + 1) + 160) := by
  have h : ∀ (c : Fin 2) (s : Fin 16),
      Scalar.muli (Scalar.addi (Scalar.muli (BitVec.ofNat 32 s.val) 2#32) (BitVec.ofNat 32 c.val)) 320#32 = BitVec.ofNat 32 (160 * (2 * (2 * s.val + c.val)))
      ∧ Scalar.addi (Scalar.muli (Scalar.addi (Scalar.muli (BitVec.ofNat 32 s.val) 2#32) (BitVec.ofNat 32 c.val)) 320#32) 160#32 = BitVec.ofNat 32 (160 * (2 * (2 * s.val + c.val) + 1))
      ∧ Scalar.addi (Scalar.muli (Scalar.addi (Scalar.muli (BitVec.ofNat 32 s.val) 2#32) (BitVec.ofNat 32 c.val)) 320#32) 320#32 = BitVec.ofNat 32 (160 * (2 * (2 * s.val + c.val) + 1) + 160) := by decide +kernel
  exact h (L 0) (L 1)

/-- The lane numbers. -/
theorem lanes_at (j : Fin 16) : (iota .scVector S16 32 [0] iota_S16_d0_w32_scVector : IVec S16 32) (ix1 j) = BitVec.ofNat 32 j.val := by
  revert j; decide +kernel

omit [FloatOps F] in
/-- A block's written length slice is the block's 16 places of the lengths. -/
theorem rejoinN (d : Dev nD) (L : grid0.Coords) {off : Fin 1 → ℕ} (inb : ∀ a, off a + S16.size a ≤ S1024.size a) {b : ℕ} (ho : off = ![16 * b]) (f : S1024.Idx → BitVec 32) :
    ((mN.slice (Rect.unit (s := S1024) off S16.size inb) (fun _ => rfl)).view.loc (thr d L)
        ↦[(mN.slice (Rect.unit (s := S1024) off S16.size inb) (fun _ => rfl)).view.set]{fullShare} f : sProp (MM F))
      ⊢ (mN.view.loc (thr d L) ↦[lens b]{fullShare} f) := Entails.of_eq (by rw [set_lens inb ho])

omit [FloatOps F] in
/-- In a block's written slice are the copied words. -/
theorem putN {off : Fin 1 → ℕ} (inb : ∀ a, off a + S16.size a ≤ S1024.size a) {b : ℕ} (ho : off = ![16 * b])
    (n : S1024.Idx → BitVec 32) (y : S16.Idx → BitVec 32) (j : ℕ) (hj : j < 16) :
    rd (n := 1024) ((mN.slice (Rect.unit (s := S1024) off S16.size inb) (fun _ => rfl)).view.writes (Elt F) n [⟨Rect.whole (Rect.unit (s := S1024) off S16.size inb).shape, y⟩]) (16 * b + j) = y (ix1 ⟨j, hj⟩) :=
  rd_copy_in (F := F) (n := 1024) (w := 16) mN n inb y ho (⟨j, hj⟩ : Fin 16)

omit [FloatOps F] in
/-- The count buffer read back after the store of one whole vector. -/
theorem length_read (g : S16.Idx → BitVec 32) (rest : List (View.Piece (Elt F) S16 .i32)) (y : S16.Idx → BitVec 32) (j : ℕ) (hj : j < 16) :
    (bN.slice (Rect.unit (s := S16) ![0] S16.size inb_S16_S16_0) (fun _ => rfl)).view.read (Elt F)
      (bN.view.writes (Elt F) g (⟨Rect.unit (s := S16) ![0] S16.size inb_S16_S16_0, y⟩ :: rest)) (ix1 ⟨j, hj⟩) = y (ix1 ⟨j, hj⟩) :=
  View.read_writes_cons_emb (Val := Elt F) bN.view g (Rect.unit (s := S16) ![0] S16.size inb_S16_S16_0) y rest (ix1 ⟨j, hj⟩)

set_option maxHeartbeats 1000000 in
/-- The task on the vector subcore at `L`: from read shares of the two columns, its two blocks' rows and lengths, its
    own buffers and its twelve cells at 0, to the blocks' finished lists and lengths. -/
theorem body_run (d : Dev nD) (L : grid0.Coords) (O : CellTallies nD τ sig (HIx 1)) (W : Waits sig (HIx 1)) (q : PosShare TreeShare)
    (fD fS : S320000.Idx → BitVec 32) (w0 w1 r0 r1 : S21004288.Idx → BitVec 32) (n0 n1 : S1024.Idx → BitVec 32)
    (hD : ∀ e, e < 320000 → rd (n := 320000) fD e = D e) (hS : ∀ e, e < 320000 → rd (n := 320000) fS e = Sx e) :
    (iprop(Transfers.MayWaits (thr d L) (default : HIx 1) O
      ∗ (mD.view.loc (thr d L) ↦{q} fD) ∗ (mS.view.loc (thr d L) ↦{q} fS)
      ∗ ((mW.view.loc (thr d L) ↦[row (2 * wid L)]{fullShare} w0) ∗ (mW.view.loc (thr d L) ↦[row (2 * wid L + 1)]{fullShare} w1)
        ∗ (mR.view.loc (thr d L) ↦[row (2 * wid L)]{fullShare} r0) ∗ (mR.view.loc (thr d L) ↦[row (2 * wid L + 1)]{fullShare} r1)
        ∗ (mN.view.loc (thr d L) ↦[lens (2 * wid L)]{fullShare} n0) ∗ (mN.view.loc (thr d L) ↦[lens (2 * wid L + 1)]{fullShare} n1))
      ∗ (∃ f7, bD.view.loc (thr d L) ↦{fullShare} f7) ∗ (∃ f8, bS.view.loc (thr d L) ↦{fullShare} f8)
      ∗ (∃ g9, gW0.view.loc (thr d L) ↦{fullShare} g9) ∗ (∃ g10, gW1.view.loc (thr d L) ↦{fullShare} g10)
      ∗ (∃ g11, gS0.view.loc (thr d L) ↦{fullShare} g11) ∗ (∃ g12, gS1.view.loc (thr d L) ↦{fullShare} g12)
      ∗ (∃ g13, bN.view.loc (thr d L) ↦{fullShare} g13)
      ∗ (semVal (thr d L, SemLoc.dma cc0_scoped0.sem) 0 ∗ semVal (thr d L, SemLoc.dma cc0_scoped1.sem) 0 ∗ semVal (thr d L, SemLoc.dma cc0_scoped2.sem) 0 ∗ semVal (thr d L, SemLoc.dma cc0_scoped3.sem) 0 ∗ semVal (thr d L, SemLoc.dma cc0_scoped4.sem) 0 ∗ semVal (thr d L, SemLoc.dma cc0_scoped5.sem) 0 ∗ semVal (thr d L, SemLoc.dma cc0_scoped6.sem) 0 ∗ semVal (thr d L, SemLoc.dma cc0_scoped7.sem) 0 ∗ semVal (thr d L, SemLoc.dma cc0_scoped8.sem) 0 ∗ semVal (thr d L, SemLoc.dma cc0_scoped9.sem) 0 ∗ semVal (thr d L, SemLoc.dma cc0_scoped10.sem) 0 ∗ semVal (thr d L, SemLoc.dma cc0_scoped11.sem) 0)
      ∗ owes (thr d L) O W) : sProp (MM F))
      ⊢ wp frame (wpE (defs₀ (F := F)) 𝒱₀ (thr d L) none) Set.univ
        (cc0__s0_body L mD (Memref.isWhole_whole _) mS (Memref.isWhole_whole _) mW (Memref.isWhole_whole _) mR (Memref.isWhole_whole _) mN (Memref.isWhole_whole _) bD (Memref.isWhole_whole _) bS (Memref.isWhole_whole _) gW0 (Memref.isWhole_whole _) gW1 (Memref.isWhole_whole _) gS0 (Memref.isWhole_whole _) gS1 (Memref.isWhole_whole _) bN (Memref.isWhole_whole _)
        cc0_scoped0 cc0_scoped1 cc0_scoped2 cc0_scoped3 cc0_scoped4 cc0_scoped5 cc0_scoped6 cc0_scoped7 cc0_scoped8 cc0_scoped9 cc0_scoped10 cc0_scoped11)
        fun _ => iprop(
          (∃ (w0' w1' r0' r1' : S21004288.Idx → BitVec 32) (n0' n1' : S1024.Idx → BitVec 32),
            ⌜Done D Sx (2 * wid L) w0' r0' n0' ∧ Done D Sx (2 * wid L + 1) w1' r1' n1'⌝
            ∗ (mW.view.loc (thr d L) ↦[row (2 * wid L)]{fullShare} w0') ∗ (mW.view.loc (thr d L) ↦[row (2 * wid L + 1)]{fullShare} w1')
            ∗ (mR.view.loc (thr d L) ↦[row (2 * wid L)]{fullShare} r0') ∗ (mR.view.loc (thr d L) ↦[row (2 * wid L + 1)]{fullShare} r1')
            ∗ (mN.view.loc (thr d L) ↦[lens (2 * wid L)]{fullShare} n0') ∗ (mN.view.loc (thr d L) ↦[lens (2 * wid L + 1)]{fullShare} n1'))
          ∗ (∃ f7, bD.view.loc (thr d L) ↦{fullShare} f7) ∗ (∃ f8, bS.view.loc (thr d L) ↦{fullShare} f8)
          ∗ (∃ g9, gW0.view.loc (thr d L) ↦{fullShare} g9) ∗ (∃ g10, gW1.view.loc (thr d L) ↦{fullShare} g10)
          ∗ (∃ g11, gS0.view.loc (thr d L) ↦{fullShare} g11) ∗ (∃ g12, gS1.view.loc (thr d L) ↦{fullShare} g12)
          ∗ (∃ g13, bN.view.loc (thr d L) ↦{fullShare} g13)
          ∗ (semVal (thr d L, SemLoc.dma cc0_scoped0.sem) 0 ∗ semVal (thr d L, SemLoc.dma cc0_scoped1.sem) 0 ∗ semVal (thr d L, SemLoc.dma cc0_scoped2.sem) 0 ∗ semVal (thr d L, SemLoc.dma cc0_scoped3.sem) 0 ∗ semVal (thr d L, SemLoc.dma cc0_scoped4.sem) 0 ∗ semVal (thr d L, SemLoc.dma cc0_scoped5.sem) 0 ∗ semVal (thr d L, SemLoc.dma cc0_scoped6.sem) 0 ∗ semVal (thr d L, SemLoc.dma cc0_scoped7.sem) 0 ∗ semVal (thr d L, SemLoc.dma cc0_scoped8.sem) 0 ∗ semVal (thr d L, SemLoc.dma cc0_scoped9.sem) 0 ∗ semVal (thr d L, SemLoc.dma cc0_scoped10.sem) 0 ∗ semVal (thr d L, SemLoc.dma cc0_scoped11.sem) 0)
          ∗ ∃ W', ⌜∀ p ∈ W', p ∈ W ∨ p.2 = none⌝ ∗ owes (thr d L) O W') := by
  iintro ⟨Hmw, HD, HS, ⟨Hw0, Hw1, Hr0, Hr1, Hn0, Hn1⟩, ⟨%f7, H7⟩, ⟨%f8, H8⟩, ⟨%g9, H9⟩, ⟨%g10, H10⟩, ⟨%g11, H11⟩, ⟨%g12, H12⟩, ⟨%g13, H13⟩, ⟨Hs0, Hs1, Hs2, Hs3, Hs4, Hs5, Hs6, Hs7, Hs8, Hs9, Hs10, Hs11⟩, HO⟩
  have hb := bounds_at L
  sl_unfold [cc0__s0_body]
  sl_exec
  sl_for (inv1 (F := F) d L) $$ [H9 H10 H11 H12]
  case region =>
    intro k acc
    exact trip1 (F := F) d L k acc
  · unfold inv1
    isplitl [H9]; · iexists _; iexact H9
    isplitl [H10]; · iexists _; iexact H10
    isplitl [H11]; · iexists _; iexact H11
    iexists _; iexact H12
  iintro %acc1 HI
  unfold inv1
  icases HI with ⟨⟨%y9, H9⟩, ⟨%y10, H10⟩, ⟨%y11, H11⟩, ⟨%y12, H12⟩⟩
  sl_exec
  sl_for (inv2 (F := F) D Sx d L O W q fD fS) $$ [Hmw HD HS H7 H8 H9 H10 H11 H12 Hw0 Hw1 Hr0 Hr1 Hs0 Hs1 Hs2 Hs3 Hs4 Hs5 HO]
  case region =>
    intro k acc
    exact trip2 (F := F) D Sx d L O W q fD fS _ _ _ _ _ _ hb.1 hb.2.1 hb.2.2 lanes_at hD hS k acc
  · unfold inv2
    isplitl [Hmw]; · iexact Hmw
    isplitl [HD]; · iexact HD
    isplitl [HS]; · iexact HS
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [Hw0 Hw1 Hr0 Hr1]
    · iexists w0, w1, r0, r1
      isplitr
      swap
      · isplitl [Hw0]; · iexact Hw0
        isplitl [Hw1]; · iexact Hw1
        isplitl [Hr0]; · iexact Hr0
        iexact Hr1
      ipureintro
      exact ⟨⟨rfl, rfl⟩, ⟨Listed.zero _, Listed.zero _⟩, ⟨Listed.zero _, Listed.zero _⟩⟩
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexists W
    isplitr
    swap
    · iexact HO
    ipureintro
    exact fun p hp => .inl hp
  iintro %acc2 HI
  obtain ⟨a, b⟩ := acc2
  unfold inv2
  icases HI with ⟨Hmw, HD, HS, ⟨%z7, H7⟩, ⟨%z8, H8⟩, ⟨%z9, H9⟩, ⟨%z10, H10⟩, ⟨%z11, H11⟩, ⟨%z12, H12⟩, ⟨%u0, %u1, %p0, %p1, %hL, Hw0, Hw1, Hr0, Hr1⟩, Hs0, Hs1, Hs2, Hs3, Hs4, Hs5, %W', %hW', HO⟩
  obtain ⟨⟨ha, hb'⟩, ⟨hw0, hr0⟩, ⟨hw1, hr1⟩⟩ := hL
  have ha : a = BitVec.ofNat 32 (start (Own D (2 * wid L)) 80) := ha
  have hb' : b = BitVec.ofNat 32 (start (Own D (2 * wid L + 1)) 80) := hb'
  have s0 : start (Own D (2 * wid L)) 80 ≤ 320000 := start_le (Own D (2 * wid L)) 80
  have s1 : start (Own D (2 * wid L + 1)) 80 ≤ 320000 := start_le (Own D (2 * wid L + 1)) 80
  have c7 : k0_chk7 L a := by rw [ha]; exact chk7_at L s0 (start_dvd _ _)
  have c8 : k0_chk8 L b := by rw [hb']; exact chk8_at L s1 (start_dvd _ _)
  have o9 : k0_off9 L a = ![(2 * wid L) * 328192 + start (Own D (2 * wid L)) 80] := by rw [ha]; exact off9_at L s0
  have o10 : k0_off10 L b = ![(2 * wid L + 1) * 328192 + start (Own D (2 * wid L + 1)) 80] := by rw [hb']; exact off10_at L s1
  sl_exec (disch := first | exact c7 | exact c8)
  sl_for (inv4 (F := F) d L) $$ [H9 H11]
  case region =>
    intro k acc
    exact trip4 (F := F) d L k acc
  · unfold inv4
    iexists _, _
    isplitr
    swap
    · isplitl [H9]; · iexact H9
      iexact H11
    ipureintro
    exact fun x hx => absurd hx (Nat.not_lt_zero _)
  iintro %acc4 HI
  unfold inv4
  icases HI with ⟨%x9, %x11, %hx, H9, H11⟩
  have uHw0 : (mW.slice (Rect.unit (s := S21004288) (k0_off9 L a) S4032.size (k0_off9_inb L a c7)) (fun _ => rfl)).view.set ⊆ row (2 * wid L) := by
    intro i hi
    rw [mem_cutW _ o9] at hi
    exact mem_row.2 (in_row s0 hi)
  ihave Hw0' := (show (mW.view.loc (thr d L) ↦[row (2 * wid L)]{fullShare} u0 : sProp (MM F))
      ⊢ iprop(((mW.slice (Rect.unit (s := S21004288) (k0_off9 L a) S4032.size (k0_off9_inb L a c7)) (fun _ => rfl)).view.loc (thr d L) ↦[(mW.slice (Rect.unit (s := S21004288) (k0_off9 L a) S4032.size (k0_off9_inb L a c7)) (fun _ => rfl)).view.set]{fullShare} u0) ∗ (mW.view.loc (thr d L) ↦[row (2 * wid L) \ (mW.slice (Rect.unit (s := S21004288) (k0_off9 L a) S4032.size (k0_off9_inb L a c7)) (fun _ => rfl)).view.set]{fullShare} u0))
      from (pointsTo_split_subset uHw0).1) $$ Hw0
  icases Hw0' with ⟨Hw0, Hw0c⟩
  have uHw1 : (mW.slice (Rect.unit (s := S21004288) (k0_off10 L b) S4032.size (k0_off10_inb L b c8)) (fun _ => rfl)).view.set ⊆ row (2 * wid L + 1) := by
    intro i hi
    rw [mem_cutW _ o10] at hi
    exact mem_row.2 (in_row s1 hi)
  ihave Hw1' := (show (mW.view.loc (thr d L) ↦[row (2 * wid L + 1)]{fullShare} u1 : sProp (MM F))
      ⊢ iprop(((mW.slice (Rect.unit (s := S21004288) (k0_off10 L b) S4032.size (k0_off10_inb L b c8)) (fun _ => rfl)).view.loc (thr d L) ↦[(mW.slice (Rect.unit (s := S21004288) (k0_off10 L b) S4032.size (k0_off10_inb L b c8)) (fun _ => rfl)).view.set]{fullShare} u1) ∗ (mW.view.loc (thr d L) ↦[row (2 * wid L + 1) \ (mW.slice (Rect.unit (s := S21004288) (k0_off10 L b) S4032.size (k0_off10_inb L b c8)) (fun _ => rfl)).view.set]{fullShare} u1))
      from (pointsTo_split_subset uHw1).1) $$ Hw1
  icases Hw1' with ⟨Hw1, Hw1c⟩
  have uHr0 : (mR.slice (Rect.unit (s := S21004288) (k0_off9 L a) S4032.size (k0_off9_inb L a c7)) (fun _ => rfl)).view.set ⊆ row (2 * wid L) := by
    intro i hi
    rw [mem_cutR _ o9] at hi
    exact mem_row.2 (in_row s0 hi)
  ihave Hr0' := (show (mR.view.loc (thr d L) ↦[row (2 * wid L)]{fullShare} p0 : sProp (MM F))
      ⊢ iprop(((mR.slice (Rect.unit (s := S21004288) (k0_off9 L a) S4032.size (k0_off9_inb L a c7)) (fun _ => rfl)).view.loc (thr d L) ↦[(mR.slice (Rect.unit (s := S21004288) (k0_off9 L a) S4032.size (k0_off9_inb L a c7)) (fun _ => rfl)).view.set]{fullShare} p0) ∗ (mR.view.loc (thr d L) ↦[row (2 * wid L) \ (mR.slice (Rect.unit (s := S21004288) (k0_off9 L a) S4032.size (k0_off9_inb L a c7)) (fun _ => rfl)).view.set]{fullShare} p0))
      from (pointsTo_split_subset uHr0).1) $$ Hr0
  icases Hr0' with ⟨Hr0, Hr0c⟩
  have uHr1 : (mR.slice (Rect.unit (s := S21004288) (k0_off10 L b) S4032.size (k0_off10_inb L b c8)) (fun _ => rfl)).view.set ⊆ row (2 * wid L + 1) := by
    intro i hi
    rw [mem_cutR _ o10] at hi
    exact mem_row.2 (in_row s1 hi)
  ihave Hr1' := (show (mR.view.loc (thr d L) ↦[row (2 * wid L + 1)]{fullShare} p1 : sProp (MM F))
      ⊢ iprop(((mR.slice (Rect.unit (s := S21004288) (k0_off10 L b) S4032.size (k0_off10_inb L b c8)) (fun _ => rfl)).view.loc (thr d L) ↦[(mR.slice (Rect.unit (s := S21004288) (k0_off10 L b) S4032.size (k0_off10_inb L b c8)) (fun _ => rfl)).view.set]{fullShare} p1) ∗ (mR.view.loc (thr d L) ↦[row (2 * wid L + 1) \ (mR.slice (Rect.unit (s := S21004288) (k0_off10 L b) S4032.size (k0_off10_inb L b c8)) (fun _ => rfl)).view.set]{fullShare} p1))
      from (pointsTo_split_subset uHr1).1) $$ Hr1
  icases Hr1' with ⟨Hr1, Hr1c⟩
  ihave Hn0' := (show (mN.view.loc (thr d L) ↦[lens (2 * wid L)]{fullShare} n0 : sProp (MM F)) ⊢ ((mN.slice (Rect.unit (s := S1024) (k0_off11 L) S16.size (k0_off11_inb L)) (fun _ => rfl)).view.loc (thr d L) ↦[(mN.slice (Rect.unit (s := S1024) (k0_off11 L) S16.size (k0_off11_inb L)) (fun _ => rfl)).view.set]{fullShare} n0)
      from Entails.of_eq (by rw [set_lens (k0_off11_inb L) (off11_at L)])) $$ Hn0
  ihave Hn1' := (show (mN.view.loc (thr d L) ↦[lens (2 * wid L + 1)]{fullShare} n1 : sProp (MM F)) ⊢ ((mN.slice (Rect.unit (s := S1024) (k0_off12 L) S16.size (k0_off12_inb L)) (fun _ => rfl)).view.loc (thr d L) ↦[(mN.slice (Rect.unit (s := S1024) (k0_off12 L) S16.size (k0_off12_inb L)) (fun _ => rfl)).view.set]{fullShare} n1)
      from Entails.of_eq (by rw [set_lens (k0_off12_inb L) (off12_at L)])) $$ Hn1
  sl_exec (disch := first | exact View.amount_pos _ _ (show 0 < S4032.numel by decide) | exact View.amount_pos _ _ (show 0 < S16.numel by decide))
  sl_step
  have jw0 := hw0.full
    (fun x hx => keptW (F := F) (k0_off9_inb L a c7) o9 u0 (body_run.sl.dma0 (F := F) x9) hx)
    (fun j hj => (putW (F := F) (k0_off9_inb L a c7) o9 u0 (body_run.sl.dma0 (F := F) x9) j hj).trans
      ((readAt_rd (F := F) gW0.view x9 inb_S4048_S4032_0 rfl (⟨j, hj⟩ : Fin 4032)).trans (hx (0 + j) (show 0 + j < 16 * 253 by omega)).1))
  have jr0 := hr0.full
    (fun x hx => keptR (F := F) (k0_off9_inb L a c7) o9 p0 (body_run.sl.dma0_1 (F := F) x11) hx)
    (fun j hj => (putR (F := F) (k0_off9_inb L a c7) o9 p0 (body_run.sl.dma0_1 (F := F) x11) j hj).trans
      ((readAt_rd (F := F) gS0.view x11 inb_S4048_S4032_0 rfl (⟨j, hj⟩ : Fin 4032)).trans (hx (0 + j) (show 0 + j < 16 * 253 by omega)).2))
  have jw1 := hw1.full
    (fun x hx => keptW (F := F) (k0_off10_inb L b c8) o10 u1 (body_run.sl.dma0 (F := F) x9) hx)
    (fun j hj => (putW (F := F) (k0_off10_inb L b c8) o10 u1 (body_run.sl.dma0 (F := F) x9) j hj).trans
      ((readAt_rd (F := F) gW0.view x9 inb_S4048_S4032_0 rfl (⟨j, hj⟩ : Fin 4032)).trans (hx (0 + j) (show 0 + j < 16 * 253 by omega)).1))
  have jr1 := hr1.full
    (fun x hx => keptR (F := F) (k0_off10_inb L b c8) o10 p1 (body_run.sl.dma0_1 (F := F) x11) hx)
    (fun j hj => (putR (F := F) (k0_off10_inb L b c8) o10 p1 (body_run.sl.dma0_1 (F := F) x11) j hj).trans
      ((readAt_rd (F := F) gS0.view x11 inb_S4048_S4032_0 rfl (⟨j, hj⟩ : Fin 4032)).trans (hx (0 + j) (show 0 + j < 16 * 253 by omega)).2))
  have jn0 : ∀ j, j < 16 → rd (n := 1024) ((mN.slice (Rect.unit (s := S1024) (k0_off11 L) S16.size (k0_off11_inb L)) (fun _ => rfl)).view.writes (Elt F) n0 [⟨Rect.whole (Rect.unit (s := S1024) (k0_off11 L) S16.size (k0_off11_inb L)).shape, body_run.sl.dma2 (F := F) d L g13 a⟩]) (16 * (2 * wid L) + j) = BitVec.ofNat 32 (start (Own D (2 * wid L)) 80) := fun j hj =>
    (putN (F := F) (k0_off11_inb L) (off11_at L) n0 (body_run.sl.dma2 (F := F) d L g13 a) j hj).trans
      ((length_read (F := F) g13 [] (k0_pay16 a) j hj).trans ((BitVec.one_mul a).trans ha))
  have jn1 : ∀ j, j < 16 → rd (n := 1024) ((mN.slice (Rect.unit (s := S1024) (k0_off12 L) S16.size (k0_off12_inb L)) (fun _ => rfl)).view.writes (Elt F) n1 [⟨Rect.whole (Rect.unit (s := S1024) (k0_off12 L) S16.size (k0_off12_inb L)).shape, body_run.sl.dma4 (F := F) d L g13 a b⟩]) (16 * (2 * wid L + 1) + j) = BitVec.ofNat 32 (start (Own D (2 * wid L + 1)) 80) := fun j hj =>
    (putN (F := F) (k0_off12_inb L) (off12_at L) n1 (body_run.sl.dma4 (F := F) d L g13 a b) j hj).trans
      ((length_read (F := F) g13 _ (k0_pay1 b) j hj).trans ((BitVec.one_mul b).trans hb'))
  ihave Hw0j := (rejoinW (F := F) d L (k0_off9_inb L a c7) uHw0 u0 _) $$ [Hw0 Hw0c]
  · isplitl [Hw0]; · iexact Hw0
    iexact Hw0c
  ihave Hw1j := (rejoinW (F := F) d L (k0_off10_inb L b c8) uHw1 u1 _) $$ [Hw1 Hw1c]
  · isplitl [Hw1]; · iexact Hw1
    iexact Hw1c
  ihave Hr0j := (rejoinR (F := F) d L (k0_off9_inb L a c7) uHr0 p0 _) $$ [Hr0 Hr0c]
  · isplitl [Hr0]; · iexact Hr0
    iexact Hr0c
  ihave Hr1j := (rejoinR (F := F) d L (k0_off10_inb L b c8) uHr1 p1 _) $$ [Hr1 Hr1c]
  · isplitl [Hr1]; · iexact Hr1
    iexact Hr1c
  ihave Hn0 := (rejoinN (F := F) d L (k0_off11_inb L) (off11_at L) _) $$ Hn0'
  ihave Hn1 := (rejoinN (F := F) d L (k0_off12_inb L) (off12_at L) _) $$ Hn1'
  isplitl [Hw0j Hw1j Hr0j Hr1j Hn0 Hn1]
  · iexists _, _, _, _, _, _
    isplitr
    swap
    · isplitl [Hw0j]; · iexact Hw0j
      isplitl [Hw1j]; · iexact Hw1j
      isplitl [Hr0j]; · iexact Hr0j
      isplitl [Hr1j]; · iexact Hr1j
      isplitl [Hn0]; · iexact Hn0
      iexact Hn1
    ipureintro
    exact ⟨⟨jw0, jr0, jn0⟩, ⟨jw1, jr1, jn1⟩⟩
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [Hs0 Hs1 Hs2 Hs3 Hs4 Hs5 Hs6 Hs7 Hs8 Hs9 Hs10 Hs11]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    iexact Hs11
  iexists _
  isplitr
  swap
  · iexact HO
  ipureintro
  exact waits_insert (waits_insert (waits_insert (waits_insert (waits_insert (waits_insert hW')))))

end Cert.Proof.Lists

end
-- ==== Proof.Task.lean ====
/-
  The vector subcore's task as the launch runs it: what a subcore is handed (a share of the two edge columns, its two
  blocks' rows of the three results) and what it hands back (the rows filled).
-/
module

public import proofs.«01_k».proof.Proof.Tile
public import Idealize.ShloMosaic.Lib.ShareLeaves

@[expose] public section

noncomputable section

namespace Cert.Proof.Lists

open Cert.KernelIdeal Cert.KernelIdeal.Gen Cert.Proof.Spec Cert.Proof.Rows Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Routing (shape1)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

theorem cell_ne (t : Thread nD τ) {a b : SemLoc sig} (h : a ≠ b) : ((t, a) : GSem nD τ sig) ≠ (t, b) := fun e => h (congrArg Prod.snd e)

/-- A subcore's own semaphores: the twelve of its copies and the rest. -/
theorem ownSems0_V (d : Dev nD) (L : grid0.Coords) :
    (ownSems0 (thr d L) : sProp (MM F))
      = iprop(semVal (thr d L, SemLoc.dma cc0_scoped0.sem) 0 ∗ semVal (thr d L, SemLoc.dma cc0_scoped1.sem) 0 ∗ semVal (thr d L, SemLoc.dma cc0_scoped2.sem) 0 ∗ semVal (thr d L, SemLoc.dma cc0_scoped3.sem) 0 ∗ semVal (thr d L, SemLoc.dma cc0_scoped4.sem) 0 ∗ semVal (thr d L, SemLoc.dma cc0_scoped5.sem) 0 ∗ semVal (thr d L, SemLoc.dma cc0_scoped6.sem) 0 ∗ semVal (thr d L, SemLoc.dma cc0_scoped7.sem) 0 ∗ semVal (thr d L, SemLoc.dma cc0_scoped8.sem) 0 ∗ semVal (thr d L, SemLoc.dma cc0_scoped9.sem) 0 ∗ semVal (thr d L, SemLoc.dma cc0_scoped10.sem) 0 ∗ semVal (thr d L, SemLoc.dma cc0_scoped11.sem) 0
          ∗ bigSep (((((((((((((ownCells (thr d L)).erase (thr d L, SemLoc.dma cc0_scoped0.sem)).erase (thr d L, SemLoc.dma cc0_scoped1.sem)).erase (thr d L, SemLoc.dma cc0_scoped2.sem)).erase (thr d L, SemLoc.dma cc0_scoped3.sem)).erase (thr d L, SemLoc.dma cc0_scoped4.sem)).erase (thr d L, SemLoc.dma cc0_scoped5.sem)).erase (thr d L, SemLoc.dma cc0_scoped6.sem)).erase (thr d L, SemLoc.dma cc0_scoped7.sem)).erase (thr d L, SemLoc.dma cc0_scoped8.sem)).erase (thr d L, SemLoc.dma cc0_scoped9.sem)).erase (thr d L, SemLoc.dma cc0_scoped10.sem)).erase (thr d L, SemLoc.dma cc0_scoped11.sem)) fun g => semVal g 0) := by
  unfold SparseCore.Cfg.ownSems0
  rw [SparseCore.bigSep_erase' ((mem_ownCells (g := ((thr d L, SemLoc.dma cc0_scoped0.sem) : GSem nD τ sig))).mpr ⟨rfl, by
      show (SemLoc.dma cc0_scoped0.sem : SemLoc sig).isScoped .scVector = true; decide⟩),
    SparseCore.bigSep_erase' (Finset.mem_erase.mpr ⟨cell_ne (thr d L) (show (SemLoc.dma cc0_scoped1.sem : SemLoc sig) ≠ SemLoc.dma cc0_scoped0.sem by decide), (mem_ownCells (g := ((thr d L, SemLoc.dma cc0_scoped1.sem) : GSem nD τ sig))).mpr ⟨rfl, by
      show (SemLoc.dma cc0_scoped1.sem : SemLoc sig).isScoped .scVector = true; decide⟩⟩),
    SparseCore.bigSep_erase' (Finset.mem_erase.mpr ⟨cell_ne (thr d L) (show (SemLoc.dma cc0_scoped2.sem : SemLoc sig) ≠ SemLoc.dma cc0_scoped1.sem by decide), Finset.mem_erase.mpr ⟨cell_ne (thr d L) (show (SemLoc.dma cc0_scoped2.sem : SemLoc sig) ≠ SemLoc.dma cc0_scoped0.sem by decide), (mem_ownCells (g := ((thr d L, SemLoc.dma cc0_scoped2.sem) : GSem nD τ sig))).mpr ⟨rfl, by
      show (SemLoc.dma cc0_scoped2.sem : SemLoc sig).isScoped .scVector = true; decide⟩⟩⟩),
    SparseCore.bigSep_erase' (Finset.mem_erase.mpr ⟨cell_ne (thr d L) (show (SemLoc.dma cc0_scoped3.sem : SemLoc sig) ≠ SemLoc.dma cc0_scoped2.sem by decide), Finset.mem_erase.mpr ⟨cell_ne (thr d L) (show (SemLoc.dma cc0_scoped3.sem : SemLoc sig) ≠ SemLoc.dma cc0_scoped1.sem by decide), Finset.mem_erase.mpr ⟨cell_ne (thr d L) (show (SemLoc.dma cc0_scoped3.sem : SemLoc sig) ≠ SemLoc.dma cc0_scoped0.sem by decide), (mem_ownCells (g := ((thr d L, SemLoc.dma cc0_scoped3.sem) : GSem nD τ sig))).mpr ⟨rfl, by
      show (SemLoc.dma cc0_scoped3.sem : SemLoc sig).isScoped .scVector = true; decide⟩⟩⟩⟩),
    SparseCore.bigSep_erase' (Finset.mem_erase.mpr ⟨cell_ne (thr d L) (show (SemLoc.dma cc0_scoped4.sem : SemLoc sig) ≠ SemLoc.dma cc0_scoped3.sem by decide), Finset.mem_erase.mpr ⟨cell_ne (thr d L) (show (SemLoc.dma cc0_scoped4.sem : SemLoc sig) ≠ SemLoc.dma cc0_scoped2.sem by decide), Finset.mem_erase.mpr ⟨cell_ne (thr d L) (show (SemLoc.dma cc0_scoped4.sem : SemLoc sig) ≠ SemLoc.dma cc0_scoped1.sem by decide), Finset.mem_erase.mpr ⟨cell_ne (thr d L) (show (SemLoc.dma cc0_scoped4.sem : SemLoc sig) ≠ SemLoc.dma cc0_scoped0.sem by decide), (mem_ownCells (g := ((thr d L, SemLoc.dma cc0_scoped4.sem) : GSem nD τ sig))).mpr ⟨rfl, by
      show (SemLoc.dma cc0_scoped4.sem : SemLoc sig).isScoped .scVector = true; decide⟩⟩⟩⟩⟩),
    SparseCore.bigSep_erase' (Finset.mem_erase.mpr ⟨cell_ne (thr d L) (show (SemLoc.dma cc0_scoped5.sem : SemLoc sig) ≠ SemLoc.dma cc0_scoped4.sem by decide), Finset.mem_erase.mpr ⟨cell_ne (thr d L) (show (SemLoc.dma cc0_scoped5.sem : SemLoc sig) ≠ SemLoc.dma cc0_scoped3.sem by decide), Finset.mem_erase.mpr ⟨cell_ne (thr d L) (show (SemLoc.dma cc0_scoped5.sem : SemLoc sig) ≠ SemLoc.dma cc0_scoped2.sem by decide), Finset.mem_erase.mpr ⟨cell_ne (thr d L) (show (SemLoc.dma cc0_scoped5.sem : SemLoc sig) ≠ SemLoc.dma cc0_scoped1.sem by decide), Finset.mem_erase.mpr ⟨cell_ne (thr d L) (show (SemLoc.dma cc0_scoped5.sem : SemLoc sig) ≠ SemLoc.dma cc0_scoped0.sem by decide), (mem_ownCells (g := ((thr d L, SemLoc.dma cc0_scoped5.sem) : GSem nD τ sig))).mpr ⟨rfl, by
      show (SemLoc.dma cc0_scoped5.sem : SemLoc sig).isScoped .scVector = true; decide⟩⟩⟩⟩⟩⟩),
    SparseCore.bigSep_erase' (Finset.mem_erase.mpr ⟨cell_ne (thr d L) (show (SemLoc.dma cc0_scoped6.sem : SemLoc sig) ≠ SemLoc.dma cc0_scoped5.sem by decide), Finset.mem_erase.mpr ⟨cell_ne (thr d L) (show (SemLoc.dma cc0_scoped6.sem : SemLoc sig) ≠ SemLoc.dma cc0_scoped4.sem by decide), Finset.mem_erase.mpr ⟨cell_ne (thr d L) (show (SemLoc.dma cc0_scoped6.sem : SemLoc sig) ≠ SemLoc.dma cc0_scoped3.sem by decide), Finset.mem_erase.mpr ⟨cell_ne (thr d L) (show (SemLoc.dma cc0_scoped6.sem : SemLoc sig) ≠ SemLoc.dma cc0_scoped2.sem by decide), Finset.mem_erase.mpr ⟨cell_ne (thr d L) (show (SemLoc.dma cc0_scoped6.sem : SemLoc sig) ≠ SemLoc.dma cc0_scoped1.sem by decide), Finset.mem_erase.mpr ⟨cell_ne (thr d L) (show (SemLoc.dma cc0_scoped6.sem : SemLoc sig) ≠ SemLoc.dma cc0_scoped0.sem by decide), (mem_ownCells (g := ((thr d L, SemLoc.dma cc0_scoped6.sem) : GSem nD τ sig))).mpr ⟨rfl, by
      show (SemLoc.dma cc0_scoped6.sem : SemLoc sig).isScoped .scVector = true; decide⟩⟩⟩⟩⟩⟩⟩),
    SparseCore.bigSep_erase' (Finset.mem_erase.mpr ⟨cell_ne (thr d L) (show (SemLoc.dma cc0_scoped7.sem : SemLoc sig) ≠ SemLoc.dma cc0_scoped6.sem by decide), Finset.mem_erase.mpr ⟨cell_ne (thr d L) (show (SemLoc.dma cc0_scoped7.sem : SemLoc sig) ≠ SemLoc.dma cc0_scoped5.sem by decide), Finset.mem_erase.mpr ⟨cell_ne (thr d L) (show (SemLoc.dma cc0_scoped7.sem : SemLoc sig) ≠ SemLoc.dma cc0_scoped4.sem by decide), Finset.mem_erase.mpr ⟨cell_ne (thr d L) (show (SemLoc.dma cc0_scoped7.sem : SemLoc sig) ≠ SemLoc.dma cc0_scoped3.sem by decide), Finset.mem_erase.mpr ⟨cell_ne (thr d L) (show (SemLoc.dma cc0_scoped7.sem : SemLoc sig) ≠ SemLoc.dma cc0_scoped2.sem by decide), Finset.mem_erase.mpr ⟨cell_ne (thr d L) (show (SemLoc.dma cc0_scoped7.sem : SemLoc sig) ≠ SemLoc.dma cc0_scoped1.sem by decide), Finset.mem_erase.mpr ⟨cell_ne (thr d L) (show (SemLoc.dma cc0_scoped7.sem : SemLoc sig) ≠ SemLoc.dma cc0_scoped0.sem by decide), (mem_ownCells (g := ((thr d L, SemLoc.dma cc0_scoped7.sem) : GSem nD τ sig))).mpr ⟨rfl, by
      show (SemLoc.dma cc0_scoped7.sem : SemLoc sig).isScoped .scVector = true; decide⟩⟩⟩⟩⟩⟩⟩⟩),
    SparseCore.bigSep_erase' (Finset.mem_erase.mpr ⟨cell_ne (thr d L) (show (SemLoc.dma cc0_scoped8.sem : SemLoc sig) ≠ SemLoc.dma cc0_scoped7.sem by decide), Finset.mem_erase.mpr ⟨cell_ne (thr d L) (show (SemLoc.dma cc0_scoped8.sem : SemLoc sig) ≠ SemLoc.dma cc0_scoped6.sem by decide), Finset.mem_erase.mpr ⟨cell_ne (thr d L) (show (SemLoc.dma cc0_scoped8.sem : SemLoc sig) ≠ SemLoc.dma cc0_scoped5.sem by decide), Finset.mem_erase.mpr ⟨cell_ne (thr d L) (show (SemLoc.dma cc0_scoped8.sem : SemLoc sig) ≠ SemLoc.dma cc0_scoped4.sem by decide), Finset.mem_erase.mpr ⟨cell_ne (thr d L) (show (SemLoc.dma cc0_scoped8.sem : SemLoc sig) ≠ SemLoc.dma cc0_scoped3.sem by decide), Finset.mem_erase.mpr ⟨cell_ne (thr d L) (show (SemLoc.dma cc0_scoped8.sem : SemLoc sig) ≠ SemLoc.dma cc0_scoped2.sem by decide), Finset.mem_erase.mpr ⟨cell_ne (thr d L) (show (SemLoc.dma cc0_scoped8.sem : SemLoc sig) ≠ SemLoc.dma cc0_scoped1.sem by decide), Finset.mem_erase.mpr ⟨cell_ne (thr d L) (show (SemLoc.dma cc0_scoped8.sem : SemLoc sig) ≠ SemLoc.dma cc0_scoped0.sem by decide), (mem_ownCells (g := ((thr d L, SemLoc.dma cc0_scoped8.sem) : GSem nD τ sig))).mpr ⟨rfl, by
      show (SemLoc.dma cc0_scoped8.sem : SemLoc sig).isScoped .scVector = true; decide⟩⟩⟩⟩⟩⟩⟩⟩⟩),
    SparseCore.bigSep_erase' (Finset.mem_erase.mpr ⟨cell_ne (thr d L) (show (SemLoc.dma cc0_scoped9.sem : SemLoc sig) ≠ SemLoc.dma cc0_scoped8.sem by decide), Finset.mem_erase.mpr ⟨cell_ne (thr d L) (show (SemLoc.dma cc0_scoped9.sem : SemLoc sig) ≠ SemLoc.dma cc0_scoped7.sem by decide), Finset.mem_erase.mpr ⟨cell_ne (thr d L) (show (SemLoc.dma cc0_scoped9.sem : SemLoc sig) ≠ SemLoc.dma cc0_scoped6.sem by decide), Finset.mem_erase.mpr ⟨cell_ne (thr d L) (show (SemLoc.dma cc0_scoped9.sem : SemLoc sig) ≠ SemLoc.dma cc0_scoped5.sem by decide), Finset.mem_erase.mpr ⟨cell_ne (thr d L) (show (SemLoc.dma cc0_scoped9.sem : SemLoc sig) ≠ SemLoc.dma cc0_scoped4.sem by decide), Finset.mem_erase.mpr ⟨cell_ne (thr d L) (show (SemLoc.dma cc0_scoped9.sem : SemLoc sig) ≠ SemLoc.dma cc0_scoped3.sem by decide), Finset.mem_erase.mpr ⟨cell_ne (thr d L) (show (SemLoc.dma cc0_scoped9.sem : SemLoc sig) ≠ SemLoc.dma cc0_scoped2.sem by decide), Finset.mem_erase.mpr ⟨cell_ne (thr d L) (show (SemLoc.dma cc0_scoped9.sem : SemLoc sig) ≠ SemLoc.dma cc0_scoped1.sem by decide), Finset.mem_erase.mpr ⟨cell_ne (thr d L) (show (SemLoc.dma cc0_scoped9.sem : SemLoc sig) ≠ SemLoc.dma cc0_scoped0.sem by decide), (mem_ownCells (g := ((thr d L, SemLoc.dma cc0_scoped9.sem) : GSem nD τ sig))).mpr ⟨rfl, by
      show (SemLoc.dma cc0_scoped9.sem : SemLoc sig).isScoped .scVector = true; decide⟩⟩⟩⟩⟩⟩⟩⟩⟩⟩),
    SparseCore.bigSep_erase' (Finset.mem_erase.mpr ⟨cell_ne (thr d L) (show (SemLoc.dma cc0_scoped10.sem : SemLoc sig) ≠ SemLoc.dma cc0_scoped9.sem by decide), Finset.mem_erase.mpr ⟨cell_ne (thr d L) (show (SemLoc.dma cc0_scoped10.sem : SemLoc sig) ≠ SemLoc.dma cc0_scoped8.sem by decide), Finset.mem_erase.mpr ⟨cell_ne (thr d L) (show (SemLoc.dma cc0_scoped10.sem : SemLoc sig) ≠ SemLoc.dma cc0_scoped7.sem by decide), Finset.mem_erase.mpr ⟨cell_ne (thr d L) (show (SemLoc.dma cc0_scoped10.sem : SemLoc sig) ≠ SemLoc.dma cc0_scoped6.sem by decide), Finset.mem_erase.mpr ⟨cell_ne (thr d L) (show (SemLoc.dma cc0_scoped10.sem : SemLoc sig) ≠ SemLoc.dma cc0_scoped5.sem by decide), Finset.mem_erase.mpr ⟨cell_ne (thr d L) (show (SemLoc.dma cc0_scoped10.sem : SemLoc sig) ≠ SemLoc.dma cc0_scoped4.sem by decide), Finset.mem_erase.mpr ⟨cell_ne (thr d L) (show (SemLoc.dma cc0_scoped10.sem : SemLoc sig) ≠ SemLoc.dma cc0_scoped3.sem by decide), Finset.mem_erase.mpr ⟨cell_ne (thr d L) (show (SemLoc.dma cc0_scoped10.sem : SemLoc sig) ≠ SemLoc.dma cc0_scoped2.sem by decide), Finset.mem_erase.mpr ⟨cell_ne (thr d L) (show (SemLoc.dma cc0_scoped10.sem : SemLoc sig) ≠ SemLoc.dma cc0_scoped1.sem by decide), Finset.mem_erase.mpr ⟨cell_ne (thr d L) (show (SemLoc.dma cc0_scoped10.sem : SemLoc sig) ≠ SemLoc.dma cc0_scoped0.sem by decide), (mem_ownCells (g := ((thr d L, SemLoc.dma cc0_scoped10.sem) : GSem nD τ sig))).mpr ⟨rfl, by
      show (SemLoc.dma cc0_scoped10.sem : SemLoc sig).isScoped .scVector = true; decide⟩⟩⟩⟩⟩⟩⟩⟩⟩⟩⟩),
    SparseCore.bigSep_erase' (Finset.mem_erase.mpr ⟨cell_ne (thr d L) (show (SemLoc.dma cc0_scoped11.sem : SemLoc sig) ≠ SemLoc.dma cc0_scoped10.sem by decide), Finset.mem_erase.mpr ⟨cell_ne (thr d L) (show (SemLoc.dma cc0_scoped11.sem : SemLoc sig) ≠ SemLoc.dma cc0_scoped9.sem by decide), Finset.mem_erase.mpr ⟨cell_ne (thr d L) (show (SemLoc.dma cc0_scoped11.sem : SemLoc sig) ≠ SemLoc.dma cc0_scoped8.sem by decide), Finset.mem_erase.mpr ⟨cell_ne (thr d L) (show (SemLoc.dma cc0_scoped11.sem : SemLoc sig) ≠ SemLoc.dma cc0_scoped7.sem by decide), Finset.mem_erase.mpr ⟨cell_ne (thr d L) (show (SemLoc.dma cc0_scoped11.sem : SemLoc sig) ≠ SemLoc.dma cc0_scoped6.sem by decide), Finset.mem_erase.mpr ⟨cell_ne (thr d L) (show (SemLoc.dma cc0_scoped11.sem : SemLoc sig) ≠ SemLoc.dma cc0_scoped5.sem by decide), Finset.mem_erase.mpr ⟨cell_ne (thr d L) (show (SemLoc.dma cc0_scoped11.sem : SemLoc sig) ≠ SemLoc.dma cc0_scoped4.sem by decide), Finset.mem_erase.mpr ⟨cell_ne (thr d L) (show (SemLoc.dma cc0_scoped11.sem : SemLoc sig) ≠ SemLoc.dma cc0_scoped3.sem by decide), Finset.mem_erase.mpr ⟨cell_ne (thr d L) (show (SemLoc.dma cc0_scoped11.sem : SemLoc sig) ≠ SemLoc.dma cc0_scoped2.sem by decide), Finset.mem_erase.mpr ⟨cell_ne (thr d L) (show (SemLoc.dma cc0_scoped11.sem : SemLoc sig) ≠ SemLoc.dma cc0_scoped1.sem by decide), Finset.mem_erase.mpr ⟨cell_ne (thr d L) (show (SemLoc.dma cc0_scoped11.sem : SemLoc sig) ≠ SemLoc.dma cc0_scoped0.sem by decide), (mem_ownCells (g := ((thr d L, SemLoc.dma cc0_scoped11.sem) : GSem nD τ sig))).mpr ⟨rfl, by
      show (SemLoc.dma cc0_scoped11.sem : SemLoc sig).isScoped .scVector = true; decide⟩⟩⟩⟩⟩⟩⟩⟩⟩⟩⟩⟩)]

/-- A subcore's own buffers: the seven the task uses, each at some contents, and the rest. -/
theorem ownBufs_V (d : Dev nD) (L : grid0.Coords) :
    (ownBufs (thr d L) : sProp (MM F))
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f) ∗ (∃ f, (thr d L).loc cc0_scratch5 ↦{fullShare} f) ∗ (∃ f, (thr d L).loc cc0_scratch6 ↦{fullShare} f)
          ∗ bigSep ((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := (Proc.scVector (cV L) (jV L)).devRef cc0_scratch5) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := (Proc.scVector (cV L) (jV L)).devRef cc0_scratch6) rfl⟩⟩⟩⟩⟩⟩)]

/-! ## What the call carries -/

-- the target column, the source column, the word lists, the source lists and the lengths, as the device's buffers
abbrev dLoc (d : Dev nD) : Loc nD τ sig := (SparseCore.T d).loc main_v1
abbrev sLoc (d : Dev nD) : Loc nD τ sig := (SparseCore.T d).loc main_v3
abbrev wLoc (d : Dev nD) : Loc nD τ sig := (SparseCore.T d).loc main_v4_0
abbrev rLoc (d : Dev nD) : Loc nD τ sig := (SparseCore.T d).loc main_v4_1
abbrev nLoc (d : Dev nD) : Loc nD τ sig := (SparseCore.T d).loc main_v4_2

/-- The two rows of the list buffers that task `w` fills. -/
def rows (w : ℕ) : Finset S21004288.Idx := row (2 * w) ∪ row (2 * w + 1)
/-- The 32 places of the lengths that task `w` fills. -/
def lens2 (w : ℕ) : Finset S1024.Idx := lens (2 * w) ∪ lens (2 * w + 1)

theorem row_disj {b b' : ℕ} (h : b ≠ b') : Disjoint (row b) (row b') := by
  refine Finset.disjoint_left.2 fun i hi hi' => h ?_
  have h1 := mem_row.1 hi
  have h2 := mem_row.1 hi'
  have e1 : (i 0).val / 328192 = b := Nat.div_eq_of_lt_le h1.1 (by rw [Nat.succ_mul]; exact h1.2)
  have e2 : (i 0).val / 328192 = b' := Nat.div_eq_of_lt_le h2.1 (by rw [Nat.succ_mul]; exact h2.2)
  exact e1.symm.trans e2

theorem lens_disj {b b' : ℕ} (h : b ≠ b') : Disjoint (lens b) (lens b') := by
  refine Finset.disjoint_left.2 fun i hi hi' => h ?_
  have h1 := mem_lens.1 hi
  have h2 := mem_lens.1 hi'
  omega

/-- A row read off one buffer's contents is the row read off another's that agree on it. -/
theorem rowOf_congr {b : ℕ} (hb : b < 64) {f g : S21004288.Idx → BitVec 32} (h : ∀ i ∈ row b, g i = f i) {x : ℕ} (hx : x < 328192) :
    rowOf g b x = rowOf f b x := by
  have hlt : b * 328192 + x < 21004288 :=
    lt_of_lt_of_le (Nat.add_lt_add_left hx _) (le_trans (by rw [← Nat.succ_mul]; exact Nat.mul_le_mul_right _ (show b + 1 ≤ 64 by omega)) (show 64 * 328192 ≤ 21004288 by decide))
  unfold rowOf
  rw [rd_lt _ hlt, rd_lt _ hlt]
  exact h _ (mem_row.2 ⟨Nat.le_add_right _ _, Nat.add_lt_add_left hx _⟩)

theorem lens_congr {b : ℕ} (hb : b < 64) {f g : S1024.Idx → BitVec 32} (h : ∀ i ∈ lens b, g i = f i) {j : ℕ} (hj : j < 16) :
    rd (n := 1024) g (16 * b + j) = rd (n := 1024) f (16 * b + j) := by
  have hlt : 16 * b + j < 1024 := by omega
  rw [rd_lt _ hlt, rd_lt _ hlt]
  exact h _ (mem_lens.2 ⟨Nat.le_add_right _ _, Nat.add_lt_add_left hj _⟩)

/-- A finished list is finished in any list that agrees with it below 328192. -/
theorem full_congr {own : ℕ → Prop} [DecidablePred own] {val : ℕ → BitVec 32} {fill : BitVec 32} {A B : ℕ → BitVec 32} (h : Full own val fill A)
    (e : ∀ x, x < 328192 → B x = A x) : Full own val fill B := by
  have hs : start own 80 ≤ 320000 := start_le own 80
  constructor
  · intro k hk ho
    have := pos_lt_of_lt own (n := 80) ho (by omega)
    rw [e _ (by omega)]; exact h.hit k hk ho
  · intro x hx hm
    rw [e x (by omega)]; exact h.miss x hx hm

section Pieces
variable (D Sx : ℕ → BitVec 32)

/-- What is done for a block is done in any contents that agree on the block's rows. -/
theorem Done.congr {b : ℕ} (hb : b < 64) {fw fr gw gr : S21004288.Idx → BitVec 32} {fn gn : S1024.Idx → BitVec 32} (h : Done D Sx b fw fr fn)
    (hw : ∀ i ∈ row b, gw i = fw i) (hr : ∀ i ∈ row b, gr i = fr i) (hn : ∀ i ∈ lens b, gn i = fn i) : Done D Sx b gw gr gn :=
  ⟨full_congr h.1 fun _ hx => rowOf_congr hb hw hx, full_congr h.2.1 fun _ hx => rowOf_congr hb hr hx,
    fun j hj => (lens_congr hb hn hj).trans (h.2.2 j hj)⟩
end Pieces

variable (fD : (d : Dev nD) → Buf (Elt F) (dLoc d)) (fS : (d : Dev nD) → Buf (Elt F) (sLoc d))
variable (w : (d : Dev nD) → Buf (Elt F) (wLoc d)) (r : (d : Dev nD) → Buf (Elt F) (rLoc d)) (n : (d : Dev nD) → Buf (Elt F) (nLoc d))

/-- The words of the target column, and of the source column. -/
def tgt (d : Dev nD) : ℕ → BitVec 32 := rd (n := 320000) (fD d)
def srcw (d : Dev nD) : ℕ → BitVec 32 := rd (n := 320000) (fS d)

/-- The share of the edge columns that task `i` reads. -/
abbrev part (L : grid0.Coords) : PosShare TreeShare := ShareLeaves.leaf 5 fullShare (⟨wid L, wid_lt L⟩ : Fin (2 ^ 5))

/-- What a task is handed. -/
def goP (d : Dev nD) (L : grid0.Coords) : sProp (MM F) :=
  iprop((dLoc d ↦{part L} fD d) ∗ (sLoc d ↦{part L} fS d)
    ∗ (wLoc d ↦[rows (wid L)]{fullShare} w d) ∗ (rLoc d ↦[rows (wid L)]{fullShare} r d) ∗ (nLoc d ↦[lens2 (wid L)]{fullShare} n d))

/-- What a task has done: both its blocks. -/
def Did (d : Dev nD) (k : ℕ) (p : Buf (Elt F) (wLoc d) × Buf (Elt F) (rLoc d) × Buf (Elt F) (nLoc d)) : Prop :=
  Done (tgt fD d) (srcw fS d) (2 * k) p.1 p.2.1 p.2.2 ∧ Done (tgt fD d) (srcw fS d) (2 * k + 1) p.1 p.2.1 p.2.2

/-- What a task hands back. -/
def tdP (d : Dev nD) (L : grid0.Coords) : sProp (MM F) :=
  iprop(∃ p : Buf (Elt F) (wLoc d) × Buf (Elt F) (rLoc d) × Buf (Elt F) (nLoc d), ⌜Did fD fS d (wid L) p⌝
    ∗ (wLoc d ↦[rows (wid L)]{fullShare} p.1) ∗ (rLoc d ↦[rows (wid L)]{fullShare} p.2.1) ∗ (nLoc d ↦[lens2 (wid L)]{fullShare} p.2.2))

/-- Two contents on two rows are one contents on both. -/
theorem join_rows {ℓ : Loc nD τ sig} {I J : Finset (Idx ℓ)} (h : Disjoint I J) (f g : Buf (Elt F) ℓ) :
    (iprop((ℓ ↦[I]{fullShare} f) ∗ (ℓ ↦[J]{fullShare} g)) : sProp (MM F))
      ⊢ iprop(∃ k : Buf (Elt F) ℓ, ⌜(∀ i ∈ I, k i = f i) ∧ ∀ i ∈ J, k i = g i⌝ ∗ ℓ ↦[I ∪ J]{fullShare} k) := by
  classical
  have e1 : ∀ i ∈ I, (if i ∈ I then f i else g i) = f i := fun i hi => if_pos hi
  have e2 : ∀ i ∈ J, (if i ∈ I then f i else g i) = g i := fun i hi => if_neg fun hi' => Finset.disjoint_left.1 h hi' hi
  rw [← pointsTo_congr (f := fun i => if i ∈ I then f i else g i) (g := f) e1, ← pointsTo_congr (f := fun i => if i ∈ I then f i else g i) (g := g) e2]
  iintro ⟨H1, H2⟩
  iexists (fun i => if i ∈ I then f i else g i)
  isplitr
  · ipureintro; exact ⟨e1, e2⟩
  iapply (pointsTo_union h).2
  isplitl [H1]; · iexact H1
  iexact H2

/-- The task at coordinates `L`, as the launch runs it. -/
theorem tile_body (hF : (K (F := F)).Facts) (d : Dev nD) (L : grid0.Coords) (O : CellTallies nD τ sig (HIx 1)) (W : Waits sig (HIx 1)) (hO : ∀ g, O g none = 0) :
    (iprop(levAts (K (F := F)).L (K (F := F)).lev ∗ emp ∗ goP fD fS w r n d L
        ∗ scopedBufs (thr d L) ∗ scopedSems0 (thr d L) ∗ owes (thr d L) O W) : sProp (MM F))
      ⊢ wp frame (wpE (defs₀ (F := F)) 𝒱₀ (thr d L) none) Set.univ
        (cc0__s0_body L mD (Memref.isWhole_whole _) mS (Memref.isWhole_whole _) mW (Memref.isWhole_whole _) mR (Memref.isWhole_whole _) mN (Memref.isWhole_whole _) bD (Memref.isWhole_whole _) bS (Memref.isWhole_whole _) gW0 (Memref.isWhole_whole _) gW1 (Memref.isWhole_whole _) gS0 (Memref.isWhole_whole _) gS1 (Memref.isWhole_whole _) bN (Memref.isWhole_whole _)
        cc0_scoped0 cc0_scoped1 cc0_scoped2 cc0_scoped3 cc0_scoped4 cc0_scoped5 cc0_scoped6 cc0_scoped7 cc0_scoped8 cc0_scoped9 cc0_scoped10 cc0_scoped11)
        fun _ => iprop(tdP fD fS d L ∗ scopedBufs (thr d L) ∗ scopedSems0 (thr d L)
          ∗ ∃ W', ⌜∀ p ∈ W', p ∈ W ∨ p.2 = none ∨ p.2 = some (0 : Fin 1)⌝ ∗ owes (thr d L) O W') := by
  rw [(K (F := F)).scopedBufs_V hF d (cV L) (jV L), SparseCore.Cfg.scopedSems0_V (Val := Elt F) d (cV L) (jV L), ownSems0_V, ownBufs_V]
  have hd : Disjoint (row (2 * wid L)) (row (2 * wid L + 1)) := row_disj (by omega)
  have hn : Disjoint (lens (2 * wid L)) (lens (2 * wid L + 1)) := lens_disj (by omega)
  have hk := wid_lt L
  unfold goP rows lens2
  iintro ⟨#Hlv, -, ⟨HD, HS, Hw, Hr, Hn⟩, ⟨H7, H8, H9, H10, H11, H12, H13, Hbufs⟩, ⟨Hs0, Hs1, Hs2, Hs3, Hs4, Hs5, Hs6, Hs7, Hs8, Hs9, Hs10, Hs11, Hsems⟩, HO⟩
  ihave Hmw := (show levAts (K (F := F)).L (K (F := F)).lev ⊢ Transfers.MayWaits (thr d L) (default : HIx 1) O from
    (K (F := F)).mayWaits_none (thr := thr d L) hO) $$ Hlv
  ihave Hw' := (pointsTo_union (Val := Elt F) hd).1 $$ Hw
  icases Hw' with ⟨Hw0, Hw1⟩
  ihave Hr' := (pointsTo_union (Val := Elt F) hd).1 $$ Hr
  icases Hr' with ⟨Hr0, Hr1⟩
  ihave Hn' := (pointsTo_union (Val := Elt F) hn).1 $$ Hn
  icases Hn' with ⟨Hn0, Hn1⟩
  ihave Hrun := (body_run (F := F) (tgt fD d) (srcw fS d) d L O W (part L) (fD d) (fS d) (w d) (w d) (r d) (r d) (n d) (n d)
    (fun _ _ => rfl) (fun _ _ => rfl)) $$ [Hmw HD HS Hw0 Hw1 Hr0 Hr1 Hn0 Hn1 H7 H8 H9 H10 H11 H12 H13 Hs0 Hs1 Hs2 Hs3 Hs4 Hs5 Hs6 Hs7 Hs8 Hs9 Hs10 Hs11 HO]
  · isplitl [Hmw]; · iexact Hmw
    isplitl [HD]; · iexact HD
    isplitl [HS]; · iexact HS
    isplitl [Hw0 Hw1 Hr0 Hr1 Hn0 Hn1]
    · isplitl [Hw0]; · iexact Hw0
      isplitl [Hw1]; · iexact Hw1
      isplitl [Hr0]; · iexact Hr0
      isplitl [Hr1]; · iexact Hr1
      isplitl [Hn0]; · iexact Hn0
      iexact Hn1
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [Hs0 Hs1 Hs2 Hs3 Hs4 Hs5 Hs6 Hs7 Hs8 Hs9 Hs10 Hs11]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      iexact Hs11
    iexact HO
  iapply (wp_wand_r frame (wpE (defs₀ (F := F)) 𝒱₀ (thr d L) none) Set.univ)
  isplitl [Hrun]; · iexact Hrun
  iintro %_ ⟨⟨%w0, %w1, %r0, %r1, %n0, %n1, %hdone, Hw0, Hw1, Hr0, Hr1, Hn0, Hn1⟩, H7, H8, H9, H10, H11, H12, H13, ⟨Hs0, Hs1, Hs2, Hs3, Hs4, Hs5, Hs6, Hs7, Hs8, Hs9, Hs10, Hs11⟩, %W', %hW', HO⟩
  ihave Hw := (join_rows (F := F) (ℓ := wLoc d) hd w0 w1) $$ [Hw0 Hw1]
  · isplitl [Hw0]; · iexact Hw0
    iexact Hw1
  icases Hw with ⟨%kw, %hkw, Hw⟩
  ihave Hr := (join_rows (F := F) (ℓ := rLoc d) hd r0 r1) $$ [Hr0 Hr1]
  · isplitl [Hr0]; · iexact Hr0
    iexact Hr1
  icases Hr with ⟨%kr, %hkr, Hr⟩
  ihave Hn := (join_rows (F := F) (ℓ := nLoc d) hn n0 n1) $$ [Hn0 Hn1]
  · isplitl [Hn0]; · iexact Hn0
    iexact Hn1
  icases Hn with ⟨%kn, %hkn, Hn⟩
  isplitl [Hw Hr Hn]
  · unfold tdP rows lens2
    iexists (kw, kr, kn)
    isplitr
    · ipureintro
      exact ⟨hdone.1.congr _ _ (by omega) hkw.1 hkr.1 hkn.1, hdone.2.congr _ _ (by omega) hkw.2 hkr.2 hkn.2⟩
    isplitl [Hw]; · iexact Hw
    isplitl [Hr]; · iexact Hr
    iexact Hn
  isplitl [H7 H8 H9 H10 H11 H12 H13 Hbufs]
  · isplitl [H7]; · iexact H7
    isplitl [H8]; · iexact H8
    isplitl [H9]; · iexact H9
    isplitl [H10]; · iexact H10
    isplitl [H11]; · iexact H11
    isplitl [H12]; · iexact H12
    isplitl [H13]; · iexact H13
    iexact Hbufs
  isplitl [Hs0 Hs1 Hs2 Hs3 Hs4 Hs5 Hs6 Hs7 Hs8 Hs9 Hs10 Hs11 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    iexact Hsems
  iexists W'
  isplitr
  · ipureintro
    exact fun p hp => (hW' p hp).imp_right .inl
  iexact HO

end Cert.Proof.Lists

end
-- ==== Proof.Launch.lean ====
/-
  The whole run: the host's slices of the edges, the call on the 32 vector subcores, each given its share of the edges
  and its two blocks' rows, the rows taken back and joined, and the host's masking of the tails behind the lists.
-/
module

public import proofs.«01_k».proof.Proof.Task

@[expose] public section

noncomputable section

namespace Cert.Proof.Lists

open Cert.KernelIdeal Cert.KernelIdeal.Gen Cert.Proof.Spec Cert.Proof.Rows Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Routing (shape1)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo

variable {F : FTy → Type} [FloatOps F]

/-! ## The obligation of a task -/

/-- The coordinates of a task, from its core's and its subcore's numbers. -/
def coordsV (c : Fin (grid0.bound 0)) (s : Fin (grid0.bound 1)) : grid0.Coords :=
  fun | 0 => c | 1 => s | ⟨_ + 2, h⟩ => absurd h (Nat.not_lt.2 (Nat.le_add_left _ _))

/-- The coordinates of the launch's task `i` on core `c`. -/
abbrev LL (c : Fin ((K (F := F)).nCore 0)) (i : Fin ((K (F := F)).nSub 0)) : grid0.Coords :=
  coordsV ⟨((K (F := F)).core 0 c).val, c.isLt⟩ ⟨((K (F := F)).sub 0 i).val, i.isLt⟩

section Launch

variable (fD : (d : Dev nD) → Buf (Elt F) (dLoc d)) (fS : (d : Dev nD) → Buf (Elt F) (sLoc d))
variable (w : (d : Dev nD) → Buf (Elt F) (wLoc d)) (r : (d : Dev nD) → Buf (Elt F) (rLoc d)) (n : (d : Dev nD) → Buf (Elt F) (nLoc d))

/-- What the call hands each task, and what it brings back; a core's are its tasks' together. -/
def P : (K (F := F)).Pay (nD := nD) (Val := Elt F) (Name := ℕ) (U := UU) where
  st := fun q d c => match q, c with | 0, c => bigSep Finset.univ fun i : Fin ((K (F := F)).nSub 0) => goP fD fS w r n d (LL c i)
  dn := fun q d c => match q, c with | 0, c => bigSep Finset.univ fun i : Fin ((K (F := F)).nSub 0) => tdP fD fS d (LL c i)
  go := fun q d c i => match q, c, i with | 0, c, i => goP fD fS w r n d (LL c i)
  td := fun q d c i => match q, c, i with | 0, c, i => tdP fD fS d (LL c i)
  x := fun _ _ => iprop(emp)

instance goP_storable (d : Dev nD) (L : grid0.Coords) : BI.Storable (upEmb : UEmb _ (MM F)) (goP fD fS w r n d L) := by
  unfold goP; infer_instance

instance tdP_storable (d : Dev nD) (L : grid0.Coords) : BI.Storable (upEmb : UEmb _ (MM F)) (tdP fD fS d L) := by
  unfold tdP; infer_instance

instance P_storable : (P fD fS w r n).IsStorable where
  st q d c := match q, c with | 0, c => (inferInstance : BI.Storable (upEmb : UEmb _ (MM F)) (bigSep Finset.univ fun i : Fin ((K (F := F)).nSub 0) => goP fD fS w r n d (LL c i)))
  dn q d c := match q, c with | 0, c => (inferInstance : BI.Storable (upEmb : UEmb _ (MM F)) (bigSep Finset.univ fun i : Fin ((K (F := F)).nSub 0) => tdP fD fS d (LL c i)))
  go q d c i := match q, c, i with | 0, c, i => goP_storable fD fS w r n d (LL c i)
  td q d c i := match q, c, i with | 0, c, i => tdP_storable fD fS d (LL c i)

theorem defs₀_vector (c : Fin τ.nSC) (s : Fin τ.nSub) :
    defs₀ (F := F) (.scVector c s) 0 ()
      = SparseCore.onTile hcore0 hsub0 (fun c s => cc0__s0_body (coordsV c s) mD (Memref.isWhole_whole _) mS (Memref.isWhole_whole _) mW (Memref.isWhole_whole _) mR (Memref.isWhole_whole _) mN (Memref.isWhole_whole _) bD (Memref.isWhole_whole _) bS (Memref.isWhole_whole _) gW0 (Memref.isWhole_whole _) gW1 (Memref.isWhole_whole _) gS0 (Memref.isWhole_whole _) gS1 (Memref.isWhole_whole _) bN (Memref.isWhole_whole _)
        cc0_scoped0 cc0_scoped1 cc0_scoped2 cc0_scoped3 cc0_scoped4 cc0_scoped5 cc0_scoped6 cc0_scoped7 cc0_scoped8 cc0_scoped9 cc0_scoped10 cc0_scoped11) ⟨⟩ c s := rfl

/-- Every task runs from what it is handed to what it brings back. -/
theorem tileObl (hF : (K (F := F)).Facts) : (K (F := F)).TileObl (D (F := F)) 𝒱 (P fD fS w r n) v₀ 0 := by
  intro d c i O W hO _ _
  simp only [show (P fD fS w r n).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body fD fS w r n hF d (LL c i) O W hO

/-- A core's hand-out is its tasks', and so is what it hands back. -/
theorem vecSplit : (K (F := F)).VecSplit' (P fD fS w r n) 0 := by
  intro d c
  show (bigSep Finset.univ fun i : Fin ((K (F := F)).nSub 0) => goP fD fS w r n d (LL c i)) ⊢ |={Set.univ}=> iprop(
    (bigSep Finset.univ fun i : Fin ((K (F := F)).nSub 0) => goP fD fS w r n d (LL c i))
    ∗ ((bigSep Finset.univ fun i : Fin ((K (F := F)).nSub 0) => tdP fD fS d (LL c i)) -∗ bigSep Finset.univ fun i : Fin ((K (F := F)).nSub 0) => tdP fD fS d (LL c i)))
  iintro H; imodintro
  isplitl [H]; · iexact H
  iintro H; iexact H

/-! ## Handing out the 32 tasks' parts -/

/-- Core `c`'s subcore `i` takes task `2 * i + c`. -/
def task : Fin 2 × Fin 16 ≃ Fin (2 ^ 5) where
  toFun p := ⟨2 * p.2.val + p.1.val, by have := p.1.isLt; have := p.2.isLt; omega⟩
  invFun k := (⟨k.val % 2, Nat.mod_lt _ (by omega)⟩, ⟨k.val / 2, by have := k.isLt; omega⟩)
  left_inv p := by
    have := p.1.isLt
    exact Prod.ext (Fin.ext (show (2 * p.2.val + p.1.val) % 2 = p.1.val by omega)) (Fin.ext (show (2 * p.2.val + p.1.val) / 2 = p.2.val by omega))
  right_inv k := Fin.ext (show 2 * (k.val / 2) + k.val % 2 = k.val by omega)

/-- The tasks one by one are the cores', each its subcores'. -/
theorem deal (Φ : Fin (2 ^ 5) → sProp (MM F)) :
    bigSep Finset.univ Φ = bigSep Finset.univ fun c : Fin 2 => bigSep Finset.univ fun i : Fin 16 => Φ (task (c, i)) := by
  rw [bigSep_univ_equiv task Φ, bigSep_univ_prod]

theorem rows_cover : (Finset.univ : Finset (Fin (2 ^ 5))).biUnion (fun k => rows k.val) = Finset.univ := by
  refine Finset.eq_univ_of_forall fun i => ?_
  have hi : (i 0).val < 21004288 := (i 0).isLt
  have hb : (i 0).val / 328192 < 64 := Nat.div_lt_of_lt_mul hi
  have hm : i ∈ row ((i 0).val / 328192) :=
    mem_row.2 ⟨Nat.div_mul_le_self _ _, by have := Nat.lt_div_mul_add (a := (i 0).val) (b := 328192) (by decide); exact this⟩
  refine Finset.mem_biUnion.2 ⟨⟨(i 0).val / 328192 / 2, by omega⟩, Finset.mem_univ _, ?_⟩
  show i ∈ rows ((i 0).val / 328192 / 2)
  generalize (i 0).val / 328192 = b at hb hm
  unfold rows
  rcases Nat.mod_two_eq_zero_or_one b with h | h
  · exact Finset.mem_union_left _ (by rw [show 2 * (b / 2) = b by omega]; exact hm)
  · exact Finset.mem_union_right _ (by rw [show 2 * (b / 2) + 1 = b by omega]; exact hm)

theorem lens_cover : (Finset.univ : Finset (Fin (2 ^ 5))).biUnion (fun k => lens2 k.val) = Finset.univ := by
  refine Finset.eq_univ_of_forall fun i => ?_
  have hi : (i 0).val < 1024 := (i 0).isLt
  refine Finset.mem_biUnion.2 ⟨⟨(i 0).val / 32, by omega⟩, Finset.mem_univ _, ?_⟩
  show i ∈ lens2 ((i 0).val / 32)
  unfold lens2
  rcases Nat.lt_or_ge ((i 0).val % 32) 16 with h | h
  · exact Finset.mem_union_left _ (mem_lens.2 (by omega))
  · exact Finset.mem_union_right _ (mem_lens.2 (by omega))

theorem rows_disjoint : ∀ i ∈ (Finset.univ : Finset (Fin (2 ^ 5))), ∀ j ∈ (Finset.univ : Finset (Fin (2 ^ 5))), i ≠ j → Disjoint (rows i.val) (rows j.val) := by
  intro i _ j _ h
  have h : i.val ≠ j.val := fun e => h (Fin.ext e)
  unfold rows
  rw [Finset.disjoint_union_left, Finset.disjoint_union_right, Finset.disjoint_union_right]
  exact ⟨⟨row_disj (by omega), row_disj (by omega)⟩, row_disj (by omega), row_disj (by omega)⟩

theorem lens_disjoint : ∀ i ∈ (Finset.univ : Finset (Fin (2 ^ 5))), ∀ j ∈ (Finset.univ : Finset (Fin (2 ^ 5))), i ≠ j → Disjoint (lens2 i.val) (lens2 j.val) := by
  intro i _ j _ h
  have h : i.val ≠ j.val := fun e => h (Fin.ext e)
  unfold lens2
  rw [Finset.disjoint_union_left, Finset.disjoint_union_right, Finset.disjoint_union_right]
  exact ⟨⟨lens_disj (by omega), lens_disj (by omega)⟩, lens_disj (by omega), lens_disj (by omega)⟩

/-- What task `k` is handed. -/
def goK (d : Dev nD) (k : Fin (2 ^ 5)) : sProp (MM F) :=
  iprop((dLoc d ↦{ShareLeaves.leaf 5 fullShare k} fD d) ∗ (sLoc d ↦{ShareLeaves.leaf 5 fullShare k} fS d)
    ∗ (wLoc d ↦[rows k.val]{fullShare} w d) ∗ (rLoc d ↦[rows k.val]{fullShare} r d) ∗ (nLoc d ↦[lens2 k.val]{fullShare} n d))

/-- The five buffers whole are the 32 tasks' parts. -/
theorem hand_out (d : Dev nD) :
    (iprop((dLoc d ↦{fullShare} fD d) ∗ (sLoc d ↦{fullShare} fS d) ∗ (wLoc d ↦{fullShare} w d) ∗ (rLoc d ↦{fullShare} r d) ∗ (nLoc d ↦{fullShare} n d)) : sProp (MM F))
      = bigSep Finset.univ fun c : Fin ((K (F := F)).nCore 0) => (P fD fS w r n).st 0 d c := by
  have e : (bigSep Finset.univ fun c : Fin ((K (F := F)).nCore 0) => (P fD fS w r n).st 0 d c)
      = bigSep Finset.univ fun c : Fin 2 => bigSep Finset.univ fun i : Fin 16 => goK fD fS w r n d (task (c, i)) := rfl
  rw [e, ← deal]
  unfold goK
  rw [bigSep_sep', bigSep_sep', bigSep_sep', bigSep_sep', ← ShareLeaves.pointsTo_leaves, ← ShareLeaves.pointsTo_leaves,
    ← pointsTo_biUnion Finset.univ (ℓ := wLoc d) (fun k : Fin (2 ^ 5) => rows k.val) rows_disjoint,
    ← pointsTo_biUnion Finset.univ (ℓ := rLoc d) (fun k : Fin (2 ^ 5) => rows k.val) rows_disjoint,
    ← pointsTo_biUnion Finset.univ (ℓ := nLoc d) (fun k : Fin (2 ^ 5) => lens2 k.val) lens_disjoint]
  have hc := rows_cover
  have hl := lens_cover
  rw [hc, hl]

/-- The three results as the tasks leave them: every block done. -/
def AllDone (d : Dev nD) (p : Buf (Elt F) (wLoc d) × Buf (Elt F) (rLoc d) × Buf (Elt F) (nLoc d)) : Prop :=
  ∀ b, b < 64 → Done (tgt fD d) (srcw fS d) b p.1 p.2.1 p.2.2

/-- What task `k` brings back. -/
def tdK (d : Dev nD) (k : Fin (2 ^ 5)) : sProp (MM F) :=
  iprop(∃ p : Buf (Elt F) (wLoc d) × Buf (Elt F) (rLoc d) × Buf (Elt F) (nLoc d), ⌜Did fD fS d k.val p⌝
    ∗ (wLoc d ↦[rows k.val]{fullShare} p.1) ∗ (rLoc d ↦[rows k.val]{fullShare} p.2.1) ∗ (nLoc d ↦[lens2 k.val]{fullShare} p.2.2))

/-- What the tasks bring back is the three results whole, every block done. -/
theorem take_back (d : Dev nD) :
    (bigSep Finset.univ fun c : Fin ((K (F := F)).nCore 0) => (P fD fS w r n).dn 0 d c)
      ⊢ (iprop(∃ p : Buf (Elt F) (wLoc d) × Buf (Elt F) (rLoc d) × Buf (Elt F) (nLoc d), ⌜AllDone fD fS d p⌝
        ∗ (wLoc d ↦{fullShare} p.1) ∗ (rLoc d ↦{fullShare} p.2.1) ∗ (nLoc d ↦{fullShare} p.2.2)) : sProp (MM F)) := by
  have : Nonempty (Buf (Elt F) (wLoc d) × Buf (Elt F) (rLoc d) × Buf (Elt F) (nLoc d)) := ⟨(w d, r d, n d)⟩
  have e : (bigSep Finset.univ fun c : Fin ((K (F := F)).nCore 0) => (P fD fS w r n).dn 0 d c)
      = bigSep Finset.univ fun c : Fin 2 => bigSep Finset.univ fun i : Fin 16 =>
        tdK fD fS d (task (c, i)) := rfl
  rw [e, ← deal]
  unfold tdK
  refine (bigSep_exists_pi Finset.univ (fun (k : Fin (2 ^ 5)) (p : Buf (Elt F) (wLoc d) × Buf (Elt F) (rLoc d) × Buf (Elt F) (nLoc d)) =>
    (iprop(⌜Did fD fS d k.val p⌝ ∗ (wLoc d ↦[rows k.val]{fullShare} p.1) ∗ (rLoc d ↦[rows k.val]{fullShare} p.2.1) ∗ (nLoc d ↦[lens2 k.val]{fullShare} p.2.2)) : sProp (MM F)))).trans ?_
  iintro ⟨%ps, H⟩
  ihave H' := (bigSep_pure_sep Finset.univ (fun k : Fin (2 ^ 5) => Did fD fS d k.val (ps k)) (fun k : Fin (2 ^ 5) =>
    (iprop((wLoc d ↦[rows k.val]{fullShare} (ps k).1) ∗ (rLoc d ↦[rows k.val]{fullShare} (ps k).2.1) ∗ (nLoc d ↦[lens2 k.val]{fullShare} (ps k).2.2)) : sProp (MM F)))) $$ H
  icases H' with ⟨%hd, H⟩
  ihave H := (Entails.of_eq (bigSep_sep' Finset.univ (fun k : Fin (2 ^ 5) => (wLoc d ↦[rows k.val]{fullShare} (ps k).1 : sProp (MM F)))
    (fun k : Fin (2 ^ 5) => (iprop((rLoc d ↦[rows k.val]{fullShare} (ps k).2.1) ∗ (nLoc d ↦[lens2 k.val]{fullShare} (ps k).2.2)) : sProp (MM F))))) $$ H
  icases H with ⟨Hw, H⟩
  ihave H := (Entails.of_eq (bigSep_sep' Finset.univ (fun k : Fin (2 ^ 5) => (rLoc d ↦[rows k.val]{fullShare} (ps k).2.1 : sProp (MM F)))
    (fun k : Fin (2 ^ 5) => (nLoc d ↦[lens2 k.val]{fullShare} (ps k).2.2 : sProp (MM F))))) $$ H
  icases H with ⟨Hr, Hn⟩
  ihave Hw := (pointsTo_biUnion_join (ℓ := wLoc d) (q := fullShare) (Val := Elt F) Finset.univ (fun k : Fin (2 ^ 5) => rows k.val) (fun k => (ps k).1) (w d) rows_disjoint) $$ Hw
  icases Hw with ⟨%gw, %hgw, Hw⟩
  ihave Hr := (pointsTo_biUnion_join (ℓ := rLoc d) (q := fullShare) (Val := Elt F) Finset.univ (fun k : Fin (2 ^ 5) => rows k.val) (fun k => (ps k).2.1) (r d) rows_disjoint) $$ Hr
  icases Hr with ⟨%gr, %hgr, Hr⟩
  ihave Hn := (pointsTo_biUnion_join (ℓ := nLoc d) (q := fullShare) (Val := Elt F) Finset.univ (fun k : Fin (2 ^ 5) => lens2 k.val) (fun k => (ps k).2.2) (n d) lens_disjoint) $$ Hn
  icases Hn with ⟨%gn, %hgn, Hn⟩
  have hc := rows_cover
  have hl := lens_cover
  rw [hc, hl]
  iexists (gw, gr, gn)
  isplitr
  · ipureintro
    intro b hb
    have hk : b / 2 < 2 ^ 5 := by omega
    have hdid := hd ⟨b / 2, hk⟩ (Finset.mem_univ _)
    have ew := hgw ⟨b / 2, hk⟩ (Finset.mem_univ _)
    have er := hgr ⟨b / 2, hk⟩ (Finset.mem_univ _)
    have en := hgn ⟨b / 2, hk⟩ (Finset.mem_univ _)
    rcases Nat.mod_two_eq_zero_or_one b with h | h
    · have e : 2 * (b / 2) = b := by omega
      have h1 := hdid.1.congr _ _ (by show 2 * (b / 2) < 64; omega) (fun i hi => ew i (Finset.mem_union_left _ hi))
        (fun i hi => er i (Finset.mem_union_left _ hi)) (fun i hi => en i (Finset.mem_union_left _ hi))
      exact e ▸ h1
    · have e : 2 * (b / 2) + 1 = b := by omega
      have h1 := hdid.2.congr _ _ (by show 2 * (b / 2) + 1 < 64; omega) (fun i hi => ew i (Finset.mem_union_right _ hi))
        (fun i hi => er i (Finset.mem_union_right _ hi)) (fun i hi => en i (Finset.mem_union_right _ hi))
      exact e ▸ h1
  isplitl [Hw]; · iexact Hw
  isplitl [Hr]; · iexact Hr
  iexact Hn

/-! ## The launch's element -/

def u₀ : UU := (initOf (K (F := F)).hsCells (K (F := F)).hsToks, 1)

theorem bigSep_nothing {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P fD fS w r n).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P fD fS w r n).x q thr) = bigSep Finset.univ fun _ => iprop(emp) from
    bigSep_congr fun _ _ => bigSep_univ_of_subsingleton (0 : Fin 1), bigSep_nothing]
  iempintro

end Launch

/-! ## The host's lines -/

/-- The host's operations before the call. -/
def hostA : List (HloOp τ sig (Elt F)) := [
    unary main_arg0 main_v0 ((extractStridedSlice S1x320000 ![1, 0] · slices_S2x320000_S1x320000_1_0) : (⟨S2x320000, .i32⟩ : BufTy).Contents (Elt F) → (⟨S1x320000, .i32⟩ : BufTy).Contents (Elt F)),
    reshape main_v0 main_v1 (rfl : (.i32 : EltTy) = .i32) shapeCasts_S1x320000_S320000,
    unary main_arg0 main_v2 ((extractStridedSlice S1x320000 ![0, 0] · slices_S2x320000_S1x320000_0_0) : (⟨S2x320000, .i32⟩ : BufTy).Contents (Elt F) → (⟨S1x320000, .i32⟩ : BufTy).Contents (Elt F)),
    reshape main_v2 main_v3 (rfl : (.i32 : EltTy) = .i32) shapeCasts_S1x320000_S320000]

/-- The host's operations after the call. -/
def hostB : List (HloOp τ sig (Elt F)) := [
    reshape main_v4_2 main_v5 (rfl : (.i32 : EltTy) = .i32) shapeCasts_S1024_S64x16,
    nullary main_v6 (iotaInDim S328192 32 0),
    unary main_v6 main_v7 (broadcastInDim S1x328192 ![1] bcast_S328192_S1x328192_1 : (⟨S328192, .i32⟩ : BufTy).Contents (Elt F) → (⟨S1x328192, .i32⟩ : BufTy).Contents (Elt F)),
    unary main_v5 main_v8 ((extractStridedSlice S64x1 ![0, 0] · slices_S64x16_S64x1_0_0) : (⟨S64x16, .i32⟩ : BufTy).Contents (Elt F) → (⟨S64x1, .i32⟩ : BufTy).Contents (Elt F)),
    nullary main_c (constantI S_ 32 4032#32),
    unary main_c main_v9 (broadcastInDim S64x1 ![] bcast_S_S64x1 : (⟨S_, .i32⟩ : BufTy).Contents (Elt F) → (⟨S64x1, .i32⟩ : BufTy).Contents (Elt F)),
    binary main_v8 main_v9 main_v10 (addi : (⟨S64x1, .i32⟩ : BufTy).Contents (Elt F) → (⟨S64x1, .i32⟩ : BufTy).Contents (Elt F) → (⟨S64x1, .i32⟩ : BufTy).Contents (Elt F)),
    unary main_v7 main_v11 (broadcastInDim S64x328192 ![0, 1] bcast_S1x328192_S64x328192_0_1 : (⟨S1x328192, .i32⟩ : BufTy).Contents (Elt F) → (⟨S64x328192, .i32⟩ : BufTy).Contents (Elt F)),
    unary main_v10 main_v12 (broadcastInDim S64x328192 ![0, 1] bcast_S64x1_S64x328192_0_1 : (⟨S64x1, .i32⟩ : BufTy).Contents (Elt F) → (⟨S64x328192, .i32⟩ : BufTy).Contents (Elt F)),
    binary main_v11 main_v12 main_v13 (cmpi .slt : (⟨S64x328192, .i32⟩ : BufTy).Contents (Elt F) → (⟨S64x328192, .i32⟩ : BufTy).Contents (Elt F) → (⟨S64x328192, .i1⟩ : BufTy).Contents (Elt F)),
    reshape main_v4_0 main_v14 (rfl : (.i32 : EltTy) = .i32) shapeCasts_S21004288_S64x328192,
    nullary main_c_0 (constantI S_ 32 0#32),
    TRef.unary (TRef.of (T := ⟨S_, .i32⟩) main_c_0) (TRef.of (T := ⟨S_, .i32⟩) main_call0_v0) id,
    TRef.unary (TRef.of (T := ⟨S_, .i32⟩) main_call0_v0) (TRef.of (T := ⟨S64x328192, .i32⟩) main_call0_v1) (broadcastInDim S64x328192 ![] bcast_S_S64x328192),
    TRef.ternary (TRef.of (T := ⟨S64x328192, .i1⟩) main_v13) (TRef.of (T := ⟨S64x328192, .i32⟩) main_v14) (TRef.of (T := ⟨S64x328192, .i32⟩) main_call0_v1) (TRef.of (T := ⟨S64x328192, .i32⟩) main_v15) select,
    reshape main_v4_1 main_v16 (rfl : (.i32 : EltTy) = .i32) shapeCasts_S21004288_S64x328192,
    nullary main_c_1 (constantI S_ 32 0#32),
    TRef.unary (TRef.of (T := ⟨S_, .i32⟩) main_c_1) (TRef.of (T := ⟨S_, .i32⟩) main_call1_v0) id,
    TRef.unary (TRef.of (T := ⟨S_, .i32⟩) main_call1_v0) (TRef.of (T := ⟨S64x328192, .i32⟩) main_call1_v1) (broadcastInDim S64x328192 ![] bcast_S_S64x328192),
    TRef.ternary (TRef.of (T := ⟨S64x328192, .i1⟩) main_v13) (TRef.of (T := ⟨S64x328192, .i32⟩) main_v16) (TRef.of (T := ⟨S64x328192, .i32⟩) main_call1_v1) (TRef.of (T := ⟨S64x328192, .i32⟩) main_v17) select]

theorem main_eq (d : Dev nD) : main (F := F) d = (seq hostA >>= fun _ => (K (F := F)).run d 0 >>= fun _ => seq hostB >>= fun u => pure u) := rfl

-- the buffers of the call, on a device
abbrev d' : DevRef τ sig := Proc.devRef .tc (main_v1 : Ref sig .tc)
abbrev s' : DevRef τ sig := Proc.devRef .tc (main_v3 : Ref sig .tc)
abbrev w' : DevRef τ sig := Proc.devRef .tc (main_v4_0 : Ref sig .tc)
abbrev r' : DevRef τ sig := Proc.devRef .tc (main_v4_1 : Ref sig .tc)
abbrev n' : DevRef τ sig := Proc.devRef .tc (main_v4_2 : Ref sig .tc)

/-- The buffers the call takes, and those of them it brings back. -/
abbrev S5 : Finset (DevRef τ sig) := {d', s', w', r', n'}
abbrev S3 : Finset (DevRef τ sig) := {w', r', n'}
/-- What the host holds after the call. -/
abbrev Sb : Finset (DevRef τ sig) := tcRefs τ sig \ {d', s'}

theorem S5_sub : S5 ⊆ tcRefs τ sig := by
  intro b hb
  simp only [S5, Finset.mem_insert, Finset.mem_singleton] at hb
  rcases hb with h | h | h | h | h <;> subst h <;> exact devRef_mem_tcRefs _

theorem hostA_sub : ∀ op ∈ (hostA : List (HloOp τ sig (Elt F))), op.bufs ⊆ tcRefs τ sig :=
  List.forall_iff_forall_mem.1 (show (hostA : List (HloOp τ sig (Elt F))).Forall fun op => op.bufs ⊆ tcRefs τ sig from
    ⟨unary_bufs_sub .., reshape_bufs_sub .., unary_bufs_sub .., reshape_bufs_sub ..⟩)

theorem hostA_fresh : ∀ op ∈ (hostA : List (HloOp τ sig (Elt F))), op.fresh = ∅ :=
  List.forall_iff_forall_mem.1 (show (hostA : List (HloOp τ sig (Elt F))).Forall fun op => op.fresh = ∅ from ⟨rfl, rfl, rfl, rfl⟩)

theorem hostB_fresh : ∀ op ∈ (hostB : List (HloOp τ sig (Elt F))), op.fresh = ∅ :=
  List.forall_iff_forall_mem.1 (show (hostB : List (HloOp τ sig (Elt F))).Forall fun op => op.fresh = ∅ from ⟨rfl, rfl, rfl, rfl, rfl, rfl, rfl, rfl, rfl, rfl, rfl, rfl, rfl, rfl, rfl, rfl, rfl, rfl, rfl, rfl⟩)

theorem hostB_tc : ∀ op ∈ (hostB : List (HloOp τ sig (Elt F))), op.bufs ⊆ tcRefs τ sig :=
  List.forall_iff_forall_mem.1 (show (hostB : List (HloOp τ sig (Elt F))).Forall fun op => op.bufs ⊆ tcRefs τ sig from
    ⟨reshape_bufs_sub .., nullary_bufs_sub .., unary_bufs_sub .., unary_bufs_sub .., nullary_bufs_sub .., unary_bufs_sub .., binary_bufs_sub .., unary_bufs_sub .., unary_bufs_sub .., binary_bufs_sub .., reshape_bufs_sub .., nullary_bufs_sub .., unary_bufs_sub .., unary_bufs_sub .., ternary_bufs_sub .., reshape_bufs_sub .., nullary_bufs_sub .., unary_bufs_sub .., unary_bufs_sub .., ternary_bufs_sub ..⟩)

theorem hostB_off : ∀ op ∈ (hostB : List (HloOp τ sig (Elt F))), Disjoint op.bufs ({d', s'} : Finset (DevRef τ sig)) :=
  List.forall_iff_forall_mem.1 (show (hostB : List (HloOp τ sig (Elt F))).Forall fun op => Disjoint op.bufs ({d', s'} : Finset (DevRef τ sig)) from
    ⟨(show Disjoint ({Proc.devRef .tc main_v4_2, Proc.devRef .tc main_v5} : Finset (DevRef τ sig)) {d', s'} by decide),
    (show Disjoint ({Proc.devRef .tc main_v6} : Finset (DevRef τ sig)) {d', s'} by decide),
    (show Disjoint ({Proc.devRef .tc main_v6, Proc.devRef .tc main_v7} : Finset (DevRef τ sig)) {d', s'} by decide),
    (show Disjoint ({Proc.devRef .tc main_v5, Proc.devRef .tc main_v8} : Finset (DevRef τ sig)) {d', s'} by decide),
    (show Disjoint ({Proc.devRef .tc main_c} : Finset (DevRef τ sig)) {d', s'} by decide),
    (show Disjoint ({Proc.devRef .tc main_c, Proc.devRef .tc main_v9} : Finset (DevRef τ sig)) {d', s'} by decide),
    (show Disjoint ({Proc.devRef .tc main_v8, Proc.devRef .tc main_v9, Proc.devRef .tc main_v10} : Finset (DevRef τ sig)) {d', s'} by decide),
    (show Disjoint ({Proc.devRef .tc main_v7, Proc.devRef .tc main_v11} : Finset (DevRef τ sig)) {d', s'} by decide),
    (show Disjoint ({Proc.devRef .tc main_v10, Proc.devRef .tc main_v12} : Finset (DevRef τ sig)) {d', s'} by decide),
    (show Disjoint ({Proc.devRef .tc main_v11, Proc.devRef .tc main_v12, Proc.devRef .tc main_v13} : Finset (DevRef τ sig)) {d', s'} by decide),
    (show Disjoint ({Proc.devRef .tc main_v4_0, Proc.devRef .tc main_v14} : Finset (DevRef τ sig)) {d', s'} by decide),
    (show Disjoint ({Proc.devRef .tc main_c_0} : Finset (DevRef τ sig)) {d', s'} by decide),
    (show Disjoint ({Proc.devRef .tc main_c_0, Proc.devRef .tc main_call0_v0} : Finset (DevRef τ sig)) {d', s'} by decide),
    (show Disjoint ({Proc.devRef .tc main_call0_v0, Proc.devRef .tc main_call0_v1} : Finset (DevRef τ sig)) {d', s'} by decide),
    (show Disjoint ({Proc.devRef .tc main_v13, Proc.devRef .tc main_v14, Proc.devRef .tc main_call0_v1, Proc.devRef .tc main_v15} : Finset (DevRef τ sig)) {d', s'} by decide),
    (show Disjoint ({Proc.devRef .tc main_v4_1, Proc.devRef .tc main_v16} : Finset (DevRef τ sig)) {d', s'} by decide),
    (show Disjoint ({Proc.devRef .tc main_c_1} : Finset (DevRef τ sig)) {d', s'} by decide),
    (show Disjoint ({Proc.devRef .tc main_c_1, Proc.devRef .tc main_call1_v0} : Finset (DevRef τ sig)) {d', s'} by decide),
    (show Disjoint ({Proc.devRef .tc main_call1_v0, Proc.devRef .tc main_call1_v1} : Finset (DevRef τ sig)) {d', s'} by decide),
    (show Disjoint ({Proc.devRef .tc main_v13, Proc.devRef .tc main_v16, Proc.devRef .tc main_call1_v1, Proc.devRef .tc main_v17} : Finset (DevRef τ sig)) {d', s'} by decide)⟩)

theorem hostB_sub : ∀ op ∈ (hostB : List (HloOp τ sig (Elt F))), op.bufs ⊆ Sb := fun op h =>
  Finset.subset_sdiff.2 ⟨hostB_tc op h, hostB_off op h⟩

/-! ## The run of a device's host thread -/

variable (m : (ℓ : Loc nD τ sig) → Buf (Elt F) ℓ) (ρ : Dev nD → PrngReg)

/-- What the buffers hold when the call starts. -/
def V1 (d : Dev nD) : Valuation τ sig (Elt F) := after hostA fun b => m (d, b)

abbrev fD (d : Dev nD) : Buf (Elt F) (dLoc d) := V1 m d d'
abbrev fS (d : Dev nD) : Buf (Elt F) (sLoc d) := V1 m d s'

/-- The payload of the one call, at the contents it finds. -/
abbrev PM : (K (F := F)).Pay (nD := nD) (Val := Elt F) (Name := ℕ) (U := UU) :=
  P (fun d => V1 m d d') (fun d => V1 m d s') (fun d => V1 m d w') (fun d => V1 m d r') (fun d => V1 m d n')

/-- What the buffers hold when the call has ended, the three results at `p`. -/
def V2 (d : Dev nD) (p : Buf (Elt F) (wLoc d) × Buf (Elt F) (rLoc d) × Buf (Elt F) (nLoc d)) : Valuation τ sig (Elt F) :=
  Function.update (Function.update (Function.update (V1 m d) w' p.1) r' p.2.1) n' p.2.2

theorem V2_w (d : Dev nD) (p) : V2 m d p w' = p.1 := by
  unfold V2
  rw [Function.update_of_ne (show w' ≠ n' by decide), Function.update_of_ne (show w' ≠ r' by decide), Function.update_self]
theorem V2_r (d : Dev nD) (p) : V2 m d p r' = p.2.1 := by
  unfold V2
  rw [Function.update_of_ne (show r' ≠ n' by decide), Function.update_self]
theorem V2_n (d : Dev nD) (p) : V2 m d p n' = p.2.2 := by
  unfold V2
  rw [Function.update_self]
theorem V2_else (d : Dev nD) (p) {b : DevRef τ sig} (hw : b ≠ w') (hr : b ≠ r') (hn : b ≠ n') : V2 m d p b = V1 m d b := by
  unfold V2
  rw [Function.update_of_ne hn, Function.update_of_ne hr, Function.update_of_ne hw]

/-- The five buffers of the call, one by one. -/
theorem held_S5 (d : Dev nD) (V : Valuation τ sig (Elt F)) :
    (held (SparseCore.T d) S5 V : sProp (MM F)) = iprop((dLoc d ↦{fullShare} V d') ∗ (sLoc d ↦{fullShare} V s')
      ∗ (wLoc d ↦{fullShare} V w') ∗ (rLoc d ↦{fullShare} V r') ∗ (nLoc d ↦{fullShare} V n')) := by
  unfold held S5
  rw [SparseCore.bigSep_insert' (by decide), SparseCore.bigSep_insert' (by decide), SparseCore.bigSep_insert' (by decide),
    SparseCore.bigSep_insert' (by decide), bigSep_singleton]

theorem held_S3 (d : Dev nD) (V : Valuation τ sig (Elt F)) :
    (held (SparseCore.T d) S3 V : sProp (MM F)) = iprop((wLoc d ↦{fullShare} V w') ∗ (rLoc d ↦{fullShare} V r') ∗ (nLoc d ↦{fullShare} V n')) := by
  unfold held S3
  rw [SparseCore.bigSep_insert' (by decide), SparseCore.bigSep_insert' (by decide), bigSep_singleton]

theorem unscoped_held (d : Dev nD) : (unscopedBufs d (fun b => m ((SparseCore.T d).loc b)) : sProp (MM F)) = held (SparseCore.T d) (tcRefs τ sig) (fun b => m (d, b)) := by
  unfold unscopedBufs held tcRefs
  rw [show (Finset.univ.filter fun b : Ref sig .tc => ¬ b.isScoped) = Finset.univ by decide, bigSep_map]
  rfl

theorem mem_S3 {b : DevRef τ sig} : b ∈ S3 ↔ b = w' ∨ b = r' ∨ b = n' := by simp [S3]
theorem mem_S5 {b : DevRef τ sig} : b ∈ S5 ↔ b = d' ∨ b = s' ∨ b = w' ∨ b = r' ∨ b = n' := by simp [S5]

theorem S3_sub : S3 ⊆ Sb := by
  intro b hb
  refine Finset.mem_sdiff.2 ⟨S5_sub (mem_S5.2 (.inr (.inr (mem_S3.1 hb)))), ?_⟩
  rcases mem_S3.1 hb with h | h | h <;> subst h <;> decide

theorem Sb_sdiff : Sb \ S3 = tcRefs τ sig \ S5 := by
  ext b
  simp only [Finset.mem_sdiff, mem_S3, mem_S5, Finset.mem_insert, Finset.mem_singleton]
  tauto

/-- After the call the host holds every buffer but the two columns. -/
theorem held_after (d : Dev nD) (p : Buf (Elt F) (wLoc d) × Buf (Elt F) (rLoc d) × Buf (Elt F) (nLoc d)) :
    (iprop(((wLoc d ↦{fullShare} p.1) ∗ (rLoc d ↦{fullShare} p.2.1) ∗ (nLoc d ↦{fullShare} p.2.2)) ∗ held (SparseCore.T d) (tcRefs τ sig \ S5) (V1 m d)) : sProp (MM F))
      = held (SparseCore.T d) Sb (V2 m d p) := by
  have e : (held (SparseCore.T d) (tcRefs τ sig \ S5) (V1 m d) : sProp (MM F)) = held (SparseCore.T d) (tcRefs τ sig \ S5) (V2 m d p) := by
    refine held_congr (SparseCore.T d) fun b hb => (V2_else m d p ?_ ?_ ?_).symm <;>
      (rintro rfl; exact (Finset.mem_sdiff.1 hb).2 (by decide))
  rw [held_sub_split (SparseCore.T d) S3_sub (V2 m d p), held_S3, V2_w, V2_r, V2_n, Sb_sdiff, e]

/-- What the host thread ends with: all it holds, at the lines' results over results of which every block is done. -/
def FIN (d : Dev nD) : sProp (MM F) :=
  iprop(∃ p : Buf (Elt F) (wLoc d) × Buf (Elt F) (rLoc d) × Buf (Elt F) (nLoc d), ⌜AllDone (fun d => V1 m d d') (fun d => V1 m d s') d p⌝
    ∗ held (SparseCore.T d) Sb (after hostB (V2 m d p)))

/-- The host's thread: the lines, the call, the lines. -/
theorem hmain (κ : GSem nD τ sig → ℕ) (d : Dev nD) :
    (iprop((K (F := F)).ctx EH (PM m) κ ∗ (K (F := F)).tcSt EH d 0 ∗ (K (F := F)).tcRes m ρ d ∗ emp) : sProp (MM F))
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d (tcRefs τ sig) (fun _ => (K (F := F)).run d 0 >>= fun _ => seq hostB >>= fun u => pure u) hostA hostA_sub hostA_fresh
    (fun b => m (d, b))) $$ [Hb Hheld]
  · isplitl [Hb]; · iexact Hb
    iexact Hheld
  iintro ⟨Hb, Hheld⟩
  ihave Hh := (Entails.of_eq (show (held d.tc (tcRefs τ sig) (after hostA fun b => m (d, b)) : sProp (MM F)) = _ from
    held_sub_split (SparseCore.T d) S5_sub (V1 m d))) $$ Hheld
  icases Hh with ⟨H5, Hrest⟩
  rw [wp_bind]
  iapply ((K (F := F)).wp_run (D (F := F)) 𝒱 (EH := EH) (P := PM m) κ d 0) $$ [Hst H5 Hrest Hb Hts]
  isplitr; · iexact Hctx
  isplitl [Hst]; · iexact Hst
  isplitl [H5]
  · iapply (Entails.of_eq ((held_S5 d (V1 m d)).trans
      (hand_out (fun d => V1 m d d') (fun d => V1 m d s') (fun d => V1 m d w') (fun d => V1 m d r') (fun d => V1 m d n') d)))
    iexact H5
  iintro ⟨Hst, Hdn⟩
  ihave Hdn' := (take_back (fun d => V1 m d d') (fun d => V1 m d s') (fun d => V1 m d w') (fun d => V1 m d r') (fun d => V1 m d n') d) $$ Hdn
  icases Hdn' with ⟨%p, %hp, Hp⟩
  iapply (wp_seq 𝒱 none Set.univ d Sb (fun u => pure u) hostB hostB_sub hostB_fresh (V2 m d p)) $$ [Hb Hp Hrest]
  · isplitl [Hb]; · iexact Hb
    iapply (Entails.of_eq (held_after m d p))
    isplitl [Hp]; · iexact Hp
    iexact Hrest
  iintro ⟨Hb, Hheld⟩
  rw [wp_pure]; imodintro
  isplitl [Hst]; · iexact Hst
  isplitl [Hheld]
  · unfold FIN
    iexists p
    isplitr
    · ipureintro; exact hp
    iexact Hheld
  isplitl [Hb] <;> iassumption

/-- What a final memory of a device is: the lines' results over call results of which every block is done. -/
def fq (d : Dev nD) (st : Phys nD τ sig (Elt F)) : Prop :=
  ∃ p : Buf (Elt F) (wLoc d) × Buf (Elt F) (rLoc d) × Buf (Elt F) (nLoc d), AllDone (fun d => V1 m d d') (fun d => V1 m d s') d p
    ∧ ∀ b ∈ Sb, st.mem.mem (d, b) = after hostB (V2 m d p) b

theorem hfin (d : Dev nD) (st : Phys nD τ sig (Elt F)) : iprop(FIN m d ∗ SI st) ⊢ (⌜fq m d st⌝ : sProp (MM F)) := by
  unfold FIN held
  iintro ⟨⟨%p, %hp, H⟩, HSI⟩
  ihave %h := (SI_pointsTo_bufs_agree (qs := fun _ => fullShare) Sb) $$ [HSI H]
  · isplitl [HSI]; · iexact HSI
    iexact H
  ipureintro
  exact ⟨p, hp, h⟩

/-- Every run ends, and every device's memory is then as `fq` says, every counter at zero. -/
theorem run_main [∀ e, Nonempty (Elt F e)] : θ_run (Cert.KernelIdeal.defs (F := F)) (Cert.KernelIdeal.threads (F := F)) ⟨m, fun _ => 0, ρ⟩ (fun r =>
    (∀ d : Dev nD, ∃ p : Buf (Elt F) (wLoc d) × Buf (Elt F) (rLoc d) × Buf (Elt F) (nLoc d), AllDone (fun d => V1 m d d') (fun d => V1 m d s') d p
      ∧ ∀ b ∈ Sb, r.2.mem (d, b) = after hostB (V2 m d p) b) ∧ r.2.sem = fun _ => 0) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl _ _ _ _ _ facts)
    (fun q _ => match q with | 0 => SparseCore.Cfg.VecSplit.of_plain (vecSplit _ _ _ _ _))
    m ρ main (fun _ => iprop(emp)) (FIN m) (u₀ (F := F)) (sep_elim_left.trans (hu₀ _ _ _ _ _)) (hmain m ρ) (fq m) (hfin m) _ (fun _ h hz => ⟨h, hz⟩)

end Cert.Proof.Lists

end
-- ==== Proof.Good.lean ====
/-
  What the three results are, in plain arithmetic: each block's two lists as far as they go, zero behind them, and the
  lists' lengths. There is one such triple for given edges.
-/
module

public import proofs.«01_k».proof.Proof.Words

@[expose] public section

noncomputable section

namespace Cert.Proof.Good

open Cert.Proof.Spec Cert.Proof.Rows Cert.Proof.Words
open Idealize.ShloMosaic Idealize.ShloMosaic.Routing Idealize.ShloMosaic.ValueIdx

/-- The results for edges with targets `D` and sources `Sx`: block `b`'s words and sources are its whole lists as far as
    the filling goes and zero after it, and its lengths are where the filling starts. -/
structure Good (D Sx : ℕ → BitVec 32) (o0 o1 : (shape2 64 328192).Idx → BitVec 32) (o2 : (shape2 64 16).Idx → BitVec 32) : Prop where
  words : ∀ b : Fin 64, ∃ L : ℕ → BitVec 32, Full (Own D b) (word D b) wfill L
    ∧ ∀ x : Fin 328192, o0 (ix2 b x) = if x.val < start (Own D b) 80 + 4032 then L x else 0#32
  srcs : ∀ b : Fin 64, ∃ L : ℕ → BitVec 32, Full (Own D b) Sx sfill L
    ∧ ∀ x : Fin 328192, o1 (ix2 b x) = if x.val < start (Own D b) 80 + 4032 then L x else 0#32
  lengths : ∀ (b : Fin 64) (j : Fin 16), o2 (ix2 b j) = BitVec.ofNat 32 (start (Own D b) 80)

theorem eq_of_ix2 {a b : ℕ} {α : Type} {f g : (shape2 a b).Idx → α} (h : ∀ i j, f (ix2 i j) = g (ix2 i j)) : f = g := by
  funext x
  have e : x = ix2 (x 0) (x 1) := funext fun a => match a with | ⟨0, _⟩ => rfl | ⟨1, _⟩ => rfl
  rw [e]; exact h _ _

/-- Two such triples are equal. -/
theorem Good.unique {D Sx : ℕ → BitVec 32} {o0 o1 p0 p1 : (shape2 64 328192).Idx → BitVec 32} {o2 p2 : (shape2 64 16).Idx → BitVec 32}
    (h : Good D Sx o0 o1 o2) (h' : Good D Sx p0 p1 p2) : o0 = p0 ∧ o1 = p1 ∧ o2 = p2 := by
  refine ⟨eq_of_ix2 fun b x => ?_, eq_of_ix2 fun b x => ?_, eq_of_ix2 fun b j => ?_⟩
  · obtain ⟨L, hL, e⟩ := h.words b
    obtain ⟨L', hL', e'⟩ := h'.words b
    rw [e, e']
    split
    · exact hL.eq hL' (by assumption)
    · rfl
  · obtain ⟨L, hL, e⟩ := h.srcs b
    obtain ⟨L', hL', e'⟩ := h'.srcs b
    rw [e, e']
    split
    · exact hL.eq hL' (by assumption)
    · rfl
  · rw [h.lengths, h'.lengths]

/-- A sum of ones over the owned edges among a chunk's first `n` is their number. -/
theorem sum_own (own : ℕ → Prop) [DecidablePred own] (c n : ℕ) :
    ((List.range n).map fun i => if own (4000 * c + i) then 1 else 0).sum = cnt own c n := by
  induction n with
  | zero => rw [cnt_zero]; rfl
  | succ n ih => rw [List.range_succ, List.map_append, List.sum_append, ih, cnt_succ]; simp

/-- A sum of the first chunks' rooms is where the next chunk starts. -/
theorem sum_room (own : ℕ → Prop) [DecidablePred own] (c : ℕ) : ((List.range c).map fun i => room own i).sum = start own c := by
  induction c with
  | zero => rfl
  | succ c ih => rw [List.range_succ, List.map_append, List.sum_append, ih]; simp [start]

end Cert.Proof.Good

end
-- ==== Proof.Value.lean ====
/-
  The kernel's three results after a run, read entry by entry: each block's lists as the call leaves them, zero behind
  their filling, and the lengths.
-/
module

public import proofs.«01_k».proof.Proof.Launch
public import proofs.«01_k».proof.Proof.Good
public import Idealize.ShloMosaic.Lib.Routing.Ops

@[expose] public section

noncomputable section

namespace Cert.Proof.Lists

open Cert.KernelIdeal Cert.KernelIdeal.Facts₀ Cert.Proof.Spec Cert.Proof.Rows Cert.Proof.Words Cert.Proof.Good
open Idealize.ShloMosaic Idealize.ShloMosaic.StableHlo Idealize.ShloMosaic.Routing Idealize.ShloMosaic.ValueIdx
open Idealize.SL Idealize.SL.RA Idealize.SL.Sem

variable {F : FTy → Type} [FloatOps F]

/-- A row of the edges, as the host cuts it. -/
def row1 (x : IVec S2x320000 32) : IVec S320000 32 := shapeCast _ (extractStridedSlice S1x320000 ![1, 0] x slices_S2x320000_S1x320000_1_0) shapeCasts_S1x320000_S320000
def row0 (x : IVec S2x320000 32) : IVec S320000 32 := shapeCast _ (extractStridedSlice S1x320000 ![0, 0] x slices_S2x320000_S1x320000_0_0) shapeCasts_S1x320000_S320000

/-- The lengths as a table of sixteen for each block. -/
def kLens (n : IVec S1024 32) : IVec S64x16 32 := shapeCast _ n shapeCasts_S1024_S64x16
/-- Whether a place lies within a block's list and its filling. -/
def kIn (n : IVec S1024 32) : IVec S64x328192 1 :=
  cmpi .slt (broadcastInDim S64x328192 ![0, 1] bcast_S1x328192_S64x328192_0_1 (broadcastInDim S1x328192 ![1] bcast_S328192_S1x328192_1 (iotaInDim S328192 32 0)))
    (broadcastInDim S64x328192 ![0, 1] bcast_S64x1_S64x328192_0_1 (addi (extractStridedSlice S64x1 ![0, 0] (kLens n) slices_S64x16_S64x1_0_0)
      (broadcastInDim S64x1 ![] bcast_S_S64x1 (constantI S_ 32 4032#32))))
/-- The lists as a row for each block, zero behind the filling. -/
def kOut (n : IVec S1024 32) (w : IVec S21004288 32) : IVec S64x328192 32 :=
  select (kIn n) (shapeCast _ w shapeCasts_S21004288_S64x328192) (broadcastInDim S64x328192 ![] bcast_S_S64x328192 (constantI S_ 32 0#32))

theorem kLens_at (n : IVec S1024 32) (b : Fin 64) (j : Fin 16) : kLens n (ix2 b j) = rd (n := 1024) n (16 * b.val + j.val) := by
  have hlt : 16 * b.val + j.val < 1024 := by omega
  rw [rd_lt _ hlt]
  exact cast12 n _ b j ⟨16 * b.val + j.val, hlt⟩ (by show 16 * b.val + j.val = b.val * 16 + j.val; omega)

theorem kIn_at (n : IVec S1024 32) (b : Fin 64) (x : Fin 328192) {t : ℕ} (ht : t ≤ 320000) (h : rd (n := 1024) n (16 * b.val) = BitVec.ofNat 32 t) :
    kIn n (ix2 b x) = BitVec.ofBool (decide (x.val < t + 4032)) := by
  have e1 : (broadcastInDim S64x328192 ![0, 1] bcast_S1x328192_S64x328192_0_1 (broadcastInDim S1x328192 ![1] bcast_S328192_S1x328192_1 (iotaInDim S328192 32 0))) (ix2 b x) = BitVec.ofNat 32 x.val :=
    (bcCols _ _ _ b x).trans rfl
  have e2 : (broadcastInDim S64x328192 ![0, 1] bcast_S64x1_S64x328192_0_1 (addi (extractStridedSlice S64x1 ![0, 0] (kLens n) slices_S64x16_S64x1_0_0)
      (broadcastInDim S64x1 ![] bcast_S_S64x1 (constantI S_ 32 4032#32)))) (ix2 b x) = BitVec.ofNat 32 (t + 4032) := by
    refine (broadcastInDim_apply _ _ _ _ (ix2 b (0 : Fin 1)) fun a => ?_).trans ?_
    · match a with
      | ⟨0, _⟩ => rfl
      | ⟨1, _⟩ => rfl
    · rw [addi_ap, slice_col0 _ _ b (by decide), bc0, kLens_at]
      show rd n (16 * b.val) + 4032#32 = _
      rw [h, BitVec.ofNat_add]
  unfold kIn
  rw [WordCmp.cmpi_at, e1, e2, WordCmp.cmpi_slt_ofNat (w := 32) (by have := x.isLt; omega) (by omega)]

theorem kOut_at (n : IVec S1024 32) (w : IVec S21004288 32) (b : Fin 64) (x : Fin 328192) {t : ℕ} (ht : t ≤ 320000)
    (h : rd (n := 1024) n (16 * b.val) = BitVec.ofNat 32 t) :
    kOut n w (ix2 b x) = if x.val < t + 4032 then rowOf w b.val x.val else 0#32 := by
  unfold kOut
  rw [WordCmp.select_at, kIn_at n b x ht h, WordCmp.select_decide]
  refine if_congr Iff.rfl ?_ ?_
  · have hlt : b.val * 328192 + x.val < 21004288 :=
      calc b.val * 328192 + x.val < b.val * 328192 + 328192 := Nat.add_lt_add_left x.isLt _
        _ = (b.val + 1) * 328192 := by rw [Nat.add_mul, Nat.one_mul]
        _ ≤ 64 * 328192 := Nat.mul_le_mul_right _ b.isLt
    unfold rowOf
    rw [rd_lt _ hlt]
    exact cast12 w _ b x ⟨b.val * 328192 + x.val, hlt⟩ rfl
  · rw [bc0]; rfl

/-- Where every block is done, the host's lines make of the call's results the blocks' lists. -/
theorem good_of_done {D Sx : ℕ → BitVec 32} {w r : IVec S21004288 32} {n : IVec S1024 32} (h : ∀ b, b < 64 → Done D Sx b w r n) :
    Good D Sx (kOut n w) (kOut n r) (kLens n) := by
  have ht : ∀ b, start (Own D b) 80 ≤ 320000 := fun b => start_le (Own D b) 80
  have hn : ∀ b : Fin 64, rd (n := 1024) n (16 * b.val) = BitVec.ofNat 32 (start (Own D b.val) 80) := fun b => (h b.val b.isLt).2.2 0 (by decide)
  exact ⟨fun b => ⟨_, (h b.val b.isLt).1, fun x => kOut_at n w b x (ht b) (hn b)⟩,
    fun b => ⟨_, (h b.val b.isLt).2.1, fun x => kOut_at n r b x (ht b) (hn b)⟩,
    fun b j => (kLens_at n b j).trans ((h b.val b.isLt).2.2 j.val j.isLt)⟩

/-! ## What the host's lines leave -/

variable (m : (ℓ : Loc nD τ sig) → Buf (Elt F) ℓ) (ρ : Dev nD → PrngReg)

abbrev edges (d : Dev nD) : IVec S2x320000 32 := m ((d.tc : Thread nD τ).loc main_arg0)

theorem V1_d (d : Dev nD) : V1 m d d' = row1 (edges m d) := by
  unfold V1
  simp only [hostA]; after_results_simp <;> rfl
theorem V1_s (d : Dev nD) : V1 m d s' = row0 (edges m d) := by
  unfold V1
  simp only [hostA]; after_results_simp <;> rfl
theorem V1_a (d : Dev nD) : V1 m d (Proc.devRef .tc main_arg0) = edges m d := by
  unfold V1
  simp only [hostA]; after_results_simp <;> rfl

variable (V : Valuation τ sig (Elt F))

theorem after_v15 : after hostB V (Proc.devRef .tc main_v15) = kOut (V n') (V w') := by
  simp only [hostB, TRef.binary, TRef.nullary, TRef.ternary, TRef.unary, TRef.toBuf, TRef.ofBuf, cast_eq]; after_results_simp <;> rfl
theorem after_v17 : after hostB V (Proc.devRef .tc main_v17) = kOut (V n') (V r') := by
  simp only [hostB, TRef.binary, TRef.nullary, TRef.ternary, TRef.unary, TRef.toBuf, TRef.ofBuf, cast_eq]; after_results_simp <;> rfl
theorem after_v5 : after hostB V (Proc.devRef .tc main_v5) = kLens (V n') := by
  simp only [hostB, TRef.binary, TRef.nullary, TRef.ternary, TRef.unary, TRef.toBuf, TRef.ofBuf, cast_eq]; after_results_simp <;> rfl
theorem after_arg : after hostB V (Proc.devRef .tc main_arg0) = V (Proc.devRef .tc main_arg0) := by
  simp only [hostB, TRef.binary, TRef.nullary, TRef.ternary, TRef.unary, TRef.toBuf, TRef.ofBuf, cast_eq]; after_results_simp <;> rfl

/-- Every run ends, every counter at zero, the edges as they were, and the results the blocks' lists. -/
theorem run_good [∀ e, Nonempty (Elt F e)] : θ_run (Cert.KernelIdeal.defs (F := F)) (Cert.KernelIdeal.threads (F := F)) ⟨m, fun _ => 0, ρ⟩ (fun r =>
    (∀ d : Dev nD, Good (rd (n := 320000) (row1 (edges m d))) (rd (n := 320000) (row0 (edges m d)))
        (r.2.mem ((d.tc : Thread nD τ).loc main_v15)) (r.2.mem ((d.tc : Thread nD τ).loc main_v17)) (r.2.mem ((d.tc : Thread nD τ).loc main_v5))
      ∧ r.2.mem ((d.tc : Thread nD τ).loc main_arg0) = m ((d.tc : Thread nD τ).loc main_arg0)) ∧ r.2.sem = fun _ => 0) := by
  refine (θ_run Cert.KernelIdeal.defs _ _).mono (fun r h => ⟨fun d => ?_, h.2⟩) (run_main (F := F) m ρ)
  obtain ⟨p, hp, hb⟩ := h.1 d
  have e15 := (hb (Proc.devRef .tc main_v15) (by decide)).trans ((after_v15 (V2 m d p)).trans (by rw [V2_n, V2_w]))
  have e17 := (hb (Proc.devRef .tc main_v17) (by decide)).trans ((after_v17 (V2 m d p)).trans (by rw [V2_n, V2_r]))
  have e5 := (hb (Proc.devRef .tc main_v5) (by decide)).trans ((after_v5 (V2 m d p)).trans (by rw [V2_n]))
  have ea := (hb (Proc.devRef .tc main_arg0) (by decide)).trans ((after_arg (V2 m d p)).trans
    ((V2_else m d p (by decide) (by decide) (by decide)).trans (V1_a m d)))
  refine ⟨?_, ea⟩
  have hg : Good (rd (n := 320000) (V1 m d d')) (rd (n := 320000) (V1 m d s')) (kOut p.2.2 p.1) (kOut p.2.2 p.2.1) (kLens p.2.2) := good_of_done hp
  rw [V1_d, V1_s] at hg
  have a15 : r.2.mem ((d.tc : Thread nD τ).loc main_v15) = kOut p.2.2 p.1 := e15
  have a17 : r.2.mem ((d.tc : Thread nD τ).loc main_v17) = kOut p.2.2 p.2.1 := e17
  have a5 : r.2.mem ((d.tc : Thread nD τ).loc main_v5) = kLens p.2.2 := e5
  rw [a15, a17, a5]
  exact hg

end Cert.Proof.Lists

end
-- ==== Proof.RefValue.lean ====
/-
  The reference's three results, read entry by entry: which edges each block owns, how many of a chunk's edges come
  before one, where each chunk starts, and the words written at the places that follow.
-/
module

public import proofs.«01_k».proof.Proof.Good
public import proofs.«01_k».proof.Proof.Gen.ReferenceIdeal.Run
public import proofs.«01_k».proof.Proof.Gen.Reference.Run
public import Idealize.ShloMosaic.Lib.Routing.Ops
public import Idealize.ShloMosaic.Lib.Routing.OpsSet
public import Idealize.ShloMosaic.Lib.Routing.OpsPair
public import Idealize.ShloMosaic.Lib.Routing.Words

@[expose] public section

noncomputable section

namespace Cert.Proof.Ref

open Cert.ReferenceIdeal Cert.ReferenceIdeal.Facts₀
open Cert.Proof.Spec Cert.Proof.Rows Cert.Proof.Words Cert.Proof.Good
open Idealize.ShloMosaic Idealize.ShloMosaic.Routing Idealize.ShloMosaic.ValueIdx

/-! ## The reference's values, one by one -/

section Terms

variable (x : IVec S2x320000 32)

/-- The edges' sources. -/
def src : IVec S320000 32 := shapeCast _ (extractStridedSlice S1x320000 ![0, 0] x slices_S2x320000_S1x320000_0_0) shapeCasts_S1x320000_S320000
/-- The edges' targets. -/
def dst : IVec S320000 32 := shapeCast _ (extractStridedSlice S1x320000 ![1, 0] x slices_S2x320000_S1x320000_1_0) shapeCasts_S1x320000_S320000
/-- Each block's first row. -/
def first : IVec S64x1 32 := muli (broadcastInDim S64x1 ![] bcast_S_S64x1 (constantI S_ 32 160#32)) (broadcastInDim S64x1 ![0] bcast_S64_S64x1_0 (iotaInDim S64 32 0))
/-- The targets, once for each block. -/
def dsts : IVec S64x320000 32 := broadcastInDim S64x320000 ![0, 1] bcast_S1x320000_S64x320000_0_1 (broadcastInDim S1x320000 ![1] bcast_S320000_S1x320000_1 (dst x))
/-- Whether a block owns an edge. -/
def own : IVec S64x320000 1 := andi (cmpi .sge (dsts x) (broadcastInDim S64x320000 ![0, 1] bcast_S64x1_S64x320000_0_1 first))
  (cmpi .slt (dsts x) (broadcastInDim S64x320000 ![0, 1] bcast_S64x1_S64x320000_0_1 (addi first (broadcastInDim S64x1 ![] bcast_S_S64x1 (constantI S_ 32 160#32)))))
/-- The same as ones and zeros, a row for each chunk of each block. -/
def ones : IVec S5120x4000 32 := shapeCast _ (extui 32 (own x) natLt_1_32) shapeCasts_S64x320000_S5120x4000
/-- Each chunk's running counts. -/
def upto : IVec S5120x4000 32 := Host.reduceWindow IntOp.addi ![1, 4000] ![1, 1] ![0, 3999] ![0, 0] (ones x) (broadcastInDim S_ ![] bcast_S_S_ (constantI S_ 32 0#32)) reduceWindows_S5120x4000_S5120x4000_w1s1p0_0_w4000s1p3999_0 h_S_
/-- Each chunk's room, a row for each block. -/
def rooms : IVec S64x80 32 := shapeCast _ (muli (pyDiv bcast_S_S5120x1 (addi (extractStridedSlice S5120x1 ![0, 3999] (upto x) slices_S5120x4000_S5120x1_0_3999) (broadcastInDim S5120x1 ![] bcast_S_S5120x1 (constantI S_ 32 7#32))) (constantI S_ 32 8#32))
  (broadcastInDim S5120x1 ![] bcast_S_S5120x1 (constantI S_ 32 8#32))) shapeCasts_S5120x1_S64x80
/-- Where each chunk ends. -/
def ends : IVec S64x80 32 := Host.reduceWindow IntOp.addi ![1, 80] ![1, 1] ![0, 79] ![0, 0] (rooms x) (broadcastInDim S_ ![] bcast_S_S_ (constantI S_ 32 0#32)) reduceWindows_S64x80_S64x80_w1s1p0_0_w80s1p79_0 h_S_
/-- The place of each edge in each block's list, were it the block's. -/
def places : IVec S64x320000 32 := shapeCast _ (addi (broadcastInDim S5120x4000 ![0, 1] bcast_S5120x1_S5120x4000_0_1 (shapeCast _ (subi (ends x) (rooms x)) shapeCasts_S64x80_S5120x1)) (subi (upto x) (ones x))) shapeCasts_S5120x4000_S64x320000
/-- The lists' lengths. -/
def lengths : IVec S64x1 32 := extractStridedSlice S64x1 ![0, 79] (ends x) slices_S64x80_S64x1_0_79
/-- The place an edge's word is written at: behind every list where the block does not own it. -/
def target : IVec S64x320000 32 := select (own x) (places x) (broadcastInDim S64x320000 ![] bcast_S_S64x320000 (constantI S_ 32 328192#32))
/-- Each block's number, once for each edge. -/
def blocks : IVec S64x320000 32 := broadcastInDim S64x320000 ![0, 1] bcast_S64x1_S64x320000_0_1 (broadcastInDim S64x1 ![0] bcast_S64_S64x1_0 (iotaInDim S64 32 0))
/-- The two coordinates each word is written at. -/
def where2 : IVec S64x320000x2 32 := concatenate S64x320000x2 2
  [⟨S64x320000x1, (broadcastInDim S64x320000x1 ![0, 1] bcast_S64x320000_S64x320000x1_0_1 (select (cmpi .slt blocks (broadcastInDim S64x320000 ![] bcast_S_S64x320000 (constantI S_ 32 0#32))) (addi blocks (broadcastInDim S64x320000 ![] bcast_S_S64x320000 (constantI S_ 32 64#32))) blocks))⟩,
   ⟨S64x320000x1, (broadcastInDim S64x320000x1 ![0, 1] bcast_S64x320000_S64x320000x1_0_1 (select (cmpi .slt (target x) (broadcastInDim S64x320000 ![] bcast_S_S64x320000 (constantI S_ 32 0#32))) (addi (target x) (broadcastInDim S64x320000 ![] bcast_S_S64x320000 (constantI S_ 32 328192#32))) (target x)))⟩]
  concatenates_S64x320000x1_S64x320000x1_S64x320000x2_d2
/-- The word lists before any word is written. -/
def empty : IVec S64x328192 32 := select (cmpi .slt (broadcastInDim S64x328192 ![0, 1] bcast_S1x328192_S64x328192_0_1 (broadcastInDim S1x328192 ![1] bcast_S328192_S1x328192_1 (iotaInDim S328192 32 0)))
  (broadcastInDim S64x328192 ![0, 1] bcast_S64x1_S64x328192_0_1 (addi (lengths x) (broadcastInDim S64x1 ![] bcast_S_S64x1 (constantI S_ 32 4032#32)))))
  (broadcastInDim S64x328192 ![] bcast_S_S64x328192 (constantI S_ 32 84206080#32)) (broadcastInDim S64x328192 ![] bcast_S_S64x328192 (constantI S_ 32 0#32))
/-- The words. -/
def wordsOf : IVec S64x320000 32 := addi (muli (subi (dsts x) (broadcastInDim S64x320000 ![0, 1] bcast_S64x1_S64x320000_0_1 first)) (broadcastInDim S64x320000 ![] bcast_S_S64x320000 (constantI S_ 32 524288#32)))
  (broadcastInDim S64x320000 ![0, 1] bcast_S1x320000_S64x320000_0_1 (broadcastInDim S1x320000 ![1] bcast_S320000_S1x320000_1 (iotaInDim S320000 32 0)))
/-- The first result. -/
def out0 : IVec S64x328192 32 := id (Host.scatter scatter_S64x328192_S64x320000x2_S64x320000_n_01_01_2 (fun _ b => b) (id (empty x)) (where2 x) (wordsOf x))
/-- The second result. -/
def out1 : IVec S64x328192 32 := Host.scatter scatter_S64x328192_S64x320000x2_S64x320000_n_01_01_2 (fun _ b => b) (broadcastInDim S64x328192 ![] bcast_S_S64x328192 (constantI S_ 32 0#32)) (where2 x)
  (broadcastInDim S64x320000 ![1] bcast_S320000_S64x320000_1 (src x))
/-- The third result. -/
def out2 : IVec S64x16 32 := broadcastInDim S64x16 ![0, 1] bcast_S64x1_S64x16_0_1 (lengths x)

end Terms

variable {F : FTy → Type} [FloatOps F]

set_option maxRecDepth 8192 in
theorem res0_ideal (m : (ℓ : Loc Cert.ReferenceIdeal.nD Cert.ReferenceIdeal.τ Cert.ReferenceIdeal.sig) → Buf (Elt F) ℓ) (c : Dev Cert.ReferenceIdeal.nD) :
    Cert.ReferenceIdeal.Value.res_main_v74 m c = out0 (m ((c.tc : Thread Cert.ReferenceIdeal.nD Cert.ReferenceIdeal.τ).loc Cert.ReferenceIdeal.main_arg0)) := rfl
set_option maxRecDepth 8192 in
theorem res1_ideal (m : (ℓ : Loc Cert.ReferenceIdeal.nD Cert.ReferenceIdeal.τ Cert.ReferenceIdeal.sig) → Buf (Elt F) ℓ) (c : Dev Cert.ReferenceIdeal.nD) :
    Cert.ReferenceIdeal.Value.res_main_v90 m c = out1 (m ((c.tc : Thread Cert.ReferenceIdeal.nD Cert.ReferenceIdeal.τ).loc Cert.ReferenceIdeal.main_arg0)) := rfl
set_option maxRecDepth 8192 in
theorem res2_ideal (m : (ℓ : Loc Cert.ReferenceIdeal.nD Cert.ReferenceIdeal.τ Cert.ReferenceIdeal.sig) → Buf (Elt F) ℓ) (c : Dev Cert.ReferenceIdeal.nD) :
    Cert.ReferenceIdeal.Value.res_main_v91 m c = out2 (m ((c.tc : Thread Cert.ReferenceIdeal.nD Cert.ReferenceIdeal.τ).loc Cert.ReferenceIdeal.main_arg0)) := rfl
set_option maxRecDepth 8192 in
theorem res0 (m : (ℓ : Loc Cert.Reference.nD Cert.Reference.τ Cert.Reference.sig) → Buf (Elt F) ℓ) (c : Dev Cert.Reference.nD) :
    Cert.Reference.Value.res_main_v74 m c = out0 (m ((c.tc : Thread Cert.Reference.nD Cert.Reference.τ).loc Cert.Reference.main_arg0)) := rfl
set_option maxRecDepth 8192 in
theorem res1 (m : (ℓ : Loc Cert.Reference.nD Cert.Reference.τ Cert.Reference.sig) → Buf (Elt F) ℓ) (c : Dev Cert.Reference.nD) :
    Cert.Reference.Value.res_main_v90 m c = out1 (m ((c.tc : Thread Cert.Reference.nD Cert.Reference.τ).loc Cert.Reference.main_arg0)) := rfl
set_option maxRecDepth 8192 in
theorem res2 (m : (ℓ : Loc Cert.Reference.nD Cert.Reference.τ Cert.Reference.sig) → Buf (Elt F) ℓ) (c : Dev Cert.Reference.nD) :
    Cert.Reference.Value.res_main_v91 m c = out2 (m ((c.tc : Thread Cert.Reference.nD Cert.Reference.τ).loc Cert.Reference.main_arg0)) := rfl

end Cert.Proof.Ref

end
-- ==== Proof.RefRead.lean ====
/-
  The reference's three results are the blocks' lists: each of its values read at an entry.
-/
module

public import proofs.«01_k».proof.Proof.RefValue

@[expose] public section

noncomputable section

namespace Cert.Proof.Ref

open Cert.ReferenceIdeal Cert.ReferenceIdeal.Facts₀
open Cert.Proof.Spec Cert.Proof.Rows Cert.Proof.Words Cert.Proof.Good
open Idealize.ShloMosaic Idealize.ShloMosaic.Routing Idealize.ShloMosaic.ValueIdx

/-! ## Operations at an entry -/

/-- A running sum along the second axis: where row `r` holds `f 0, f 1, …`, it then holds `f 0 + … + f j` at `j`. -/
theorem cumsumRows {A N M : ℕ} (hN : M + 1 = N) (x : IVec (shape2 A N) 32) (r : Fin A) (f : ℕ → ℕ)
    (hx : ∀ i : Fin N, x (ix2 r i) = BitVec.ofNat 32 (f i.val)) (init : IVec shape0 32) (hinit : init ix0 = 0#32)
    (h : (shape2 A N).ReduceWindows (![1, N] : Fin 2 → ℕ) ![1, 1] ![0, M] ![0, 0] (shape2 A N)) (hu : 0 < shape0.numel) (j : Fin N) :
    Host.reduceWindow IntOp.addi ![1, N] ![1, 1] ![0, M] ![0, 0] x init h hu (ix2 r j)
      = BitVec.ofNat 32 ((List.range (j.val + 1)).map f).sum := by
  subst hN
  have hv : init (Shape.Idx.first hu) = BitVec.ofNat 32 0 := (congrArg init (eq_ix0 _)).trans hinit
  have hj := j.isLt
  have hr := r.isLt
  unfold Host.reduceWindow
  refine (foldl_addi_ofNat _ _ (fun n => if M ≤ j.val + n.val then f (j.val + n.val - M) else 0) (fun n _ => ?_) _ 0 hv).trans ?_
  · have hw0 : ((shape2 1 (M + 1)).rowMajor.symm n 0).val = 0 := by rw [symm2]; rfl
    have hw : ((shape2 1 (M + 1)).rowMajor.symm n 1).val = n.val := by rw [symm2]; rfl
    have hn : n.val < M + 1 := (n.cast (numel2 _)).isLt
    dsimp only
    split
    · next hin =>
      have h1 := hin 1
      change M ≤ j.val * 1 + ((shape2 1 (M + 1)).rowMajor.symm n 1).val
        ∧ j.val * 1 + ((shape2 1 (M + 1)).rowMajor.symm n 1).val - M < M + 1 at h1
      rw [hw] at h1
      rw [if_pos (by omega)]
      refine (congrArg x (funext fun a => Fin.ext ?_)).trans (hx ⟨j.val + n.val - M, by omega⟩)
      match a with
      | ⟨0, _⟩ =>
        show r.val * 1 + ((shape2 1 (M + 1)).rowMajor.symm n 0).val - 0 = r.val
        rw [hw0]; omega
      | ⟨1, _⟩ =>
        show j.val * 1 + ((shape2 1 (M + 1)).rowMajor.symm n 1).val - M = j.val + n.val - M
        rw [hw, Nat.mul_one]
    · next hin =>
      rw [if_neg fun hle => hin fun a => by
        match a with
        | ⟨0, _⟩ =>
          show 0 ≤ r.val * 1 + ((shape2 1 (M + 1)).rowMajor.symm n 0).val ∧ r.val * 1 + ((shape2 1 (M + 1)).rowMajor.symm n 0).val - 0 < A
          rw [hw0]
          omega
        | ⟨1, _⟩ =>
          show M ≤ j.val * 1 + ((shape2 1 (M + 1)).rowMajor.symm n 1).val
            ∧ j.val * 1 + ((shape2 1 (M + 1)).rowMajor.symm n 1).val - M < M + 1
          rw [hw]
          omega]
      exact hv
  · rw [Nat.zero_add, map_finRange_val _ (fun w => if M ≤ j.val + w then f (j.val + w - M) else 0)]
    exact congrArg (BitVec.ofNat 32) ((congrArg (fun K => ((List.range K).map fun w => if M ≤ j.val + w then f (j.val + w - M) else 0).sum)
      (numel2 (M + 1))).trans (sum_window f M j.val (by omega)))

/-- A reshape of a matrix reads the entry of the same row-major position. -/
theorem cast22 {α : Type} {a b c d : ℕ} (x : (shape2 a b).Idx → α) (h : (shape2 a b).ShapeCasts (shape2 c d)) (i : Fin a) (j : Fin b) (k : Fin c) (l : Fin d)
    (hp : i.val * b + j.val = k.val * d + l.val) : shapeCast (shape2 c d) x h (ix2 k l) = x (ix2 i j) := by
  refine shapeCast_apply x h _ _ ?_
  rw [Shape.rowMajor_val_two, Shape.rowMajor_val_two]
  exact hp

/-- One column of a matrix. -/
theorem slice_col {α : Type} {a b o : ℕ} (x : (shape2 a b).Idx → α) (h : (shape2 a b).Slices ![0, o] (shape2 a 1)) (i : Fin a) (hb : o < b) :
    extractStridedSlice (shape2 a 1) ![0, o] x h (ix2 i (0 : Fin 1)) = x (ix2 i ⟨o, hb⟩) := by
  unfold extractStridedSlice
  refine congrArg x (funext fun a' => Fin.ext ?_)
  match a' with
  | ⟨0, _⟩ => show 0 + i.val = i.val; omega
  | ⟨1, _⟩ => show o + 0 = o; omega

/-- One row of a matrix. -/
theorem slice_row {α : Type} {a b o : ℕ} (x : (shape2 a b).Idx → α) (h : (shape2 a b).Slices ![o, 0] (shape2 1 b)) (j : Fin b) (hb : o < a) :
    extractStridedSlice (shape2 1 b) ![o, 0] x h (ix2 (0 : Fin 1) j) = x (ix2 ⟨o, hb⟩ j) := by
  unfold extractStridedSlice
  refine congrArg x (funext fun a' => Fin.ext ?_)
  match a' with
  | ⟨0, _⟩ => show o + 0 = o; omega
  | ⟨1, _⟩ => show 0 + j.val = j.val; omega

/-- A column spread over a matrix. -/
theorem bcAcross {α : Type} {n k : ℕ} (h : (shape2 n 1).BroadcastsInDim (shape2 n k) (![0, 1] : Fin 2 → Fin (shape2 n k).rank)) (v : (shape2 n 1).Idx → α) (p : Fin n) (q : Fin k) :
    broadcastInDim (shape2 n k) ![0, 1] h v (ix2 p q) = v (ix2 p (0 : Fin 1)) := by
  refine broadcastInDim_apply _ h _ _ (ix2 p (0 : Fin 1)) fun a => ?_
  match a with
  | ⟨0, _⟩ =>
    show p.val = if n = 1 then 0 else p.val
    have := p.isLt
    split <;> omega
  | ⟨1, _⟩ => rfl

/-- Two columns side by side. -/
theorem pair_zero {α : Type} {A B : ℕ} (x₁ x₂ : (shape3 A B 1).Idx → α) (h : Shape.Concatenates [shape3 A B 1, shape3 A B 1] (shape3 A B 2) (2 : Fin 3)) (i : Fin A) (j : Fin B) :
    concatenate (shape3 A B 2) (2 : Fin 3) [⟨shape3 A B 1, x₁⟩, ⟨shape3 A B 1, x₂⟩] h (ix3 i j (0 : Fin 2)) = x₁ (ix3 i j (0 : Fin 1)) :=
  concatenate_pair_apply_left (t := shape3 A B 2) (s₁ := shape3 A B 1) (s₂ := shape3 A B 1) (2 : Fin 3) x₁ x₂ h (ix3 i j (0 : Fin 2)) rfl (ix3 i j (0 : Fin 1))
    fun a => match a with | ⟨0, _⟩ => rfl | ⟨1, _⟩ => rfl | ⟨2, _⟩ => rfl

theorem pair_one {α : Type} {A B : ℕ} (x₁ x₂ : (shape3 A B 1).Idx → α) (h : Shape.Concatenates [shape3 A B 1, shape3 A B 1] (shape3 A B 2) (2 : Fin 3)) (i : Fin A) (j : Fin B) :
    concatenate (shape3 A B 2) (2 : Fin 3) [⟨shape3 A B 1, x₁⟩, ⟨shape3 A B 1, x₂⟩] h (ix3 i j (1 : Fin 2)) = x₂ (ix3 i j (0 : Fin 1)) :=
  concatenate_pair_apply_right (t := shape3 A B 2) (s₁ := shape3 A B 1) (s₂ := shape3 A B 1) (2 : Fin 3) x₁ x₂ h (ix3 i j (1 : Fin 2)) rfl rfl (ix3 i j (0 : Fin 1))
    (fun a ha => match a, ha with | ⟨0, _⟩, _ => rfl | ⟨1, _⟩, _ => rfl | ⟨2, _⟩, ha => absurd rfl ha) rfl

section Read

variable (x : IVec S2x320000 32)

/-- The targets and the sources, by the edge's number. -/
abbrev D : ℕ → BitVec 32 := rd (n := 320000) (dst x)
abbrev Sx : ℕ → BitVec 32 := rd (n := 320000) (src x)

theorem first_at (b : Fin 64) : first (ix2 b (0 : Fin 1)) = BitVec.ofNat 32 (160 * b.val) := by
  unfold first
  rw [muli_ap, bc0, bcCol, iota1_ap, BitVec.ofNat_mul]
  rfl

theorem dsts_at (b : Fin 64) (e : Fin 320000) : dsts x (ix2 b e) = D x e.val := by
  unfold dsts
  rw [bcCols, D, rd_lt _ e.isLt]

/-- Signed comparisons with a block's bounds are the unsigned ones. -/
theorem own_word (v : BitVec 32) {b : ℕ} (hb : b < 64) :
    IntOp.andi (IntOp.cmpi .sge v (BitVec.ofNat 32 (160 * b))) (IntOp.cmpi .slt v (BitVec.ofNat 32 (160 * b + 160)))
      = BitVec.ofBool (decide (160 * b ≤ v.toNat ∧ v.toNat < 160 * b + 160)) := by
  have h1 : (BitVec.ofNat 32 (160 * b)).toInt = (160 * b : ℕ) := StableHlo.Predicate.toInt_ofNat_small _ (by omega)
  have h2 : (BitVec.ofNat 32 (160 * b + 160)).toInt = (160 * b + 160 : ℕ) := StableHlo.Predicate.toInt_ofNat_small _ (by omega)
  have hv := v.isLt
  rw [WordCmp.cmpi_sge_eq, WordCmp.cmpi_slt_eq, h1, h2, WordCmp.andi_ofBool, ← Bool.decide_and]
  congr 1
  refine decide_eq_decide.2 ?_
  rw [BitVec.toInt_eq_toNat_cond]
  split <;> omega

theorem own_at (b : Fin 64) (e : Fin 320000) : own x (ix2 b e) = BitVec.ofBool (decide (Own (D x) b.val e.val)) := by
  unfold own
  rw [WordCmp.andi_at, WordCmp.cmpi_at, WordCmp.cmpi_at, dsts_at, bcAcross, bcAcross, addi_ap, first_at, bc0]
  show IntOp.andi _ (IntOp.cmpi .slt _ (BitVec.ofNat 32 (160 * b.val) + BitVec.ofNat 32 160)) = _
  rw [← BitVec.ofNat_add, own_word _ b.isLt]
  rfl

/-- Row `80 * b + c` belongs to chunk `c` of block `b`. -/
theorem ones_at (b : Fin 64) (c : Fin 80) (r : Fin 5120) (hr : r.val = 80 * b.val + c.val) (j : Fin 4000) :
    ones x (ix2 r j) = BitVec.ofNat 32 (if Own (D x) b.val (4000 * c.val + j.val) then 1 else 0) := by
  have he : 4000 * c.val + j.val < 320000 := by omega
  unfold ones
  refine (cast22 _ _ b (⟨4000 * c.val + j.val, he⟩ : Fin 320000) r j (by show b.val * 320000 + (4000 * c.val + j.val) = r.val * 4000 + j.val; omega)).trans ?_
  show (own x (ix2 b (⟨4000 * c.val + j.val, he⟩ : Fin 320000))).setWidth 32 = _
  rw [own_at, setWidth_ofBool]

theorem upto_at (b : Fin 64) (c : Fin 80) (r : Fin 5120) (hr : r.val = 80 * b.val + c.val) (j : Fin 4000) :
    upto x (ix2 r j) = BitVec.ofNat 32 (cnt (Own (D x) b.val) c.val (j.val + 1)) := by
  unfold upto
  refine (cumsumRows (M := 3999) (N := 4000) rfl (ones x) r (fun i => if Own (D x) b.val (4000 * c.val + i) then 1 else 0)
    (fun i => ones_at x b c r hr i) _ (by rw [bc0]; rfl) _ _ j).trans ?_
  rw [sum_own]

theorem rooms_at (b : Fin 64) (c : Fin 80) : rooms x (ix2 b c) = BitVec.ofNat 32 (room (Own (D x) b.val) c.val) := by
  have hlt : 80 * b.val + c.val < 5120 := by omega
  have hc := cnt_le (Own (D x) b.val) c.val 4000
  unfold rooms
  refine (cast22 _ _ (⟨80 * b.val + c.val, hlt⟩ : Fin 5120) (0 : Fin 1) b c (by show (80 * b.val + c.val) * 1 + 0 = b.val * 80 + c.val; omega)).trans ?_
  rw [muli_ap, bc0, pyDiv_ap (a := cnt (Own (D x) b.val) c.val 4000 + 7) (b := 8) _ _ _ _ ?_ rfl (by omega) (by decide) (by decide)]
  · unfold room
    rw [BitVec.ofNat_mul]; rfl
  · rw [addi_ap, bc0, slice_col _ _ _ (by decide : 3999 < 4000), upto_at x b c _ rfl]
    rw [BitVec.ofNat_add]; rfl

theorem ends_at (b : Fin 64) (c : Fin 80) : ends x (ix2 b c) = BitVec.ofNat 32 (start (Own (D x) b.val) (c.val + 1)) := by
  unfold ends
  refine (cumsumRows (M := 79) (N := 80) rfl (rooms x) b (fun i => room (Own (D x) b.val) i)
    (fun i => rooms_at x b i) _ (by rw [bc0]; rfl) _ _ c).trans ?_
  rw [sum_room]

theorem sub_word (a b : ℕ) : BitVec.ofNat 32 (a + b) - BitVec.ofNat 32 b = BitVec.ofNat 32 a := by
  rw [BitVec.ofNat_add, BitVec.add_sub_cancel]

theorem places_at (b : Fin 64) (e : Fin 320000) : places x (ix2 b e) = BitVec.ofNat 32 (pos (Own (D x) b.val) e.val) := by
  have hc : e.val / 4000 < 80 := by omega
  have hj : e.val % 4000 < 4000 := Nat.mod_lt _ (by decide)
  have hlt : 80 * b.val + e.val / 4000 < 5120 := by omega
  unfold places
  refine (cast22 _ _ (⟨80 * b.val + e.val / 4000, hlt⟩ : Fin 5120) (⟨e.val % 4000, hj⟩ : Fin 4000) b e
    (by show (80 * b.val + e.val / 4000) * 4000 + e.val % 4000 = b.val * 320000 + e.val; omega)).trans ?_
  rw [addi_ap, bcAcross, cast22 (subi (ends x) (rooms x)) _ b (⟨e.val / 4000, hc⟩ : Fin 80) (⟨80 * b.val + e.val / 4000, hlt⟩ : Fin 5120) (0 : Fin 1)
    (by show b.val * 80 + e.val / 4000 = (80 * b.val + e.val / 4000) * 1 + 0; omega),
    subi_ap, subi_ap, ends_at, rooms_at, upto_at x b ⟨e.val / 4000, hc⟩ _ rfl, ones_at x b ⟨e.val / 4000, hc⟩ _ rfl]
  show BitVec.ofNat 32 (start (Own (D x) b.val) (e.val / 4000) + room (Own (D x) b.val) (e.val / 4000)) - _ + (BitVec.ofNat 32 (cnt (Own (D x) b.val) (e.val / 4000) (e.val % 4000 + 1)) - _) = _
  rw [sub_word, cnt_succ, sub_word, ← BitVec.ofNat_add]
  rfl

theorem lengths_at (b : Fin 64) : lengths x (ix2 b (0 : Fin 1)) = BitVec.ofNat 32 (start (Own (D x) b.val) 80) := by
  unfold lengths
  rw [slice_col _ _ _ (by decide : 79 < 80), ends_at]

theorem blocks_at (b : Fin 64) (e : Fin 320000) : blocks (ix2 b e) = BitVec.ofNat 32 b.val := by
  unfold blocks
  rw [bcRows, iota1_ap]

/-- The place of an edge's word, past every list where the block does not own it. -/
def goes (b e : ℕ) : ℕ := if Own (D x) b e then pos (Own (D x) b) e else 328192

theorem goes_lt (b : ℕ) {e : ℕ} (he : e < 320000) : goes x b e < 2 ^ 31 := by
  unfold goes
  split
  · next h =>
    have h1 := pos_lt_of_lt (Own (D x) b) (n := 80) h (by omega)
    have h2 := start_le (Own (D x) b) 80
    omega
  · decide

theorem target_at (b : Fin 64) (e : Fin 320000) : target x (ix2 b e) = BitVec.ofNat 32 (goes x b.val e.val) := by
  unfold target goes
  rw [WordCmp.select_at, own_at, places_at, bc0, WordCmp.select_decide]
  split <;> rfl

theorem toNat_word {a : ℕ} (h : a < 2 ^ 31) : (BitVec.ofNat 32 a).toNat < 2 ^ (32 - 1) := by
  rw [BitVec.toNat_ofNat, Nat.mod_eq_of_lt (by omega)]; exact h

theorem where2_zero (b : Fin 64) (e : Fin 320000) : where2 x (ix3 b e 0) = BitVec.ofNat 32 b.val := by
  unfold where2
  refine (pair_zero _ _ _ b e).trans ?_
  · refine (broadcastInDim_apply _ _ _ _ (ix2 b e) fun a => ?_).trans ?_
    · match a with
      | ⟨0, _⟩ => rfl
      | ⟨1, _⟩ => rfl
    · rw [WordCmp.select_at, WordCmp.cmpi_at, bc0, blocks_at]
      exact wrap_of_lt _ _ (toNat_word (by omega))

theorem where2_one (b : Fin 64) (e : Fin 320000) : where2 x (ix3 b e 1) = BitVec.ofNat 32 (goes x b.val e.val) := by
  unfold where2
  refine (pair_one _ _ _ b e).trans ?_
  · refine (broadcastInDim_apply _ _ _ _ (ix2 b e) fun a => ?_).trans ?_
    · match a with
      | ⟨0, _⟩ => rfl
      | ⟨1, _⟩ => rfl
    · rw [WordCmp.select_at, WordCmp.cmpi_at, bc0, target_at]
      exact wrap_of_lt _ _ (toNat_word (goes_lt x b.val e.isLt))

/-- Which entry an edge's word is written to. -/
theorem lands (a : Fin 64) (e : Fin 320000) (b : Fin 64) (p : Fin 328192) :
    ScatterDims.resultIdx? scatter_S64x328192_S64x320000x2_S64x320000_n_01_01_2 (ix2 a e) (where2 x) = some (ix2 b p)
      ↔ a = b ∧ Own (D x) b.val e.val ∧ pos (Own (D x) b.val) e.val = p.val := by
  have hp := p.isLt
  rw [scatter_lands2 _ rfl rfl rfl, where2_zero, where2_one, StableHlo.Predicate.toInt_ofNat_small _ (by omega),
    StableHlo.Predicate.toInt_ofNat_small _ (goes_lt x a.val e.isLt)]
  constructor
  · rintro ⟨h1, h2⟩
    have hab : a = b := Fin.ext (by omega)
    subst hab
    unfold goes at h2
    split at h2
    · next h => exact ⟨rfl, h, by omega⟩
    · omega
  · rintro ⟨rfl, h, h2⟩
    refine ⟨rfl, ?_⟩
    unfold goes
    rw [if_pos h, h2]

/-- An entry written by an edge. -/
theorem put_hit {x0 : IVec S64x328192 32} {u : IVec S64x320000 32} (b : Fin 64) (e : Fin 320000) (p : Fin 328192) (ho : Own (D x) b.val e.val)
    (hp : pos (Own (D x) b.val) e.val = p.val) :
    Host.scatter scatter_S64x328192_S64x320000x2_S64x320000_n_01_01_2 (fun _ b => b) x0 (where2 x) u (ix2 b p) = u (ix2 b e) := by
  refine scatter_set_hit _ _ _ _ _ _ (fun k hk => ?_) (ix2 b e) ((lands x b e b p).2 ⟨rfl, ho, hp⟩)
  have ek : k = ix2 (k 0) (k 1) := funext fun a => match a with | ⟨0, _⟩ => rfl | ⟨1, _⟩ => rfl
  rw [ek] at hk ⊢
  obtain ⟨h1, h2, h3⟩ := (lands x (k 0) (k 1) b p).1 hk
  have h4 : (k 1 : Fin 320000) = e := Fin.ext (pos_inj _ h2 ho (h3.trans hp.symm))
  exact (congrArg (fun q : Fin 64 => u (ix2 q (k 1 : Fin 320000))) h1).trans (congrArg (fun q : Fin 320000 => u (ix2 b q)) h4)

/-- An entry no edge writes. -/
theorem put_miss {x0 : IVec S64x328192 32} {u : IVec S64x320000 32} (b : Fin 64) (p : Fin 328192)
    (h : ∀ e, e < 320000 → Own (D x) b.val e → pos (Own (D x) b.val) e ≠ p.val) :
    Host.scatter scatter_S64x328192_S64x320000x2_S64x320000_n_01_01_2 (fun _ b => b) x0 (where2 x) u (ix2 b p) = x0 (ix2 b p) := by
  refine scatter_set_miss _ _ _ _ _ (fun k hk => ?_)
  have ek : k = ix2 (k 0) (k 1) := funext fun a => match a with | ⟨0, _⟩ => rfl | ⟨1, _⟩ => rfl
  rw [ek] at hk
  obtain ⟨-, h2, h3⟩ := (lands x (k 0) (k 1) b p).1 hk
  exact h _ (k 1).isLt h2 h3

theorem empty_at (b : Fin 64) (p : Fin 328192) : empty x (ix2 b p) = if p.val < start (Own (D x) b.val) 80 + 4032 then wfill else 0#32 := by
  have hs := start_le (Own (D x) b.val) 80
  have hp := p.isLt
  unfold empty
  rw [WordCmp.select_at, WordCmp.cmpi_at, bcCols, iota1_ap, bcAcross, addi_ap, lengths_at, bc0, bc0, bc0]
  show Scalar.select (IntOp.cmpi .slt _ (BitVec.ofNat 32 (start (Own (D x) b.val) 80) + BitVec.ofNat 32 4032)) _ _ = _
  rw [← BitVec.ofNat_add, WordCmp.cmpi_slt_ofNat (w := 32) (by omega) (by omega), WordCmp.select_decide]
  rfl

theorem wordsOf_at (b : Fin 64) (e : Fin 320000) (ho : Own (D x) b.val e.val) : wordsOf x (ix2 b e) = word (D x) b.val e.val := by
  unfold wordsOf word
  rw [addi_ap, muli_ap, subi_ap, dsts_at, bcAcross, first_at, bc0, bcCols, iota1_ap]
  obtain ⟨h1, -⟩ := ho
  have h2 : D x e.val - BitVec.ofNat 32 (160 * b.val) = BitVec.ofNat 32 ((D x e.val).toNat - 160 * b.val) := by
    have h3 : D x e.val = BitVec.ofNat 32 ((D x e.val).toNat - 160 * b.val + 160 * b.val) := by
      rw [Nat.sub_add_cancel h1, BitVec.ofNat_toNat, BitVec.setWidth_eq]
    calc D x e.val - BitVec.ofNat 32 (160 * b.val)
        = BitVec.ofNat 32 ((D x e.val).toNat - 160 * b.val + 160 * b.val) - BitVec.ofNat 32 (160 * b.val) := by rw [← h3]
      _ = _ := sub_word _ _
  rw [h2]
  show _ * BitVec.ofNat 32 524288 + _ = _
  rw [← BitVec.ofNat_mul, ← BitVec.ofNat_add]
  rfl

theorem dite_fin {α : Type} {N : ℕ} (g : Fin N → α) (z : α) (p : Fin N) : (if h : p.val < N then g ⟨p.val, h⟩ else z) = g p := dif_pos p.isLt

/-- A whole list in which the edges' values are put over a filling. -/
theorem full_of_put (b : Fin 64) (val : ℕ → BitVec 32) (fill : BitVec 32) (x0 : IVec S64x328192 32) (u : IVec S64x320000 32)
    (hu : ∀ e : Fin 320000, Own (D x) b.val e.val → u (ix2 b e) = val e.val)
    (h0 : ∀ p : Fin 328192, x0 (ix2 b p) = if p.val < start (Own (D x) b.val) 80 + 4032 then fill else 0#32) :
    ∃ L : ℕ → BitVec 32, Full (Own (D x) b.val) val fill L ∧ ∀ p : Fin 328192,
      Host.scatter scatter_S64x328192_S64x320000x2_S64x320000_n_01_01_2 (fun _ b => b) x0 (where2 x) u (ix2 b p)
        = if p.val < start (Own (D x) b.val) 80 + 4032 then L p.val else 0#32 := by
  have hs := start_le (Own (D x) b.val) 80
  have hpos : ∀ e, e < 320000 → Own (D x) b.val e → pos (Own (D x) b.val) e < start (Own (D x) b.val) 80 := fun e he ho =>
    pos_lt_of_lt (Own (D x) b.val) ho (by omega)
  refine ⟨fun p => if h : p < 328192 then Host.scatter scatter_S64x328192_S64x320000x2_S64x320000_n_01_01_2 (fun _ b => b) x0 (where2 x) u (ix2 b ⟨p, h⟩) else 0#32,
    ⟨fun e he ho => ?_, fun p hp hm => ?_⟩, fun p => ?_⟩
  · have h1 := hpos e he ho
    have h2 : pos (Own (D x) b.val) e < 328192 := by omega
    rw [dif_pos h2, put_hit x b ⟨e, he⟩ ⟨_, h2⟩ ho rfl]
    exact hu ⟨e, he⟩ ho
  · have h2 : p < 328192 := by omega
    rw [dif_pos h2, put_miss x b ⟨p, h2⟩ hm, h0]
    exact if_pos hp
  · split
    · exact (dite_fin (fun q => Host.scatter scatter_S64x328192_S64x320000x2_S64x320000_n_01_01_2 (fun _ b => b) x0 (where2 x) u (ix2 b q)) 0#32 p).symm
    · next hp =>
      rw [put_miss x b p fun e he ho hpe => hp (by have := hpos e he ho; omega), h0]
      exact if_neg hp

theorem out0_eq : out0 x = Host.scatter scatter_S64x328192_S64x320000x2_S64x320000_n_01_01_2 (fun _ b => b) (empty x) (where2 x) (wordsOf x) := by
  unfold out0
  rw [id_eq, id_eq]

theorem out1_eq : out1 x = Host.scatter scatter_S64x328192_S64x320000x2_S64x320000_n_01_01_2 (fun _ b => b) (broadcastInDim S64x328192 ![] bcast_S_S64x328192 (constantI S_ 32 0#32)) (where2 x)
    (broadcastInDim S64x320000 ![1] bcast_S320000_S64x320000_1 (src x)) := by
  unfold out1
  rfl

theorem srcs_at (b : Fin 64) (e : Fin 320000) : broadcastInDim S64x320000 ![1] bcast_S320000_S64x320000_1 (src x) (ix2 b e) = Sx x e.val := by
  refine (broadcastInDim_apply _ _ _ _ (ix1 e) fun a => ?_).trans ?_
  · match a with
    | ⟨0, _⟩ => rfl
  · rw [Sx, rd_lt _ e.isLt]

theorem zeros_at (b : Fin 64) (p : Fin 328192) (t : ℕ) :
    broadcastInDim S64x328192 ![] bcast_S_S64x328192 (constantI S_ 32 0#32) (ix2 b p) = if p.val < t then sfill else 0#32 := by
  rw [bc0, ite_self, WordCmp.constantI_at]

theorem good_words (b : Fin 64) : ∃ L : ℕ → BitVec 32, Full (Own (D x) b) (word (D x) b) wfill L
    ∧ ∀ p : Fin 328192, out0 x (ix2 b p) = if p.val < start (Own (D x) b) 80 + 4032 then L p else 0#32 := by
  rw [out0_eq]
  exact full_of_put x b (word (D x) b.val) wfill (empty x) (wordsOf x) (wordsOf_at x b) (empty_at x b)

theorem good_srcs (b : Fin 64) : ∃ L : ℕ → BitVec 32, Full (Own (D x) b) (Sx x) sfill L
    ∧ ∀ p : Fin 328192, out1 x (ix2 b p) = if p.val < start (Own (D x) b) 80 + 4032 then L p else 0#32 := by
  rw [out1_eq]
  exact full_of_put x b (Sx x) sfill _ _ (fun e _ => srcs_at x b e) (fun p => zeros_at b p _)

theorem good_lengths (b : Fin 64) (j : Fin 16) : out2 x (ix2 b j) = BitVec.ofNat 32 (start (Own (D x) b) 80) := by
  unfold out2
  rw [bcAcross, lengths_at]

/-- The reference's results are the blocks' lists. -/
theorem good : Good (D x) (Sx x) (out0 x) (out1 x) (out2 x) := ⟨good_words x, good_srcs x, good_lengths x⟩

end Read

end Cert.Proof.Ref

end
-- ==== Proof.lean ====
/-
  The claims about the version's calls. The call that lists the edges by block: it runs and leaves its argument alone, at
  either reading of its text; its idealization is its own text; and its results are the reference's, bit for bit and at the
  ideal instance. The four dense calls (node product, edge products, last stage, last stage with the next layer's product):
  each runs and leaves its arguments alone, and its results are its reference's at the ideal instance.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Gen.Node.Frame
public import proofs.«01_k».proof.Proof.Gen.Edge.Frame
public import proofs.«01_k».proof.Proof.Gen.Post.Frame
public import proofs.«01_k».proof.Proof.Gen.Next.Frame
public import proofs.«01_k».proof.Proof.Gen.NodeReferenceIdeal.Run
public import proofs.«01_k».proof.Proof.Gen.EdgeReferenceIdeal.Run
public import proofs.«01_k».proof.Proof.NodeValue
public import proofs.«01_k».proof.Proof.EdgeValue
public import proofs.«01_k».proof.Proof.Agree
public import proofs.«01_k».proof.Proof.Value
public import proofs.«01_k».proof.Proof.RefRead
public import Idealize.ShloMosaic.Adequacy
public import Idealize.ShloMosaic.Init
public import Idealize.ShloMosaic.Lib.Pipeline.ValueKit

@[expose] public section

noncomputable section

namespace Cert.Proof

open Idealize.ShloMosaic Idealize.SL.Sem

/-- The kernel's text at the ideal instance runs, keeps the edges and ends with every counter at zero. -/
theorem frame_kernelIdeal : Cert.quiescent_KernelIdeal := fun m ρ _ =>
  (θ_run Cert.KernelIdeal.defs _ _).mono (fun _ h => ⟨fun c => (h.1 c).2, h.2⟩) (Lists.run_good (F := Ideal) m ρ)

/-- So does the kernel, bit for bit: its text is the same. -/
theorem frame_kernel : Cert.quiescent_Kernel := fun m ρ _ =>
  (θ_run Cert.KernelIdeal.defs _ _).mono (fun _ h => ⟨fun c => (h.1 c).2, h.2⟩) (Lists.run_good (F := Bits) m ρ)

/-- The reference runs and keeps the edges; it has no semaphore. -/
theorem frame_referenceIdeal : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem frame_reference : Cert.quiescent_Reference := fun m ρ _ =>
  (θ_run Cert.Reference.defs _ _).mono (fun r h => ⟨fun c => (h c).2.2.2, sem_eq_zero_of_no_sems (by decide) r.2⟩)
    (Cert.Reference.Value.run (F := Bits) m ρ)

/-- The targets and sources the kernel's host cuts from the edges are the reference's. -/
theorem row1_eq (x : IVec Cert.KernelIdeal.S2x320000 32) : Lists.row1 x = Ref.dst x := rfl
theorem row0_eq (x : IVec Cert.KernelIdeal.S2x320000 32) : Lists.row0 x = Ref.src x := rfl

/-- Results that are the blocks' lists of some edges are the reference's of those edges. -/
theorem eq_ref (x : IVec Cert.KernelIdeal.S2x320000 32) {o0 o1 : IVec Cert.KernelIdeal.S64x328192 32} {o2 : IVec Cert.KernelIdeal.S64x16 32}
    (h : Good.Good (Rows.rd (n := 320000) (Lists.row1 x)) (Rows.rd (n := 320000) (Lists.row0 x)) o0 o1 o2) :
    o0 = Ref.out0 x ∧ o1 = Ref.out1 x ∧ o2 = Ref.out2 x := by
  rw [row1_eq, row0_eq] at h
  exact h.unique (Ref.good x)

/-- From the same edges the kernel and the reference end with equal results, at the ideal instance. -/
theorem algebraic : Cert.algebraic_KernelIdeal_ReferenceIdeal := by
  intro m g m' g' _ hagree
  refine ⟨fun c => Ref.out0 (Lists.edges m c), fun c => Ref.out1 (Lists.edges m c), fun c => Ref.out2 (Lists.edges m c), ?_, ?_⟩
  · refine (θ_run Cert.KernelIdeal.defs _ _).mono (fun r h c => ?_) (Lists.run_good (F := Ideal) m g)
    obtain ⟨e0, e1, e2⟩ := eq_ref (Lists.edges m c) (h.1 c).1
    exact ⟨e0, e1, e2, (h.1 c).2⟩
  · refine (θ_run Cert.ReferenceIdeal.defs _ _).mono (fun r h c => ?_) (Cert.ReferenceIdeal.Value.run (F := Ideal) m' g')
    obtain ⟨h0, h1, h2, ha⟩ := h c
    exact ⟨h0.trans ((Ref.res0_ideal m' c).trans (congrArg Ref.out0 (hagree c))), h1.trans ((Ref.res1_ideal m' c).trans (congrArg Ref.out1 (hagree c))),
      h2.trans ((Ref.res2_ideal m' c).trans (congrArg Ref.out2 (hagree c))), ha⟩

/-- From the same edges the kernel and the reference end with equal results, bit for bit. -/
theorem bitexact : Cert.bitexact_Kernel_Reference := by
  intro m g m' g' _ hagree
  refine ⟨fun c => Ref.out0 (Lists.edges (F := Bits) m c), fun c => Ref.out1 (Lists.edges (F := Bits) m c), fun c => Ref.out2 (Lists.edges (F := Bits) m c), ?_, ?_⟩
  · refine (θ_run Cert.KernelIdeal.defs _ _).mono (fun r h c => ?_) (Lists.run_good (F := Bits) m g)
    obtain ⟨e0, e1, e2⟩ := eq_ref (Lists.edges (F := Bits) m c) (h.1 c).1
    exact ⟨e0, e1, e2, (h.1 c).2⟩
  · refine (θ_run Cert.Reference.defs _ _).mono (fun r h c => ?_) (Cert.Reference.Value.run (F := Bits) m' g')
    obtain ⟨h0, h1, h2, ha⟩ := h c
    exact ⟨h0.trans ((Ref.res0 m' c).trans (congrArg Ref.out0 (hagree c))), h1.trans ((Ref.res1 m' c).trans (congrArg Ref.out1 (hagree c))),
      h2.trans ((Ref.res2 m' c).trans (congrArg Ref.out2 (hagree c))), ha⟩

/-! ## The node product -/

/-- The reference's product, entry by entry. -/
theorem node_ref (x : FVec Ideal Cert.NodeReferenceIdeal.S10240x128 .f32) (w : FVec Ideal Cert.NodeReferenceIdeal.S128x128 .f32) :
    Host.dotGeneral Cert.NodeReferenceIdeal.dot_S10240x128_S128x128_S10240x128_1_0_0_1_n_n none x w = Cert.NodeIdeal.Value.prod x w := by
  funext i
  obtain ⟨r, l, rfl⟩ : ∃ (r : Fin 10240) (l : Fin 128), i = ix2 r l := ⟨i 0, i 1, by funext a; fin_cases a <;> rfl⟩
  pointwise [Cert.NodeIdeal.Value.prod]

/-- The node product at the ideal instance runs, keeps its arguments and ends with every counter at zero. -/
theorem frame_nodeIdeal : Cert.quiescent_NodeIdeal := fun m ρ _ => Cert.NodeIdeal.Gen.frame m ρ

/-- So does the call, bit for bit. -/
theorem frame_node : Cert.quiescent_Node := fun m ρ _ => Cert.Node.Gen.frame m ρ

/-- Its reference runs and keeps the arguments; it has no semaphore. -/
theorem frame_nodeReference : Cert.quiescent_NodeReferenceIdeal := fun m ρ _ =>
  (θ_run Cert.NodeReferenceIdeal.defs _ _).mono (fun r h => ⟨fun c => (h c).2, sem_eq_zero_of_no_sems (by decide) r.2⟩)
    (Cert.NodeReferenceIdeal.Value.run (F := Ideal) m ρ)

/-- From the same arguments the node product and its reference end with equal results. -/
theorem algebraic_node : Cert.algebraic_NodeIdeal_NodeReferenceIdeal := by
  intro m g m' g' _ hagree
  refine ⟨fun c => Cert.NodeIdeal.Value.prod (m ((c.tc : Thread Cert.NodeIdeal.nD Cert.NodeIdeal.τ).loc Cert.NodeIdeal.main_arg0))
    (m ((c.tc : Thread Cert.NodeIdeal.nD Cert.NodeIdeal.τ).loc Cert.NodeIdeal.main_arg1)), ?_, ?_⟩
  · exact (θ_run Cert.NodeIdeal.defs _ _).mono (fun r h c => ⟨(h c).1.trans (Cert.NodeIdeal.Value.final m c), (h c).2⟩) (Cert.NodeIdeal.Value.run_blocks m g)
  · refine (θ_run Cert.NodeReferenceIdeal.defs _ _).mono (fun r h c => ⟨(h c).1.trans ?_, (h c).2⟩) (Cert.NodeReferenceIdeal.Value.run (F := Ideal) m' g')
    obtain ⟨a0, a1⟩ := hagree c
    rw [a0, a1]
    exact node_ref _ _

/-! ## The edge products -/

/-- The edge products at the ideal instance runs, keeps its arguments and ends with every counter at zero. -/
theorem frame_edgeIdeal : Cert.quiescent_EdgeIdeal := fun m ρ _ => Cert.EdgeIdeal.Gen.frame m ρ

/-- So does the call, bit for bit. -/
theorem frame_edge : Cert.quiescent_Edge := fun m ρ _ => Cert.Edge.Gen.frame m ρ

/-- Its reference runs and keeps the arguments; it has no semaphore. -/
theorem frame_edgeReference : Cert.quiescent_EdgeReferenceIdeal := fun m ρ _ =>
  (θ_run Cert.EdgeReferenceIdeal.defs _ _).mono (fun r h => ⟨fun c => (h c).2.2, sem_eq_zero_of_no_sems (by decide) r.2⟩)
    (Cert.EdgeReferenceIdeal.Value.run (F := Ideal) m ρ)

/-- The reference's affine function, entry by entry. -/
theorem edge_ref (x : FVec Ideal Cert.EdgeReferenceIdeal.S321536x16 .f32) (w : FVec Ideal Cert.EdgeReferenceIdeal.S16x128 .f32) (b : FVec Ideal Cert.EdgeReferenceIdeal.S128 .f32) :
    addf (Host.dotGeneral Cert.EdgeReferenceIdeal.dot_S321536x16_S16x128_S321536x128_1_0_0_1_n_n none x w)
      (broadcastInDim Cert.EdgeReferenceIdeal.S321536x128 ![0, 1] Cert.EdgeReferenceIdeal.Facts₀.bcast_S1x128_S321536x128_0_1
        (broadcastInDim Cert.EdgeReferenceIdeal.S1x128 ![1] Cert.EdgeReferenceIdeal.Facts₀.bcast_S128_S1x128_1 b)) = Cert.EdgeIdeal.Value.affine x w b := by
  funext i
  obtain ⟨r, l, rfl⟩ : ∃ (r : Fin 321536) (l : Fin 128), i = ix2 r l := ⟨i 0, i 1, by funext a; fin_cases a <;> rfl⟩
  pointwise [Cert.EdgeIdeal.Value.affine]

/-- From the same arguments the edge products and their reference end with equal results. -/
theorem algebraic_edge : Cert.algebraic_EdgeIdeal_EdgeReferenceIdeal := by
  intro m g m' g' _ hagree
  refine ⟨fun c => Cert.EdgeIdeal.Value.affine (m ((c.tc : Thread Cert.EdgeIdeal.nD Cert.EdgeIdeal.τ).loc Cert.EdgeIdeal.main_arg0)) (m ((c.tc : Thread Cert.EdgeIdeal.nD Cert.EdgeIdeal.τ).loc Cert.EdgeIdeal.main_arg1)) (m ((c.tc : Thread Cert.EdgeIdeal.nD Cert.EdgeIdeal.τ).loc Cert.EdgeIdeal.main_arg2)),
    fun c => Cert.EdgeIdeal.Value.affine (m ((c.tc : Thread Cert.EdgeIdeal.nD Cert.EdgeIdeal.τ).loc Cert.EdgeIdeal.main_arg0)) (m ((c.tc : Thread Cert.EdgeIdeal.nD Cert.EdgeIdeal.τ).loc Cert.EdgeIdeal.main_arg3)) (m ((c.tc : Thread Cert.EdgeIdeal.nD Cert.EdgeIdeal.τ).loc Cert.EdgeIdeal.main_arg4)), ?_, ?_⟩
  · exact (θ_run Cert.EdgeIdeal.defs _ _).mono
      (fun r h c => ⟨(h c).1.trans (Cert.EdgeIdeal.Value.final5 m c), (h c).2.1.trans (Cert.EdgeIdeal.Value.final6 m c), (h c).2.2⟩) (Cert.EdgeIdeal.Value.run_blocks m g)
  · refine (θ_run Cert.EdgeReferenceIdeal.defs _ _).mono (fun r h c => ⟨(h c).1.trans ?_, (h c).2.1.trans ?_, (h c).2.2⟩)
      (Cert.EdgeReferenceIdeal.Value.run (F := Ideal) m' g')
    · obtain ⟨a0, a1, a2, a3, a4⟩ := hagree c
      rw [a0, a1, a2]
      exact edge_ref _ _ _
    · obtain ⟨a0, a1, a2, a3, a4⟩ := hagree c
      rw [a0, a3, a4]
      exact edge_ref _ _ _

/-! ## The last stage -/

/-- The last stage at the ideal instance runs, keeps its arguments and ends with every counter at zero. -/
theorem frame_postIdeal : Cert.quiescent_PostIdeal := fun m ρ _ => Cert.PostIdeal.Gen.frame m ρ

/-- So does the call, bit for bit. -/
theorem frame_post : Cert.quiescent_Post := fun m ρ _ => Cert.Post.Gen.frame m ρ

/-- Its reference runs and keeps the arguments; it has no semaphore. -/
theorem frame_postReference : Cert.quiescent_PostReferenceIdeal := fun m ρ _ =>
  (θ_run Cert.PostReferenceIdeal.defs _ _).mono (fun r h => ⟨fun c => (h c).2, sem_eq_zero_of_no_sems (by decide) r.2⟩)
    (Cert.PostReferenceIdeal.Value.run (F := Ideal) m ρ)

/-- With the node types in range as well. -/
theorem frame_postIdeal_types : Cert.quiescent_PostIdeal_pre_types_in_range := fun m ρ _ => Cert.PostIdeal.Gen.frame m ρ

theorem frame_postReference_types : Cert.quiescent_PostReferenceIdeal_pre_types_in_range := fun m ρ _ => frame_postReference m ρ trivial

/-- From the same arguments, with every node type in range, the last stage and its reference end with equal results. -/
theorem algebraic_post : Cert.algebraic_PostIdeal_PostReferenceIdeal_pre_types_in_range := by
  intro m g m' g' hpre hagree
  refine ⟨fun c => Cert.PostIdeal.Value.post (m ((c.tc : Thread Cert.PostIdeal.nD Cert.PostIdeal.τ).loc Cert.PostIdeal.main_arg0)) (m ((c.tc : Thread Cert.PostIdeal.nD Cert.PostIdeal.τ).loc Cert.PostIdeal.main_arg1))
     (m ((c.tc : Thread Cert.PostIdeal.nD Cert.PostIdeal.τ).loc Cert.PostIdeal.main_arg2)) (m ((c.tc : Thread Cert.PostIdeal.nD Cert.PostIdeal.τ).loc Cert.PostIdeal.main_arg3))
     (m ((c.tc : Thread Cert.PostIdeal.nD Cert.PostIdeal.τ).loc Cert.PostIdeal.main_arg4)) (m ((c.tc : Thread Cert.PostIdeal.nD Cert.PostIdeal.τ).loc Cert.PostIdeal.main_arg5))
     (m ((c.tc : Thread Cert.PostIdeal.nD Cert.PostIdeal.τ).loc Cert.PostIdeal.main_arg6)) (m ((c.tc : Thread Cert.PostIdeal.nD Cert.PostIdeal.τ).loc Cert.PostIdeal.main_arg7)), ?_, ?_⟩
  · exact (θ_run Cert.PostIdeal.defs _ _).mono (fun r h c => ⟨(h c).1.trans (Cert.PostIdeal.Value.final m c), (h c).2⟩) (Cert.PostIdeal.Value.run_blocks m g)
  · refine (θ_run Cert.PostReferenceIdeal.defs _ _).mono (fun r h c => ⟨(h c).1.trans ?_, (h c).2⟩) (Cert.PostReferenceIdeal.Value.run (F := Ideal) m' g')
    refine (Cert.PostReferenceIdeal.Value.res_eq m' c).trans ?_
    obtain ⟨a0, a1, a2, a3, a4, a5, a6, a7⟩ := hagree c
    rw [a0, a1, a2, a3, a4, a5, a6, a7]
    exact Cert.Agree.post _ _ _ _ _ _ _ _ (Cert.Agree.types_lt _ _ _ _ _ _ _ _ (hpre c))

/-! ## The last stage with the next layer's product -/

/-- The last stage with the next layer's product at the ideal instance runs, keeps its arguments and ends with every counter at zero. -/
theorem frame_nextIdeal : Cert.quiescent_NextIdeal := fun m ρ _ => Cert.NextIdeal.Gen.frame m ρ

/-- So does the call, bit for bit. -/
theorem frame_next : Cert.quiescent_Next := fun m ρ _ => Cert.Next.Gen.frame m ρ

/-- Its reference runs and keeps the arguments; it has no semaphore. -/
theorem frame_nextReference : Cert.quiescent_NextReferenceIdeal := fun m ρ _ =>
  (θ_run Cert.NextReferenceIdeal.defs _ _).mono (fun r h => ⟨fun c => (h c).2, sem_eq_zero_of_no_sems (by decide) r.2⟩)
    (Cert.NextReferenceIdeal.Value.run (F := Ideal) m ρ)

/-- With the node types in range as well. -/
theorem frame_nextIdeal_types : Cert.quiescent_NextIdeal_pre_types_in_range_next := fun m ρ _ => Cert.NextIdeal.Gen.frame m ρ

theorem frame_nextReference_types : Cert.quiescent_NextReferenceIdeal_pre_types_in_range_next := fun m ρ _ => frame_nextReference m ρ trivial

/-- From the same arguments, with every node type in range, the last stage with the next layer's product and its reference end with equal results. -/
theorem algebraic_next : Cert.algebraic_NextIdeal_NextReferenceIdeal_pre_types_in_range_next := by
  intro m g m' g' hpre hagree
  refine ⟨fun c => Cert.NextIdeal.Value.next (m ((c.tc : Thread Cert.NextIdeal.nD Cert.NextIdeal.τ).loc Cert.NextIdeal.main_arg0)) (m ((c.tc : Thread Cert.NextIdeal.nD Cert.NextIdeal.τ).loc Cert.NextIdeal.main_arg1))
     (m ((c.tc : Thread Cert.NextIdeal.nD Cert.NextIdeal.τ).loc Cert.NextIdeal.main_arg2)) (m ((c.tc : Thread Cert.NextIdeal.nD Cert.NextIdeal.τ).loc Cert.NextIdeal.main_arg3))
     (m ((c.tc : Thread Cert.NextIdeal.nD Cert.NextIdeal.τ).loc Cert.NextIdeal.main_arg4)) (m ((c.tc : Thread Cert.NextIdeal.nD Cert.NextIdeal.τ).loc Cert.NextIdeal.main_arg5))
     (m ((c.tc : Thread Cert.NextIdeal.nD Cert.NextIdeal.τ).loc Cert.NextIdeal.main_arg6)) (m ((c.tc : Thread Cert.NextIdeal.nD Cert.NextIdeal.τ).loc Cert.NextIdeal.main_arg7))
     (m ((c.tc : Thread Cert.NextIdeal.nD Cert.NextIdeal.τ).loc Cert.NextIdeal.main_arg8)), ?_, ?_⟩
  · exact (θ_run Cert.NextIdeal.defs _ _).mono (fun r h c => ⟨(h c).1.trans (Cert.NextIdeal.Value.final m c), (h c).2⟩) (Cert.NextIdeal.Value.run_blocks m g)
  · refine (θ_run Cert.NextReferenceIdeal.defs _ _).mono (fun r h c => ⟨(h c).1.trans ?_, (h c).2⟩) (Cert.NextReferenceIdeal.Value.run (F := Ideal) m' g')
    refine (Cert.NextReferenceIdeal.Value.res_eq m' c).trans ?_
    obtain ⟨a0, a1, a2, a3, a4, a5, a6, a7, a8⟩ := hagree c
    rw [a0, a1, a2, a3, a4, a5, a6, a7, a8]
    exact Cert.Agree.next _ _ _ _ _ _ _ _ _ (Cert.Agree.types_lt_next _ _ _ _ _ _ _ _ _ (hpre c))

theorem claim : Cert.Claim := ⟨Cert.Kernel.Gen.facts, Cert.KernelIdeal.Gen.facts, Cert.ReferenceIdeal.Gen.facts, Cert.Reference.Gen.facts,
  Cert.Node.Gen.facts, Cert.NodeIdeal.Gen.facts, Cert.NodeReferenceIdeal.Gen.facts,
  Cert.Edge.Gen.facts, Cert.EdgeIdeal.Gen.facts, Cert.EdgeReferenceIdeal.Gen.facts,
  Cert.Post.Gen.facts, Cert.PostIdeal.Gen.facts, Cert.PostReferenceIdeal.Gen.facts,
  Cert.Next.Gen.facts, Cert.NextIdeal.Gen.facts, Cert.NextReferenceIdeal.Gen.facts,
  Cert.Agree.facts, Cert.Agree.facts_next,
  frame_kernel, frame_kernelIdeal, frame_referenceIdeal, frame_reference,
  frame_node, frame_nodeIdeal, frame_nodeReference, frame_edge, frame_edgeIdeal, frame_edgeReference,
  frame_post, frame_postIdeal, frame_postIdeal_types, frame_postReference, frame_postReference_types,
  frame_next, frame_nextIdeal, frame_nextIdeal_types, frame_nextReference, frame_nextReference_types,
  trivial, bitexact, algebraic, trivial, algebraic_node, trivial, algebraic_edge, trivial, algebraic_post, trivial, algebraic_next⟩

end Cert.Proof

end
